-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 [hPre_expert_named : Cert.Pre_expert_named.Facts] (m : (ℓ : Loc Cert.Kernel2.nD Cert.Kernel2.τ Cert.Kernel2.sig) → Buf (Elt Bits) ℓ) : Prop :=
  ∀ c : Dev Cert.Kernel2.nD,
    (Cert.Pre_expert_named.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5))) = (fun _ => 1#1)

def Pre_Kernel2Ideal [hPre_expert_named : Cert.Pre_expert_named.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_expert_named.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_expert_named [hPre_expert_named : Cert.Pre_expert_named.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_expert_named.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] [hPre_expert_named : Cert.Pre_expert_named.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] [hPre_expert_named : Cert.Pre_expert_named.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Reference2Ideal_pre_expert_named [hReference2Ideal : Cert.Reference2Ideal.Facts] [hPre_expert_named : Cert.Pre_expert_named.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_expert_named m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] [hPre_expert_named : Cert.Pre_expert_named.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v10) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)) →
    ∃ (v0 : (c : Dev Cert.Kernel3Ideal.nD) → Buf (Elt Ideal) ((c.tc : Thread Cert.Kernel3Ideal.nD Cert.Kernel3Ideal.τ).loc Cert.Kernel3Ideal.main_v5_0)) (v1 : (c : Dev Cert.Kernel3Ideal.nD) → Buf (Elt Ideal) ((c.tc : Thread Cert.Kernel3Ideal.nD Cert.Kernel3Ideal.τ).loc Cert.Kernel3Ideal.main_v5_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5_0) = v0 c
          ∧ r.2.mem ((c.tc : Thread Cert.Kernel3Ideal.nD Cert.Kernel3Ideal.τ).loc Cert.Kernel3Ideal.main_v5_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v36) = v0 c
          ∧ r.2.mem ((c.tc : Thread Cert.Reference3Ideal.nD Cert.Reference3Ideal.τ).loc Cert.Reference3Ideal.main_v43) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)) →
    ∃ (v0 : (c : Dev Cert.Kernel4Ideal.nD) → Buf (Elt Ideal) ((c.tc : Thread Cert.Kernel4Ideal.nD Cert.Kernel4Ideal.τ).loc Cert.Kernel4Ideal.main_v5_0)) (v1 : (c : Dev Cert.Kernel4Ideal.nD) → Buf (Elt Ideal) ((c.tc : Thread Cert.Kernel4Ideal.nD Cert.Kernel4Ideal.τ).loc Cert.Kernel4Ideal.main_v5_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v5_0) = v0 c
          ∧ r.2.mem ((c.tc : Thread Cert.Kernel4Ideal.nD Cert.Kernel4Ideal.τ).loc Cert.Kernel4Ideal.main_v5_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v33) = v0 c
          ∧ r.2.mem ((c.tc : Thread Cert.Reference4Ideal.nD Cert.Reference4Ideal.τ).loc Cert.Reference4Ideal.main_v40) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v13_0)) (v1 : (c : Dev Cert.Kernel5Ideal.nD) → Buf (Elt Ideal) ((c.tc : Thread Cert.Kernel5Ideal.nD Cert.Kernel5Ideal.τ).loc Cert.Kernel5Ideal.main_v13_1)) (v2 : (c : Dev Cert.Kernel5Ideal.nD) → Buf (Elt Ideal) ((c.tc : Thread Cert.Kernel5Ideal.nD Cert.Kernel5Ideal.τ).loc Cert.Kernel5Ideal.main_v13_2)) (v3 : (c : Dev Cert.Kernel5Ideal.nD) → Buf (Elt Ideal) ((c.tc : Thread Cert.Kernel5Ideal.nD Cert.Kernel5Ideal.τ).loc Cert.Kernel5Ideal.main_v13_3)) (v4 : (c : Dev Cert.Kernel5Ideal.nD) → Buf (Elt Ideal) ((c.tc : Thread Cert.Kernel5Ideal.nD Cert.Kernel5Ideal.τ).loc Cert.Kernel5Ideal.main_v13_4)) (v5 : (c : Dev Cert.Kernel5Ideal.nD) → Buf (Elt Ideal) ((c.tc : Thread Cert.Kernel5Ideal.nD Cert.Kernel5Ideal.τ).loc Cert.Kernel5Ideal.main_v13_5)) (v6 : (c : Dev Cert.Kernel5Ideal.nD) → Buf (Elt Ideal) ((c.tc : Thread Cert.Kernel5Ideal.nD Cert.Kernel5Ideal.τ).loc Cert.Kernel5Ideal.main_v13_6)) (v7 : (c : Dev Cert.Kernel5Ideal.nD) → Buf (Elt Ideal) ((c.tc : Thread Cert.Kernel5Ideal.nD Cert.Kernel5Ideal.τ).loc Cert.Kernel5Ideal.main_v13_7)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v13_0) = v0 c
          ∧ r.2.mem ((c.tc : Thread Cert.Kernel5Ideal.nD Cert.Kernel5Ideal.τ).loc Cert.Kernel5Ideal.main_v13_1) = v1 c
          ∧ r.2.mem ((c.tc : Thread Cert.Kernel5Ideal.nD Cert.Kernel5Ideal.τ).loc Cert.Kernel5Ideal.main_v13_2) = v2 c
          ∧ r.2.mem ((c.tc : Thread Cert.Kernel5Ideal.nD Cert.Kernel5Ideal.τ).loc Cert.Kernel5Ideal.main_v13_3) = v3 c
          ∧ r.2.mem ((c.tc : Thread Cert.Kernel5Ideal.nD Cert.Kernel5Ideal.τ).loc Cert.Kernel5Ideal.main_v13_4) = v4 c
          ∧ r.2.mem ((c.tc : Thread Cert.Kernel5Ideal.nD Cert.Kernel5Ideal.τ).loc Cert.Kernel5Ideal.main_v13_5) = v5 c
          ∧ r.2.mem ((c.tc : Thread Cert.Kernel5Ideal.nD Cert.Kernel5Ideal.τ).loc Cert.Kernel5Ideal.main_v13_6) = v6 c
          ∧ r.2.mem ((c.tc : Thread Cert.Kernel5Ideal.nD Cert.Kernel5Ideal.τ).loc Cert.Kernel5Ideal.main_v13_7) = v7 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v12) = v0 c
          ∧ r.2.mem ((c.tc : Thread Cert.Reference5Ideal.nD Cert.Reference5Ideal.τ).loc Cert.Reference5Ideal.main_v13) = v1 c
          ∧ r.2.mem ((c.tc : Thread Cert.Reference5Ideal.nD Cert.Reference5Ideal.τ).loc Cert.Reference5Ideal.main_v15) = v2 c
          ∧ r.2.mem ((c.tc : Thread Cert.Reference5Ideal.nD Cert.Reference5Ideal.τ).loc Cert.Reference5Ideal.main_v5) = v3 c
          ∧ r.2.mem ((c.tc : Thread Cert.Reference5Ideal.nD Cert.Reference5Ideal.τ).loc Cert.Reference5Ideal.main_v6) = v4 c
          ∧ r.2.mem ((c.tc : Thread Cert.Reference5Ideal.nD Cert.Reference5Ideal.τ).loc Cert.Reference5Ideal.main_v7) = v5 c
          ∧ r.2.mem ((c.tc : Thread Cert.Reference5Ideal.nD Cert.Reference5Ideal.τ).loc Cert.Reference5Ideal.main_v8) = v6 c
          ∧ r.2.mem ((c.tc : Thread Cert.Reference5Ideal.nD Cert.Reference5Ideal.τ).loc Cert.Reference5Ideal.main_v16) = v7 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_expert_named : Cert.Pre_expert_named.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2) (hPre_expert_named := hPre_expert_named)
    ∧ quiescent_Kernel2Ideal (hKernel2Ideal := hKernel2Ideal) (hPre_expert_named := hPre_expert_named)
    ∧ quiescent_Reference2Ideal (hReference2Ideal := hReference2Ideal)
    ∧ quiescent_Reference2Ideal_pre_expert_named (hReference2Ideal := hReference2Ideal) (hPre_expert_named := hPre_expert_named)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal) (hPre_expert_named := hPre_expert_named)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Pre_expert_named.lean ====
abbrev S42240x1024 : Shape := ⟨2, ![42240, 1024]⟩
abbrev S40 : Shape := ⟨1, ![40]⟩
abbrev S1 : Shape := ⟨1, ![1]⟩
abbrev S2x8x1024x3584 : Shape := ⟨4, ![2, 8, 1024, 3584]⟩
abbrev S2x8x3584x1024 : Shape := ⟨4, ![2, 8, 3584, 1024]⟩
abbrev S_ : Shape := ⟨0, ![]⟩

class Facts : Prop where
  bcast_S_S40 : S_.BroadcastsInDim S40 (![] : Fin 0 → Fin S40.rank)

variable [Facts]

def fn {F : FTy → Type} [FloatOps F] (main_arg0 : FVec F S42240x1024 .f32) (main_arg1 : IVec S40 32) (main_arg2 : IVec S1 32) (main_arg3 : FVec F S2x8x1024x3584 .f32) (main_arg4 : FVec F S2x8x1024x3584 .f32) (main_arg5 : FVec F S2x8x3584x1024 .f32) : IVec S40 1 :=
  let main_c : IVec S_ 32 := constantI S_ 32 0#32
  let main_v0 : IVec S40 32 := broadcastInDim S40 ![] bcast_S_S40 main_c
  let main_v1 : IVec S40 1 := cmpi .sge main_arg1 main_v0
  let main_c_0 : IVec S_ 32 := constantI S_ 32 15#32
  let main_v2 : IVec S40 32 := broadcastInDim S40 ![] bcast_S_S40 main_c_0
  let main_v3 : IVec S40 1 := cmpi .sle main_arg1 main_v2
  let main_v4 : IVec S40 1 := andi main_v1 main_v3
  main_v4
-- ==== Kernel.lean ====
abbrev S4x4096x256 : Shape := ⟨3, ![4, 4096, 256]⟩
abbrev S4x4096x512 : Shape := ⟨3, ![4, 4096, 512]⟩
abbrev S4x4096x16 : Shape := ⟨3, ![4, 4096, 16]⟩
abbrev S16x256 : Shape := ⟨2, ![16, 256]⟩
abbrev S256 : Shape := ⟨1, ![256]⟩
abbrev S512 : Shape := ⟨1, ![512]⟩
abbrev S_ : Shape := ⟨0, ![]⟩
abbrev S4x4096x128 : Shape := ⟨3, ![4, 4096, 128]⟩
abbrev S128x256 : Shape := ⟨2, ![128, 256]⟩
abbrev S1x256 : Shape := ⟨2, ![1, 256]⟩
abbrev S1x512 : Shape := ⟨2, ![1, 512]⟩
abbrev S4x64x256 : Shape := ⟨3, ![4, 64, 256]⟩
abbrev S4x64x512 : Shape := ⟨3, ![4, 64, 512]⟩
abbrev S4x64x128 : Shape := ⟨3, ![4, 64, 128]⟩
abbrev S4x4x128x64 : Shape := ⟨4, ![4, 4, 128, 64]⟩
abbrev S64x64 : Shape := ⟨2, ![64, 64]⟩
abbrev S1x64x128 : Shape := ⟨3, ![1, 64, 128]⟩
abbrev S64x128 : Shape := ⟨2, ![64, 128]⟩
abbrev S64x256 : Shape := ⟨2, ![64, 256]⟩
abbrev S1x64x256 : Shape := ⟨3, ![1, 64, 256]⟩
abbrev S1x64x512 : Shape := ⟨3, ![1, 64, 512]⟩
abbrev S64x512 : Shape := ⟨2, ![64, 512]⟩
abbrev S1x1x128x64 : Shape := ⟨4, ![1, 1, 128, 64]⟩
abbrev S128x64 : Shape := ⟨2, ![128, 64]⟩
abbrev S1x64 : Shape := ⟨2, ![1, 64]⟩
abbrev S64 : Shape := ⟨1, ![64]⟩
abbrev S64x1 : Shape := ⟨2, ![64, 1]⟩
abbrev S1x128 : Shape := ⟨2, ![1, 128]⟩

abbrev nBuf : Space → Nat
  | .hbm => 17
  | .vmem => 16
  | .smem => 0
  | _ => 0

abbrev bufTy : (tb : Table) → Fin (tcTables nBuf tb) → BufTy
  | .hbm, ⟨0, _⟩ => ⟨S4x4096x256, .f32⟩
  | .hbm, ⟨1, _⟩ => ⟨S4x4096x256, .f32⟩
  | .hbm, ⟨2, _⟩ => ⟨S4x4096x512, .f32⟩
  | .hbm, ⟨3, _⟩ => ⟨S4x4096x512, .f32⟩
  | .hbm, ⟨4, _⟩ => ⟨S4x4096x16, .f32⟩
  | .hbm, ⟨5, _⟩ => ⟨S16x256, .f32⟩
  | .hbm, ⟨6, _⟩ => ⟨S256, .f32⟩
  | .hbm, ⟨7, _⟩ => ⟨S512, .f32⟩
  | .hbm, ⟨8, _⟩ => ⟨S_, .i32⟩
  | .hbm, ⟨9, _⟩ => ⟨S_, .f32⟩
  | .hbm, ⟨10, _⟩ => ⟨S4x4096x128, .f32⟩
  | .hbm, ⟨11, _⟩ => ⟨S_, .i32⟩
  | .hbm, ⟨12, _⟩ => ⟨S_, .f32⟩
  | .hbm, ⟨13, _⟩ => ⟨S128x256, .f32⟩
  | .hbm, ⟨14, _⟩ => ⟨S1x256, .f32⟩
  | .hbm, ⟨15, _⟩ => ⟨S1x512, .f32⟩
  | .hbm, ⟨16, _⟩ => ⟨S4x4096x512, .bf16⟩
  | .local _ .vmem, ⟨0, _⟩ => ⟨S4x64x256, .f32⟩
  | .local _ .vmem, ⟨1, _⟩ => ⟨S4x64x256, .f32⟩
  | .local _ .vmem, ⟨2, _⟩ => ⟨S4x64x256, .f32⟩
  | .local _ .vmem, ⟨3, _⟩ => ⟨S4x64x256, .f32⟩
  | .local _ .vmem, ⟨4, _⟩ => ⟨S4x64x512, .f32⟩
  | .local _ .vmem, ⟨5, _⟩ => ⟨S4x64x512, .f32⟩
  | .local _ .vmem, ⟨6, _⟩ => ⟨S4x64x512, .f32⟩
  | .local _ .vmem, ⟨7, _⟩ => ⟨S4x64x512, .f32⟩
  | .local _ .vmem, ⟨8, _⟩ => ⟨S4x64x128, .f32⟩
  | .local _ .vmem, ⟨9, _⟩ => ⟨S4x64x128, .f32⟩
  | .local _ .vmem, ⟨10, _⟩ => ⟨S128x256, .f32⟩
  | .local _ .vmem, ⟨11, _⟩ => ⟨S1x256, .f32⟩
  | .local _ .vmem, ⟨12, _⟩ => ⟨S1x512, .f32⟩
  | .local _ .vmem, ⟨13, _⟩ => ⟨S4x64x512, .bf16⟩
  | .local _ .vmem, ⟨14, _⟩ => ⟨S4x64x512, .bf16⟩
  | .local _ .vmem, ⟨15, _⟩ => ⟨S4x4x128x64, .f32⟩
  | _, _ => ⟨S4x4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_call0_v0 : Ref sig .tc := ⟨.hbm, 9, rfl⟩
abbrev main_v0 : Ref sig .tc := ⟨.hbm, 10, rfl⟩
abbrev main_c_0 : Ref sig .tc := ⟨.hbm, 11, rfl⟩
abbrev main_call1_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S4x64x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x64x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x64x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x64x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x64x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S128x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S4x64x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceIdeal.lean ====
abbrev S4x4096x256 : Shape := ⟨3, ![4, 4096, 256]⟩
abbrev S4x4096x512 : Shape := ⟨3, ![4, 4096, 512]⟩
abbrev S4x4096x16 : Shape := ⟨3, ![4, 4096, 16]⟩
abbrev S16x256 : Shape := ⟨2, ![16, 256]⟩
abbrev S256 : Shape := ⟨1, ![256]⟩
abbrev S512 : Shape := ⟨1, ![512]⟩
abbrev S1x1x256 : Shape := ⟨3, ![1, 1, 256]⟩
abbrev S_ : Shape := ⟨0, ![]⟩
abbrev S4x4096x4x64 : Shape := ⟨4, ![4, 4096, 4, 64]⟩
abbrev S4x4096x4x128 : Shape := ⟨4, ![4, 4096, 4, 128]⟩
abbrev S4x64x64x4x64 : Shape := ⟨5, ![4, 64, 64, 4, 64]⟩
abbrev S64x4x4x64x64 : Shape := ⟨5, ![64, 4, 4, 64, 64]⟩
abbrev S4x64x64x4x128 : Shape := ⟨5, ![4, 64, 64, 4, 128]⟩
abbrev S64x4x4x64x128 : Shape := ⟨5, ![64, 4, 4, 64, 128]⟩
abbrev S64x64 : Shape := ⟨2, ![64, 64]⟩
abbrev S4x4x64x128 : Shape := ⟨4, ![4, 4, 64, 128]⟩
abbrev S1x4x4x64x64 : Shape := ⟨5, ![1, 4, 4, 64, 64]⟩
abbrev S4x4x64x64 : Shape := ⟨4, ![4, 4, 64, 64]⟩
abbrev S1x4x4x64x128 : Shape := ⟨5, ![1, 4, 4, 64, 128]⟩
abbrev S4x4x1x64 : Shape := ⟨4, ![4, 4, 1, 64]⟩
abbrev S4x4x64 : Shape := ⟨3, ![4, 4, 64]⟩
abbrev S4x4x64x1 : Shape := ⟨4, ![4, 4, 64, 1]⟩
abbrev S4x4096x4 : Shape := ⟨3, ![4, 4096, 4]⟩
abbrev S4x4096x4x1 : Shape := ⟨4, ![4, 4096, 4, 1]⟩
abbrev S1x1x512 : Shape := ⟨3, ![1, 1, 512]⟩

abbrev nBuf : Space → Nat
  | .hbm => 163
  | .vmem => 0
  | .smem => 0
  | _ => 0

abbrev hbmTy0_0 (i : Nat) : BufTy := match i % 128 with
  | 0 => ⟨S4x4096x256, .f32⟩
  | 1 => ⟨S4x4096x256, .f32⟩
  | 2 => ⟨S4x4096x512, .f32⟩
  | 3 => ⟨S4x4096x512, .f32⟩
  | 4 => ⟨S4x4096x16, .f32⟩
  | 5 => ⟨S16x256, .f32⟩
  | 6 => ⟨S256, .f32⟩
  | 7 => ⟨S512, .f32⟩
  | 8 => ⟨S4x4096x256, .f32⟩
  | 9 => ⟨S1x1x256, .f32⟩
  | 10 => ⟨S4x4096x256, .f32⟩
  | 11 => ⟨S4x4096x256, .f32⟩
  | 12 => ⟨S4x4096x256, .f32⟩
  | 13 => ⟨S_, .f32⟩
  | 14 => ⟨S4x4096x256, .f32⟩
  | 15 => ⟨S4x4096x256, .f32⟩
  | 16 => ⟨S4x4096x256, .f32⟩
  | 17 => ⟨S4x4096x256, .f32⟩
  | 18 => ⟨S4x4096x256, .i1⟩
  | 19 => ⟨S4x4096x256, .f32⟩
  | 20 => ⟨S4x4096x256, .f32⟩
  | 21 => ⟨S4x4096x256, .f32⟩
  | 22 => ⟨S4x4096x256, .f32⟩
  | 23 => ⟨S4x4096x256, .f32⟩
  | 24 => ⟨S4x4096x256, .f32⟩
  | 25 => ⟨S4x4096x256, .f32⟩
  | 26 => ⟨S4x4096x256, .f32⟩
  | 27 => ⟨S4x4096x256, .f32⟩
  | 28 => ⟨S_, .f32⟩
  | 29 => ⟨S4x4096x256, .f32⟩
  | 30 => ⟨S4x4096x256, .f32⟩
  | 31 => ⟨S4x4096x4x64, .f32⟩
  | 32 => ⟨S4x4096x4x64, .f32⟩
  | 33 => ⟨S4x4096x4x128, .f32⟩
  | 34 => ⟨S4x4096x4x64, .f32⟩
  | 35 => ⟨S4x64x64x4x64, .f32⟩
  | 36 => ⟨S64x4x4x64x64, .f32⟩
  | 37 => ⟨S_, .f32⟩
  | 38 => ⟨S64x4x4x64x64, .f32⟩
  | 39 => ⟨S64x4x4x64x64, .f32⟩
  | 40 => ⟨S4x64x64x4x64, .f32⟩
  | 41 => ⟨S64x4x4x64x64, .f32⟩
  | 42 => ⟨S4x64x64x4x128, .f32⟩
  | 43 => ⟨S64x4x4x64x128, .f32⟩
  | 44 => ⟨S4x64x64x4x64, .f32⟩
  | 45 => ⟨S64x4x4x64x64, .f32⟩
  | 46 => ⟨S_, .f32⟩
  | 47 => ⟨S_, .f32⟩
  | 48 => ⟨S64x4x4x64x64, .f32⟩
  | 49 => ⟨S_, .i1⟩
  | 50 => ⟨S64x64, .i1⟩
  | 51 => ⟨S64x64, .i32⟩
  | 52 => ⟨S_, .i32⟩
  | 53 => ⟨S64x64, .i32⟩
  | 54 => ⟨S64x64, .i32⟩
  | 55 => ⟨S64x64, .i32⟩
  | 56 => ⟨S64x64, .i1⟩
  | 57 => ⟨S_, .i1⟩
  | 58 => ⟨S64x64, .i1⟩
  | 59 => ⟨S64x64, .i1⟩
  | 60 => ⟨S_, .f32⟩
  | 61 => ⟨S4x4x64x128, .f32⟩
  | 62 => ⟨S_, .f32⟩
  | 63 => ⟨S64x4x4x64x128, .f32⟩
  | 64 => ⟨S_, .i32⟩
  | 65 => ⟨S64x4x4x64x64, .f32⟩
  | 66 => ⟨S64x4x4x64x64, .f32⟩
  | 67 => ⟨S64x4x4x64x128, .f32⟩
  | 68 => ⟨S64x4x4x64x64, .f32⟩
  | 69 => ⟨S64x64, .i1⟩
  | 70 => ⟨S_, .i32⟩
  | 71 => ⟨S4x4x64x128, .f32⟩
  | 72 => ⟨S64x4x4x64x128, .f32⟩
  | 73 => ⟨S_, .i32⟩
  | 74 => ⟨S_, .i1⟩
  | 75 => ⟨S_, .i32⟩
  | 76 => ⟨S_, .i32⟩
  | 77 => ⟨S_, .i32⟩
  | 78 => ⟨S_, .i32⟩
  | 79 => ⟨S1x4x4x64x64, .f32⟩
  | 80 => ⟨S4x4x64x64, .f32⟩
  | 81 => ⟨S_, .i32⟩
  | 82 => ⟨S_, .i32⟩
  | 83 => ⟨S_, .i32⟩
  | 84 => ⟨S_, .i32⟩
  | 85 => ⟨S1x4x4x64x64, .f32⟩
  | 86 => ⟨S4x4x64x64, .f32⟩
  | 87 => ⟨S_, .i32⟩
  | 88 => ⟨S_, .i32⟩
  | 89 => ⟨S_, .i32⟩
  | 90 => ⟨S_, .i32⟩
  | 91 => ⟨S1x4x4x64x128, .f32⟩
  | 92 => ⟨S4x4x64x128, .f32⟩
  | 93 => ⟨S_, .i32⟩
  | 94 => ⟨S_, .i32⟩
  | 95 => ⟨S_, .i32⟩
  | 96 => ⟨S_, .i32⟩
  | 97 => ⟨S1x4x4x64x64, .f32⟩
  | 98 => ⟨S4x4x64x64, .f32⟩
  | 99 => ⟨S4x4x1x64, .f32⟩
  | 100 => ⟨S4x4x64x64, .f32⟩
  | 101 => ⟨S4x4x64x64, .f32⟩
  | 102 => ⟨S4x4x64x64, .f32⟩
  | 103 => ⟨S4x4x64x64, .f32⟩
  | 104 => ⟨S4x4x64x64, .f32⟩
  | 105 => ⟨S4x4x64x64, .f32⟩
  | 106 => ⟨S_, .f32⟩
  | 107 => ⟨S_, .f32⟩
  | 108 => ⟨S4x4x64x64, .i1⟩
  | 109 => ⟨S4x4x64x64, .f32⟩
  | 110 => ⟨S4x4x64x64, .f32⟩
  | 111 => ⟨S4x4x64x128, .f32⟩
  | 112 => ⟨S4x4x64x128, .f32⟩
  | 113 => ⟨S4x4x64x128, .f32⟩
  | 114 => ⟨S4x4x64, .f32⟩
  | 115 => ⟨S4x4x64x1, .f32⟩
  | 116 => ⟨S4x4x64x1, .f32⟩
  | 117 => ⟨S4x4x64x128, .f32⟩
  | 118 => ⟨S4x4x64x128, .f32⟩
  | 119 => ⟨S4x4x64x64, .f32⟩
  | 120 => ⟨S4x4x64x64, .f32⟩
  | 121 => ⟨S4x4x64x64, .f32⟩
  | 122 => ⟨S4x4x64x64, .f32⟩
  | 123 => ⟨S4x4x64x128, .f32⟩
  | 124 => ⟨S4x4x64x128, .f32⟩
  | 125 => ⟨S1x4x4x64x128, .f32⟩
  | 126 => ⟨S_, .i32⟩
  | 127 => ⟨S_, .i32⟩
  | _ => ⟨S4x4096x256, .f32⟩

abbrev hbmTy0_1 (i : Nat) : BufTy := match i % 128 with
  | 0 => ⟨S_, .i32⟩
  | 1 => ⟨S_, .i32⟩
  | 2 => ⟨S64x4x4x64x128, .f32⟩
  | 3 => ⟨S_, .i32⟩
  | 4 => ⟨S_, .i32⟩
  | 5 => ⟨S4x64x64x4x128, .f32⟩
  | 6 => ⟨S4x4096x4x128, .f32⟩
  | 7 => ⟨S4x4096x4x128, .f32⟩
  | 8 => ⟨S_, .f32⟩
  | 9 => ⟨S4x4096x4, .f32⟩
  | 10 => ⟨S4x4096x4x1, .f32⟩
  | 11 => ⟨S_, .f32⟩
  | 12 => ⟨S4x4096x4x1, .f32⟩
  | 13 => ⟨S4x4096x4x1, .f32⟩
  | 14 => ⟨S_, .f32⟩
  | 15 => ⟨S4x4096x4x1, .f32⟩
  | 16 => ⟨S4x4096x4x1, .f32⟩
  | 17 => ⟨S4x4096x4x1, .f32⟩
  | 18 => ⟨S4x4096x4x128, .f32⟩
  | 19 => ⟨S4x4096x4x128, .f32⟩
  | 20 => ⟨S4x4096x512, .f32⟩
  | 21 => ⟨S1x1x512, .f32⟩
  | 22 => ⟨S4x4096x512, .f32⟩
  | 23 => ⟨S4x4096x512, .f32⟩
  | 24 => ⟨S4x4096x512, .f32⟩
  | 25 => ⟨S4x4096x512, .f32⟩
  | 26 => ⟨S_, .f32⟩
  | 27 => ⟨S4x4096x512, .f32⟩
  | 28 => ⟨S4x4096x512, .f32⟩
  | 29 => ⟨S_, .f32⟩
  | 30 => ⟨S4x4096x512, .f32⟩
  | 31 => ⟨S4x4096x512, .f32⟩
  | 32 => ⟨S4x4096x512, .f32⟩
  | 33 => ⟨S4x4096x512, .f32⟩
  | 34 => ⟨S4x4096x512, .bf16⟩
  | _ => ⟨S4x4096x256, .f32⟩

abbrev hbmTy (i : Nat) : BufTy := match i / 128 with
  | 0 => hbmTy0_0 i
  | 1 => hbmTy0_1 i
  | _ => ⟨S4x4096x256, .f32⟩

abbrev bufTy : (tb : Table) → Fin (tcTables nBuf tb) → BufTy
  | .hbm, ⟨i, _⟩ => hbmTy i
  | _, _ => ⟨S4x4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_call0_v0 : Ref sig .tc := ⟨.hbm, 12, rfl⟩
abbrev main_call0_call0_cst : Ref sig .tc := ⟨.hbm, 13, rfl⟩
abbrev main_call0_call0_v0 : Ref sig .tc := ⟨.hbm, 14, rfl⟩
abbrev main_call0_call0_v1 : Ref sig .tc := ⟨.hbm, 15, rfl⟩
abbrev main_call0_call0_v2 : Ref sig .tc := ⟨.hbm, 16, rfl⟩
abbrev main_call0_call0_v3 : Ref sig .tc := ⟨.hbm, 17, rfl⟩
abbrev main_call0_call0_v4 : Ref sig .tc := ⟨.hbm, 18, rfl⟩
abbrev main_call0_call0_v5 : Ref sig .tc := ⟨.hbm, 19, rfl⟩
abbrev main_call0_call0_v6 : Ref sig .tc := ⟨.hbm, 20, rfl⟩
abbrev main_call0_call0_v7 : Ref sig .tc := ⟨.hbm, 21, rfl⟩
abbrev main_call0_call0_v8 : Ref sig .tc := ⟨.hbm, 22, rfl⟩
abbrev main_call0_call0_v9 : Ref sig .tc := ⟨.hbm, 23, rfl⟩
abbrev main_call0_call0_v10 : Ref sig .tc := ⟨.hbm, 24, rfl⟩
abbrev main_call0_call0_v11 : Ref sig .tc := ⟨.hbm, 25, rfl⟩
abbrev main_call0_v1 : Ref sig .tc := ⟨.hbm, 26, rfl⟩
abbrev main_v4 : Ref sig .tc := ⟨.hbm, 27, rfl⟩
abbrev main_cst : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_cst_0 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_call1_call0_cst : Ref sig .tc := ⟨.hbm, 46, rfl⟩
abbrev main_call1_call0_v0 : Ref sig .tc := ⟨.hbm, 47, rfl⟩
abbrev main_v21 : Ref sig .tc := ⟨.hbm, 48, rfl⟩
abbrev main_c : Ref sig .tc := ⟨.hbm, 49, rfl⟩
abbrev main_v22 : Ref sig .tc := ⟨.hbm, 50, rfl⟩
abbrev main_call2_v0 : Ref sig .tc := ⟨.hbm, 51, rfl⟩
abbrev main_call2_c : Ref sig .tc := ⟨.hbm, 52, rfl⟩
abbrev main_call2_v1 : Ref sig .tc := ⟨.hbm, 53, rfl⟩
abbrev main_call2_v2 : Ref sig .tc := ⟨.hbm, 54, rfl⟩
abbrev main_call2_v3 : Ref sig .tc := ⟨.hbm, 55, rfl⟩
abbrev main_call2_v4 : Ref sig .tc := ⟨.hbm, 56, rfl⟩
abbrev main_call2_c_0 : Ref sig .tc := ⟨.hbm, 57, rfl⟩
abbrev main_call2_v5 : Ref sig .tc := ⟨.hbm, 58, rfl⟩
abbrev main_v23 : Ref sig .tc := ⟨.hbm, 59, rfl⟩
abbrev main_cst_1 : Ref sig .tc := ⟨.hbm, 60, rfl⟩
abbrev main_v24 : Ref sig .tc := ⟨.hbm, 61, rfl⟩
abbrev main_cst_2 : Ref sig .tc := ⟨.hbm, 62, rfl⟩
abbrev main_v25 : Ref sig .tc := ⟨.hbm, 63, rfl⟩
abbrev main_c_3 : Ref sig .tc := ⟨.hbm, 64, rfl⟩
abbrev main_v26_0 : Ref sig .tc := ⟨.hbm, 65, rfl⟩
abbrev main_v26_1 : Ref sig .tc := ⟨.hbm, 66, rfl⟩
abbrev main_v26_2 : Ref sig .tc := ⟨.hbm, 67, rfl⟩
abbrev main_v26_3 : Ref sig .tc := ⟨.hbm, 68, rfl⟩
abbrev main_v26_4 : Ref sig .tc := ⟨.hbm, 69, rfl⟩
abbrev main_v26_5 : Ref sig .tc := ⟨.hbm, 70, rfl⟩
abbrev main_v26_6 : Ref sig .tc := ⟨.hbm, 71, rfl⟩
abbrev main_v26_7 : Ref sig .tc := ⟨.hbm, 72, rfl⟩
abbrev main_while0c_c_14 : Ref sig .tc := ⟨.hbm, 73, rfl⟩
abbrev main_while0c_v46 : Ref sig .tc := ⟨.hbm, 74, rfl⟩
abbrev main_while0b_call3_c : Ref sig .tc := ⟨.hbm, 75, rfl⟩
abbrev main_while0b_call3_c_0 : Ref sig .tc := ⟨.hbm, 76, rfl⟩
abbrev main_while0b_call3_c_1 : Ref sig .tc := ⟨.hbm, 77, rfl⟩
abbrev main_while0b_call3_c_2 : Ref sig .tc := ⟨.hbm, 78, rfl⟩
abbrev main_while0b_call3_v0 : Ref sig .tc := ⟨.hbm, 79, rfl⟩
abbrev main_while0b_v46 : Ref sig .tc := ⟨.hbm, 80, rfl⟩
abbrev main_while0b_call4_c : Ref sig .tc := ⟨.hbm, 81, rfl⟩
abbrev main_while0b_call4_c_0 : Ref sig .tc := ⟨.hbm, 82, rfl⟩
abbrev main_while0b_call4_c_1 : Ref sig .tc := ⟨.hbm, 83, rfl⟩
abbrev main_while0b_call4_c_2 : Ref sig .tc := ⟨.hbm, 84, rfl⟩
abbrev main_while0b_call4_v0 : Ref sig .tc := ⟨.hbm, 85, rfl⟩
abbrev main_while0b_v47 : Ref sig .tc := ⟨.hbm, 86, rfl⟩
abbrev main_while0b_call5_c : Ref sig .tc := ⟨.hbm, 87, rfl⟩
abbrev main_while0b_call5_c_0 : Ref sig .tc := ⟨.hbm, 88, rfl⟩
abbrev main_while0b_call5_c_1 : Ref sig .tc := ⟨.hbm, 89, rfl⟩
abbrev main_while0b_call5_c_2 : Ref sig .tc := ⟨.hbm, 90, rfl⟩
abbrev main_while0b_call5_v0 : Ref sig .tc := ⟨.hbm, 91, rfl⟩
abbrev main_while0b_v48 : Ref sig .tc := ⟨.hbm, 92, rfl⟩
abbrev main_while0b_call6_c : Ref sig .tc := ⟨.hbm, 93, rfl⟩
abbrev main_while0b_call6_c_0 : Ref sig .tc := ⟨.hbm, 94, rfl⟩
abbrev main_while0b_call6_c_1 : Ref sig .tc := ⟨.hbm, 95, rfl⟩
abbrev main_while0b_call6_c_2 : Ref sig .tc := ⟨.hbm, 96, rfl⟩
abbrev main_while0b_call6_v0 : Ref sig .tc := ⟨.hbm, 97, rfl⟩
abbrev main_while0b_v49 : Ref sig .tc := ⟨.hbm, 98, rfl⟩
abbrev main_while0b_v50 : Ref sig .tc := ⟨.hbm, 99, rfl⟩
abbrev main_while0b_v51 : Ref sig .tc := ⟨.hbm, 100, rfl⟩
abbrev main_while0b_v52 : Ref sig .tc := ⟨.hbm, 101, rfl⟩
abbrev main_while0b_v53 : Ref sig .tc := ⟨.hbm, 102, rfl⟩
abbrev main_while0b_v54 : Ref sig .tc := ⟨.hbm, 103, rfl⟩
abbrev main_while0b_v55 : Ref sig .tc := ⟨.hbm, 104, rfl⟩
abbrev main_while0b_v56 : Ref sig .tc := ⟨.hbm, 105, rfl⟩
abbrev main_while0b_cst_14 : Ref sig .tc := ⟨.hbm, 106, rfl⟩
abbrev main_while0b_call7_v0 : Ref sig .tc := ⟨.hbm, 107, rfl⟩
abbrev main_while0b_call7_v1 : Ref sig .tc := ⟨.hbm, 108, rfl⟩
abbrev main_while0b_call7_v2 : Ref sig .tc := ⟨.hbm, 109, rfl⟩
abbrev main_while0b_v57 : Ref sig .tc := ⟨.hbm, 110, rfl⟩
abbrev main_while0b_v58 : Ref sig .tc := ⟨.hbm, 111, rfl⟩
abbrev main_while0b_v59 : Ref sig .tc := ⟨.hbm, 112, rfl⟩
abbrev main_while0b_v60 : Ref sig .tc := ⟨.hbm, 113, rfl⟩
abbrev main_while0b_v61 : Ref sig .tc := ⟨.hbm, 114, rfl⟩
abbrev main_while0b_v62 : Ref sig .tc := ⟨.hbm, 115, rfl⟩
abbrev main_while0b_v63 : Ref sig .tc := ⟨.hbm, 116, rfl⟩
abbrev main_while0b_v64 : Ref sig .tc := ⟨.hbm, 117, rfl⟩
abbrev main_while0b_v65 : Ref sig .tc := ⟨.hbm, 118, rfl⟩
abbrev main_while0b_v66 : Ref sig .tc := ⟨.hbm, 119, rfl⟩
abbrev main_while0b_v67 : Ref sig .tc := ⟨.hbm, 120, rfl⟩
abbrev main_while0b_v68 : Ref sig .tc := ⟨.hbm, 121, rfl⟩
abbrev main_while0b_v69 : Ref sig .tc := ⟨.hbm, 122, rfl⟩
abbrev main_while0b_v70 : Ref sig .tc := ⟨.hbm, 123, rfl⟩
abbrev main_while0b_v71 : Ref sig .tc := ⟨.hbm, 124, rfl⟩
abbrev main_while0b_call8_v0 : Ref sig .tc := ⟨.hbm, 125, rfl⟩
abbrev main_while0b_call8_c : Ref sig .tc := ⟨.hbm, 126, rfl⟩
abbrev main_while0b_call8_c_0 : Ref sig .tc := ⟨.hbm, 127, rfl⟩
abbrev main_while0b_call8_c_1 : Ref sig .tc := ⟨.hbm, 128, rfl⟩
abbrev main_while0b_call8_c_2 : Ref sig .tc := ⟨.hbm, 129, rfl⟩
abbrev main_while0b_v72 : Ref sig .tc := ⟨.hbm, 130, rfl⟩
abbrev main_while0b_c_15 : Ref sig .tc := ⟨.hbm, 131, rfl⟩
abbrev main_while0b_v73 : Ref sig .tc := ⟨.hbm, 132, rfl⟩
abbrev main_v27 : Ref sig .tc := ⟨.hbm, 133, rfl⟩
abbrev main_v28 : Ref sig .tc := ⟨.hbm, 134, rfl⟩
abbrev main_v29 : Ref sig .tc := ⟨.hbm, 135, rfl⟩
abbrev main_cst_4 : Ref sig .tc := ⟨.hbm, 136, rfl⟩
abbrev main_v30 : Ref sig .tc := ⟨.hbm, 137, rfl⟩
abbrev main_v31 : Ref sig .tc := ⟨.hbm, 138, rfl⟩
abbrev main_cst_5 : Ref sig .tc := ⟨.hbm, 139, rfl⟩
abbrev main_v32 : Ref sig .tc := ⟨.hbm, 140, rfl⟩
abbrev main_v33 : Ref sig .tc := ⟨.hbm, 141, rfl⟩
abbrev main_cst_6 : Ref sig .tc := ⟨.hbm, 142, rfl⟩
abbrev main_v34 : Ref sig .tc := ⟨.hbm, 143, rfl⟩
abbrev main_v35 : Ref sig .tc := ⟨.hbm, 144, rfl⟩
abbrev main_v36 : Ref sig .tc := ⟨.hbm, 145, rfl⟩
abbrev main_v37 : Ref sig .tc := ⟨.hbm, 146, rfl⟩
abbrev main_v38 : Ref sig .tc := ⟨.hbm, 147, rfl⟩
abbrev main_v39 : Ref sig .tc := ⟨.hbm, 148, rfl⟩
abbrev main_v40 : Ref sig .tc := ⟨.hbm, 149, rfl⟩
abbrev main_v41 : Ref sig .tc := ⟨.hbm, 150, rfl⟩
abbrev main_v42 : Ref sig .tc := ⟨.hbm, 151, rfl⟩
abbrev main_call9_v0 : Ref sig .tc := ⟨.hbm, 152, rfl⟩
abbrev main_call9_v1 : Ref sig .tc := ⟨.hbm, 153, rfl⟩
abbrev main_call9_cst : Ref sig .tc := ⟨.hbm, 154, rfl⟩
abbrev main_call9_v2 : Ref sig .tc := ⟨.hbm, 155, rfl⟩
abbrev main_call9_v3 : Ref sig .tc := ⟨.hbm, 156, rfl⟩
abbrev main_call9_cst_0 : Ref sig .tc := ⟨.hbm, 157, rfl⟩
abbrev main_call9_v4 : Ref sig .tc := ⟨.hbm, 158, rfl⟩
abbrev main_call9_v5 : Ref sig .tc := ⟨.hbm, 159, rfl⟩
abbrev main_v43 : Ref sig .tc := ⟨.hbm, 160, rfl⟩
abbrev main_v44 : Ref sig .tc := ⟨.hbm, 161, rfl⟩
abbrev main_v45 : Ref sig .tc := ⟨.hbm, 162, rfl⟩

abbrev nD : Nat := 1
abbrev τ : Topo := Topo.v7x

variable {F : FTy → Type} [FloatOps F]

abbrev main_while0_count : Scf.Loop 32 := ⟨0#32, 64#32, 1#32⟩
-- ==== Kernel2.lean ====
abbrev S42240x1024 : Shape := ⟨2, ![42240, 1024]⟩
abbrev S40 : Shape := ⟨1, ![40]⟩
abbrev S1 : Shape := ⟨1, ![1]⟩
abbrev S2x8x1024x3584 : Shape := ⟨4, ![2, 8, 1024, 3584]⟩
abbrev S2x8x3584x1024 : Shape := ⟨4, ![2, 8, 3584, 1024]⟩
abbrev S16x1024x3584 : Shape := ⟨3, ![16, 1024, 3584]⟩
abbrev S16x3584x1024 : Shape := ⟨3, ![16, 3584, 1024]⟩
abbrev S1056x1024 : Shape := ⟨2, ![1056, 1024]⟩
abbrev S1x1024x512 : Shape := ⟨3, ![1, 1024, 512]⟩
abbrev S1x512x1024 : Shape := ⟨3, ![1, 512, 1024]⟩
abbrev S1024x512 : Shape := ⟨2, ![1024, 512]⟩
abbrev S1056x512 : Shape := ⟨2, ![1056, 512]⟩
abbrev S512x1024 : Shape := ⟨2, ![512, 1024]⟩

abbrev nBuf : Space → Nat
  | .hbm => 8
  | .vmem => 12
  | .smem => 2
  | _ => 0

abbrev bufTy : (tb : Table) → Fin (tcTables nBuf tb) → BufTy
  | .hbm, ⟨0, _⟩ => ⟨S42240x1024, .f32⟩
  | .hbm, ⟨1, _⟩ => ⟨S2x8x1024x3584, .f32⟩
  | .hbm, ⟨2, _⟩ => ⟨S2x8x1024x3584, .f32⟩
  | .hbm, ⟨3, _⟩ => ⟨S2x8x3584x1024, .f32⟩
  | .hbm, ⟨4, _⟩ => ⟨S16x1024x3584, .f32⟩
  | .hbm, ⟨5, _⟩ => ⟨S16x1024x3584, .f32⟩
  | .hbm, ⟨6, _⟩ => ⟨S16x3584x1024, .f32⟩
  | .hbm, ⟨7, _⟩ => ⟨S42240x1024, .f32⟩
  | .local _ .vmem, ⟨0, _⟩ => ⟨S1056x1024, .f32⟩
  | .local _ .vmem, ⟨1, _⟩ => ⟨S1056x1024, .f32⟩
  | .local _ .vmem, ⟨2, _⟩ => ⟨S1x1024x512, .f32⟩
  | .local _ .vmem, ⟨3, _⟩ => ⟨S1x1024x512, .f32⟩
  | .local _ .vmem, ⟨4, _⟩ => ⟨S1x1024x512, .f32⟩
  | .local _ .vmem, ⟨5, _⟩ => ⟨S1x1024x512, .f32⟩
  | .local _ .vmem, ⟨6, _⟩ => ⟨S1x512x1024, .f32⟩
  | .local _ .vmem, ⟨7, _⟩ => ⟨S1x512x1024, .f32⟩
  | .local _ .vmem, ⟨8, _⟩ => ⟨S1056x1024, .f32⟩
  | .local _ .vmem, ⟨9, _⟩ => ⟨S1056x1024, .f32⟩
  | .local _ .vmem, ⟨10, _⟩ => ⟨S1056x1024, .f32⟩
  | .local _ .vmem, ⟨11, _⟩ => ⟨S1056x1024, .bf16⟩
  | .local _ .smem, ⟨0, _⟩ => ⟨S40, .i32⟩
  | .local _ .smem, ⟨1, _⟩ => ⟨S1, .i32⟩
  | _, _ => ⟨S42240x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_arg1 : Ref sig .tc := ⟨.smem, 0, rfl⟩
abbrev main_arg2 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![40, 7], ![false, false]⟩

abbrev pre0 : Pipeline.Prefetch sig := ⟨2, ![main_arg1.idx, main_arg2.idx], fun | 0 => main_arg1.names | 1 => main_arg2.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond3 (i : grid0.Coords) : BitVec 1 :=
  let arg1 : BitVec 32 := BitVec.ofNat 32 (i 1).val
  let c6_i32 : BitVec 32 := 6#32
  let v7 : BitVec 1 := Scalar.cmpi .eq arg1 c6_i32
  let v8 : BitVec 32 := Scalar.extui v7
  let c0_i32_2 : BitVec 32 := 0#32
  let v9 : BitVec 1 := Scalar.cmpi .ne v8 c0_i32_2
  v9

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S40.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S40) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c6_i32 : BitVec 32 := 6#32
  let v4 : BitVec 32 := Scalar.select v3 arg1 c6_i32
  let c0_i32 : BitVec 32 := 0#32
  let c0_i32_0 : BitVec 32 := 0#32
  ![v1.toNat, c0_i32.toNat, v4.toNat]

def cc0_transform_2 (k0_off1_inb : ∀ i : grid0.Coords, ∀ a, (k0_off1 i) a + S1.size a ≤ S40.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S40) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c6_i32 : BitVec 32 := 6#32
  let v4 : BitVec 32 := Scalar.select v3 arg1 c6_i32
  let c0_i32 : BitVec 32 := 0#32
  let c0_i32_0 : BitVec 32 := 0#32
  ![v1.toNat, c0_i32.toNat, v4.toNat]

def cc0_transform_3 (k0_off1_inb : ∀ i : grid0.Coords, ∀ a, (k0_off1 i) a + S1.size a ≤ S40.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S40) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c6_i32 : BitVec 32 := 6#32
  let v4 : BitVec 32 := Scalar.select v3 arg1 c6_i32
  let c0_i32 : BitVec 32 := 0#32
  let c0_i32_0 : BitVec 32 := 0#32
  ![v1.toNat, v4.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1056x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1056x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference2Ideal.lean ====
abbrev S42240x1024 : Shape := ⟨2, ![42240, 1024]⟩
abbrev S40 : Shape := ⟨1, ![40]⟩
abbrev S1 : Shape := ⟨1, ![1]⟩
abbrev S2x8x1024x3584 : Shape := ⟨4, ![2, 8, 1024, 3584]⟩
abbrev S2x8x3584x1024 : Shape := ⟨4, ![2, 8, 3584, 1024]⟩
abbrev S16x1024x3584 : Shape := ⟨3, ![16, 1024, 3584]⟩
abbrev S16x3584x1024 : Shape := ⟨3, ![16, 3584, 1024]⟩
abbrev S_ : Shape := ⟨0, ![]⟩
abbrev S40x1056x1024 : Shape := ⟨3, ![40, 1056, 1024]⟩
abbrev S1x1056x1024 : Shape := ⟨3, ![1, 1056, 1024]⟩
abbrev S1056x1024 : Shape := ⟨2, ![1056, 1024]⟩
abbrev S1x1024x3584 : Shape := ⟨3, ![1, 1024, 3584]⟩
abbrev S1024x3584 : Shape := ⟨2, ![1024, 3584]⟩
abbrev S1x3584x1024 : Shape := ⟨3, ![1, 3584, 1024]⟩
abbrev S3584x1024 : Shape := ⟨2, ![3584, 1024]⟩
abbrev S1056x3584 : Shape := ⟨2, ![1056, 3584]⟩

abbrev nBuf : Space → Nat
  | .hbm => 128
  | .vmem => 0
  | .smem => 0
  | _ => 0

abbrev bufTy : (tb : Table) → Fin (tcTables nBuf tb) → BufTy
  | .hbm, ⟨0, _⟩ => ⟨S42240x1024, .f32⟩
  | .hbm, ⟨1, _⟩ => ⟨S40, .i32⟩
  | .hbm, ⟨2, _⟩ => ⟨S1, .i32⟩
  | .hbm, ⟨3, _⟩ => ⟨S2x8x1024x3584, .f32⟩
  | .hbm, ⟨4, _⟩ => ⟨S2x8x1024x3584, .f32⟩
  | .hbm, ⟨5, _⟩ => ⟨S2x8x3584x1024, .f32⟩
  | .hbm, ⟨6, _⟩ => ⟨S16x1024x3584, .f32⟩
  | .hbm, ⟨7, _⟩ => ⟨S16x1024x3584, .f32⟩
  | .hbm, ⟨8, _⟩ => ⟨S16x3584x1024, .f32⟩
  | .hbm, ⟨9, _⟩ => ⟨S40, .i32⟩
  | .hbm, ⟨10, _⟩ => ⟨S_, .i32⟩
  | .hbm, ⟨11, _⟩ => ⟨S40, .i32⟩
  | .hbm, ⟨12, _⟩ => ⟨S40, .i1⟩
  | .hbm, ⟨13, _⟩ => ⟨S40x1056x1024, .f32⟩
  | .hbm, ⟨14, _⟩ => ⟨S_, .f32⟩
  | .hbm, ⟨15, _⟩ => ⟨S40x1056x1024, .f32⟩
  | .hbm, ⟨16, _⟩ => ⟨S_, .i32⟩
  | .hbm, ⟨17, _⟩ => ⟨S40x1056x1024, .f32⟩
  | .hbm, ⟨18, _⟩ => ⟨S40, .i1⟩
  | .hbm, ⟨19, _⟩ => ⟨S40, .i32⟩
  | .hbm, ⟨20, _⟩ => ⟨S16x1024x3584, .f32⟩
  | .hbm, ⟨21, _⟩ => ⟨S16x1024x3584, .f32⟩
  | .hbm, ⟨22, _⟩ => ⟨S16x3584x1024, .f32⟩
  | .hbm, ⟨23, _⟩ => ⟨S_, .i32⟩
  | .hbm, ⟨24, _⟩ => ⟨S40x1056x1024, .f32⟩
  | .hbm, ⟨25, _⟩ => ⟨S_, .i32⟩
  | .hbm, ⟨26, _⟩ => ⟨S_, .i1⟩
  | .hbm, ⟨27, _⟩ => ⟨S_, .i32⟩
  | .hbm, ⟨28, _⟩ => ⟨S_, .i32⟩
  | .hbm, ⟨29, _⟩ => ⟨S1x1056x1024, .f32⟩
  | .hbm, ⟨30, _⟩ => ⟨S1056x1024, .f32⟩
  | .hbm, ⟨31, _⟩ => ⟨S1, .i1⟩
  | .hbm, ⟨32, _⟩ => ⟨S_, .i1⟩
  | .hbm, ⟨33, _⟩ => ⟨S1, .i32⟩
  | .hbm, ⟨34, _⟩ => ⟨S_, .i32⟩
  | .hbm, ⟨35, _⟩ => ⟨S_, .i32⟩
  | .hbm, ⟨36, _⟩ => ⟨S_, .i1⟩
  | .hbm, ⟨37, _⟩ => ⟨S_, .i32⟩
  | .hbm, ⟨38, _⟩ => ⟨S_, .i32⟩
  | .hbm, ⟨39, _⟩ => ⟨S_, .i32⟩
  | .hbm, ⟨40, _⟩ => ⟨S_, .i32⟩
  | .hbm, ⟨41, _⟩ => ⟨S_, .i32⟩
  | .hbm, ⟨42, _⟩ => ⟨S_, .i1⟩
  | .hbm, ⟨43, _⟩ => ⟨S_, .i32⟩
  | .hbm, ⟨44, _⟩ => ⟨S_, .i32⟩
  | .hbm, ⟨45, _⟩ => ⟨S_, .i32⟩
  | .hbm, ⟨46, _⟩ => ⟨S_, .i32⟩
  | .hbm, ⟨47, _⟩ => ⟨S_, .i32⟩
  | .hbm, ⟨48, _⟩ => ⟨S_, .i32⟩
  | .hbm, ⟨49, _⟩ => ⟨S_, .i32⟩
  | .hbm, ⟨50, _⟩ => ⟨S_, .i1⟩
  | .hbm, ⟨51, _⟩ => ⟨S_, .i32⟩
  | .hbm, ⟨52, _⟩ => ⟨S_, .i32⟩
  | .hbm, ⟨53, _⟩ => ⟨S_, .i32⟩
  | .hbm, ⟨54, _⟩ => ⟨S_, .i32⟩
  | .hbm, ⟨55, _⟩ => ⟨S_, .i32⟩
  | .hbm, ⟨56, _⟩ => ⟨S1x1024x3584, .f32⟩
  | .hbm, ⟨57, _⟩ => ⟨S1024x3584, .f32⟩
  | .hbm, ⟨58, _⟩ => ⟨S_, .i32⟩
  | .hbm, ⟨59, _⟩ => ⟨S_, .i1⟩
  | .hbm, ⟨60, _⟩ => ⟨S_, .i32⟩
  | .hbm, ⟨61, _⟩ => ⟨S_, .i32⟩
  | .hbm, ⟨62, _⟩ => ⟨S_, .i32⟩
  | .hbm, ⟨63, _⟩ => ⟨S_, .i32⟩
  | .hbm, ⟨64, _⟩ => ⟨S_, .i32⟩
  | .hbm, ⟨65, _⟩ => ⟨S_, .i1⟩
  | .hbm, ⟨66, _⟩ => ⟨S_, .i32⟩
  | .hbm, ⟨67, _⟩ => ⟨S_, .i32⟩
  | .hbm, ⟨68, _⟩ => ⟨S_, .i32⟩
  | .hbm, ⟨69, _⟩ => ⟨S_, .i32⟩
  | .hbm, ⟨70, _⟩ => ⟨S_, .i32⟩
  | .hbm, ⟨71, _⟩ => ⟨S_, .i32⟩
  | .hbm, ⟨72, _⟩ => ⟨S_, .i32⟩
  | .hbm, ⟨73, _⟩ => ⟨S_, .i1⟩
  | .hbm, ⟨74, _⟩ => ⟨S_, .i32⟩
  | .hbm, ⟨75, _⟩ => ⟨S_, .i32⟩
  | .hbm, ⟨76, _⟩ => ⟨S_, .i32⟩
  | .hbm, ⟨77, _⟩ => ⟨S_, .i32⟩
  | .hbm, ⟨78, _⟩ => ⟨S_, .i32⟩
  | .hbm, ⟨79, _⟩ => ⟨S1x1024x3584, .f32⟩
  | .hbm, ⟨80, _⟩ => ⟨S1024x3584, .f32⟩
  | .hbm, ⟨81, _⟩ => ⟨S_, .i32⟩
  | .hbm, ⟨82, _⟩ => ⟨S_, .i1⟩
  | .hbm, ⟨83, _⟩ => ⟨S_, .i32⟩
  | .hbm, ⟨84, _⟩ => ⟨S_, .i32⟩
  | .hbm, ⟨85, _⟩ => ⟨S_, .i32⟩
  | .hbm, ⟨86, _⟩ => ⟨S_, .i32⟩
  | .hbm, ⟨87, _⟩ => ⟨S_, .i32⟩
  | .hbm, ⟨88, _⟩ => ⟨S_, .i1⟩
  | .hbm, ⟨89, _⟩ => ⟨S_, .i32⟩
  | .hbm, ⟨90, _⟩ => ⟨S_, .i32⟩
  | .hbm, ⟨91, _⟩ => ⟨S_, .i32⟩
  | .hbm, ⟨92, _⟩ => ⟨S_, .i32⟩
  | .hbm, ⟨93, _⟩ => ⟨S_, .i32⟩
  | .hbm, ⟨94, _⟩ => ⟨S_, .i32⟩
  | .hbm, ⟨95, _⟩ => ⟨S_, .i32⟩
  | .hbm, ⟨96, _⟩ => ⟨S_, .i1⟩
  | .hbm, ⟨97, _⟩ => ⟨S_, .i32⟩
  | .hbm, ⟨98, _⟩ => ⟨S_, .i32⟩
  | .hbm, ⟨99, _⟩ => ⟨S_, .i32⟩
  | .hbm, ⟨100, _⟩ => ⟨S_, .i32⟩
  | .hbm, ⟨101, _⟩ => ⟨S_, .i32⟩
  | .hbm, ⟨102, _⟩ => ⟨S1x3584x1024, .f32⟩
  | .hbm, ⟨103, _⟩ => ⟨S3584x1024, .f32⟩
  | .hbm, ⟨104, _⟩ => ⟨S1056x3584, .f32⟩
  | .hbm, ⟨105, _⟩ => ⟨S1056x3584, .f32⟩
  | .hbm, ⟨106, _⟩ => ⟨S1056x3584, .f32⟩
  | .hbm, ⟨107, _⟩ => ⟨S_, .f32⟩
  | .hbm, ⟨108, _⟩ => ⟨S1056x3584, .f32⟩
  | .hbm, ⟨109, _⟩ => ⟨S1056x3584, .f32⟩
  | .hbm, ⟨110, _⟩ => ⟨S_, .f32⟩
  | .hbm, ⟨111, _⟩ => ⟨S1056x3584, .f32⟩
  | .hbm, ⟨112, _⟩ => ⟨S1056x3584, .f32⟩
  | .hbm, ⟨113, _⟩ => ⟨S1056x3584, .f32⟩
  | .hbm, ⟨114, _⟩ => ⟨S1056x3584, .f32⟩
  | .hbm, ⟨115, _⟩ => ⟨S1056x3584, .f32⟩
  | .hbm, ⟨116, _⟩ => ⟨S1056x1024, .f32⟩
  | .hbm, ⟨117, _⟩ => ⟨S_, .f32⟩
  | .hbm, ⟨118, _⟩ => ⟨S_, .f32⟩
  | .hbm, ⟨119, _⟩ => ⟨S1056x1024, .f32⟩
  | .hbm, ⟨120, _⟩ => ⟨S1056x1024, .f32⟩
  | .hbm, ⟨121, _⟩ => ⟨S1x1056x1024, .f32⟩
  | .hbm, ⟨122, _⟩ => ⟨S_, .i32⟩
  | .hbm, ⟨123, _⟩ => ⟨S_, .i32⟩
  | .hbm, ⟨124, _⟩ => ⟨S40x1056x1024, .f32⟩
  | .hbm, ⟨125, _⟩ => ⟨S_, .i32⟩
  | .hbm, ⟨126, _⟩ => ⟨S_, .i32⟩
  | .hbm, ⟨127, _⟩ => ⟨S42240x1024, .f32⟩
  | _, _ => ⟨S42240x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_c : Ref sig .tc := ⟨.hbm, 16, rfl⟩
abbrev main_v9_0 : Ref sig .tc := ⟨.hbm, 17, rfl⟩
abbrev main_v9_1 : Ref sig .tc := ⟨.hbm, 18, rfl⟩
abbrev main_v9_2 : Ref sig .tc := ⟨.hbm, 19, rfl⟩
abbrev main_v9_3 : Ref sig .tc := ⟨.hbm, 20, rfl⟩
abbrev main_v9_4 : Ref sig .tc := ⟨.hbm, 21, rfl⟩
abbrev main_v9_5 : Ref sig .tc := ⟨.hbm, 22, rfl⟩
abbrev main_v9_6 : Ref sig .tc := ⟨.hbm, 23, rfl⟩
abbrev main_v9_7 : Ref sig .tc := ⟨.hbm, 24, rfl⟩
abbrev main_while0c_c_7 : Ref sig .tc := ⟨.hbm, 25, rfl⟩
abbrev main_while0c_v11 : Ref sig .tc := ⟨.hbm, 26, rfl⟩
abbrev main_while0b_call0_c : Ref sig .tc := ⟨.hbm, 27, rfl⟩
abbrev main_while0b_call0_c_0 : Ref sig .tc := ⟨.hbm, 28, rfl⟩
abbrev main_while0b_call0_v0 : Ref sig .tc := ⟨.hbm, 29, rfl⟩
abbrev main_while0b_v11 : Ref sig .tc := ⟨.hbm, 30, rfl⟩
abbrev main_while0b_call1_v0 : Ref sig .tc := ⟨.hbm, 31, rfl⟩
abbrev main_while0b_v12 : Ref sig .tc := ⟨.hbm, 32, rfl⟩
abbrev main_while0b_call2_v0 : Ref sig .tc := ⟨.hbm, 33, rfl⟩
abbrev main_while0b_v13 : Ref sig .tc := ⟨.hbm, 34, rfl⟩
abbrev main_while0b_c_7 : Ref sig .tc := ⟨.hbm, 35, rfl⟩
abbrev main_while0b_v14 : Ref sig .tc := ⟨.hbm, 36, rfl⟩
abbrev main_while0b_c_8 : Ref sig .tc := ⟨.hbm, 37, rfl⟩
abbrev main_while0b_v15 : Ref sig .tc := ⟨.hbm, 38, rfl⟩
abbrev main_while0b_v16 : Ref sig .tc := ⟨.hbm, 39, rfl⟩
abbrev main_while0b_c_9 : Ref sig .tc := ⟨.hbm, 40, rfl⟩
abbrev main_while0b_c_10 : Ref sig .tc := ⟨.hbm, 41, rfl⟩
abbrev main_while0b_v17 : Ref sig .tc := ⟨.hbm, 42, rfl⟩
abbrev main_while0b_c_11 : Ref sig .tc := ⟨.hbm, 43, rfl⟩
abbrev main_while0b_c_12 : Ref sig .tc := ⟨.hbm, 44, rfl⟩
abbrev main_while0b_v18 : Ref sig .tc := ⟨.hbm, 45, rfl⟩
abbrev main_while0b_c_13 : Ref sig .tc := ⟨.hbm, 46, rfl⟩
abbrev main_while0b_v19 : Ref sig .tc := ⟨.hbm, 47, rfl⟩
abbrev main_while0b_c_14 : Ref sig .tc := ⟨.hbm, 48, rfl⟩
abbrev main_while0b_c_15 : Ref sig .tc := ⟨.hbm, 49, rfl⟩
abbrev main_while0b_v20 : Ref sig .tc := ⟨.hbm, 50, rfl⟩
abbrev main_while0b_c_16 : Ref sig .tc := ⟨.hbm, 51, rfl⟩
abbrev main_while0b_c_17 : Ref sig .tc := ⟨.hbm, 52, rfl⟩
abbrev main_while0b_v21 : Ref sig .tc := ⟨.hbm, 53, rfl⟩
abbrev main_while0b_c_18 : Ref sig .tc := ⟨.hbm, 54, rfl⟩
abbrev main_while0b_v22 : Ref sig .tc := ⟨.hbm, 55, rfl⟩
abbrev main_while0b_v23 : Ref sig .tc := ⟨.hbm, 56, rfl⟩
abbrev main_while0b_v24 : Ref sig .tc := ⟨.hbm, 57, rfl⟩
abbrev main_while0b_c_19 : Ref sig .tc := ⟨.hbm, 58, rfl⟩
abbrev main_while0b_v25 : Ref sig .tc := ⟨.hbm, 59, rfl⟩
abbrev main_while0b_c_20 : Ref sig .tc := ⟨.hbm, 60, rfl⟩
abbrev main_while0b_v26 : Ref sig .tc := ⟨.hbm, 61, rfl⟩
abbrev main_while0b_v27 : Ref sig .tc := ⟨.hbm, 62, rfl⟩
abbrev main_while0b_c_21 : Ref sig .tc := ⟨.hbm, 63, rfl⟩
abbrev main_while0b_c_22 : Ref sig .tc := ⟨.hbm, 64, rfl⟩
abbrev main_while0b_v28 : Ref sig .tc := ⟨.hbm, 65, rfl⟩
abbrev main_while0b_c_23 : Ref sig .tc := ⟨.hbm, 66, rfl⟩
abbrev main_while0b_c_24 : Ref sig .tc := ⟨.hbm, 67, rfl⟩
abbrev main_while0b_v29 : Ref sig .tc := ⟨.hbm, 68, rfl⟩
abbrev main_while0b_c_25 : Ref sig .tc := ⟨.hbm, 69, rfl⟩
abbrev main_while0b_v30 : Ref sig .tc := ⟨.hbm, 70, rfl⟩
abbrev main_while0b_c_26 : Ref sig .tc := ⟨.hbm, 71, rfl⟩
abbrev main_while0b_c_27 : Ref sig .tc := ⟨.hbm, 72, rfl⟩
abbrev main_while0b_v31 : Ref sig .tc := ⟨.hbm, 73, rfl⟩
abbrev main_while0b_c_28 : Ref sig .tc := ⟨.hbm, 74, rfl⟩
abbrev main_while0b_c_29 : Ref sig .tc := ⟨.hbm, 75, rfl⟩
abbrev main_while0b_v32 : Ref sig .tc := ⟨.hbm, 76, rfl⟩
abbrev main_while0b_c_30 : Ref sig .tc := ⟨.hbm, 77, rfl⟩
abbrev main_while0b_v33 : Ref sig .tc := ⟨.hbm, 78, rfl⟩
abbrev main_while0b_v34 : Ref sig .tc := ⟨.hbm, 79, rfl⟩
abbrev main_while0b_v35 : Ref sig .tc := ⟨.hbm, 80, rfl⟩
abbrev main_while0b_c_31 : Ref sig .tc := ⟨.hbm, 81, rfl⟩
abbrev main_while0b_v36 : Ref sig .tc := ⟨.hbm, 82, rfl⟩
abbrev main_while0b_c_32 : Ref sig .tc := ⟨.hbm, 83, rfl⟩
abbrev main_while0b_v37 : Ref sig .tc := ⟨.hbm, 84, rfl⟩
abbrev main_while0b_v38 : Ref sig .tc := ⟨.hbm, 85, rfl⟩
abbrev main_while0b_c_33 : Ref sig .tc := ⟨.hbm, 86, rfl⟩
abbrev main_while0b_c_34 : Ref sig .tc := ⟨.hbm, 87, rfl⟩
abbrev main_while0b_v39 : Ref sig .tc := ⟨.hbm, 88, rfl⟩
abbrev main_while0b_c_35 : Ref sig .tc := ⟨.hbm, 89, rfl⟩
abbrev main_while0b_c_36 : Ref sig .tc := ⟨.hbm, 90, rfl⟩
abbrev main_while0b_v40 : Ref sig .tc := ⟨.hbm, 91, rfl⟩
abbrev main_while0b_c_37 : Ref sig .tc := ⟨.hbm, 92, rfl⟩
abbrev main_while0b_v41 : Ref sig .tc := ⟨.hbm, 93, rfl⟩
abbrev main_while0b_c_38 : Ref sig .tc := ⟨.hbm, 94, rfl⟩
abbrev main_while0b_c_39 : Ref sig .tc := ⟨.hbm, 95, rfl⟩
abbrev main_while0b_v42 : Ref sig .tc := ⟨.hbm, 96, rfl⟩
abbrev main_while0b_c_40 : Ref sig .tc := ⟨.hbm, 97, rfl⟩
abbrev main_while0b_c_41 : Ref sig .tc := ⟨.hbm, 98, rfl⟩
abbrev main_while0b_v43 : Ref sig .tc := ⟨.hbm, 99, rfl⟩
abbrev main_while0b_c_42 : Ref sig .tc := ⟨.hbm, 100, rfl⟩
abbrev main_while0b_v44 : Ref sig .tc := ⟨.hbm, 101, rfl⟩
abbrev main_while0b_v45 : Ref sig .tc := ⟨.hbm, 102, rfl⟩
abbrev main_while0b_v46 : Ref sig .tc := ⟨.hbm, 103, rfl⟩
abbrev main_while0b_v47 : Ref sig .tc := ⟨.hbm, 104, rfl⟩
abbrev main_while0b_call3_v0 : Ref sig .tc := ⟨.hbm, 105, rfl⟩
abbrev main_while0b_call3_v1 : Ref sig .tc := ⟨.hbm, 106, rfl⟩
abbrev main_while0b_call3_cst : Ref sig .tc := ⟨.hbm, 107, rfl⟩
abbrev main_while0b_call3_v2 : Ref sig .tc := ⟨.hbm, 108, rfl⟩
abbrev main_while0b_call3_v3 : Ref sig .tc := ⟨.hbm, 109, rfl⟩
abbrev main_while0b_call3_cst_0 : Ref sig .tc := ⟨.hbm, 110, rfl⟩
abbrev main_while0b_call3_v4 : Ref sig .tc := ⟨.hbm, 111, rfl⟩
abbrev main_while0b_call3_v5 : Ref sig .tc := ⟨.hbm, 112, rfl⟩
abbrev main_while0b_v48 : Ref sig .tc := ⟨.hbm, 113, rfl⟩
abbrev main_while0b_v49 : Ref sig .tc := ⟨.hbm, 114, rfl⟩
abbrev main_while0b_v50 : Ref sig .tc := ⟨.hbm, 115, rfl⟩
abbrev main_while0b_v51 : Ref sig .tc := ⟨.hbm, 116, rfl⟩
abbrev main_while0b_cst_43 : Ref sig .tc := ⟨.hbm, 117, rfl⟩
abbrev main_while0b_call4_v0 : Ref sig .tc := ⟨.hbm, 118, rfl⟩
abbrev main_while0b_call4_v1 : Ref sig .tc := ⟨.hbm, 119, rfl⟩
abbrev main_while0b_v52 : Ref sig .tc := ⟨.hbm, 120, rfl⟩
abbrev main_while0b_call5_v0 : Ref sig .tc := ⟨.hbm, 121, rfl⟩
abbrev main_while0b_call5_c : Ref sig .tc := ⟨.hbm, 122, rfl⟩
abbrev main_while0b_call5_c_0 : Ref sig .tc := ⟨.hbm, 123, rfl⟩
abbrev main_while0b_v53 : Ref sig .tc := ⟨.hbm, 124, rfl⟩
abbrev main_while0b_c_44 : Ref sig .tc := ⟨.hbm, 125, rfl⟩
abbrev main_while0b_v54 : Ref sig .tc := ⟨.hbm, 126, rfl⟩
abbrev main_v10 : Ref sig .tc := ⟨.hbm, 127, rfl⟩

abbrev nD : Nat := 1
abbrev τ : Topo := Topo.v7x

variable {F : FTy → Type} [FloatOps F]

abbrev main_while0_count : Scf.Loop 32 := ⟨0#32, 40#32, 1#32⟩
-- ==== Kernel3.lean ====
abbrev S4x4096x1024 : Shape := ⟨3, ![4, 4096, 1024]⟩
abbrev S1024x2816 : Shape := ⟨2, ![1024, 2816]⟩
abbrev S2816x1024 : Shape := ⟨2, ![2816, 1024]⟩
abbrev S4x1x1024 : Shape := ⟨3, ![4, 1, 1024]⟩
abbrev S1024 : Shape := ⟨1, ![1024]⟩
abbrev S1x1024 : Shape := ⟨2, ![1, 1024]⟩
abbrev S1x512x1024 : Shape := ⟨3, ![1, 512, 1024]⟩
abbrev S1024x1408 : Shape := ⟨2, ![1024, 1408]⟩
abbrev S1408x1024 : Shape := ⟨2, ![1408, 1024]⟩
abbrev S1x1x1024 : Shape := ⟨3, ![1, 1, 1024]⟩
abbrev S512x1024 : Shape := ⟨2, ![512, 1024]⟩
abbrev S512x1408 : Shape := ⟨2, ![512, 1408]⟩
abbrev S512 : Shape := ⟨1, ![512]⟩
abbrev S512x1 : Shape := ⟨2, ![512, 1]⟩

abbrev nBuf : Space → Nat
  | .hbm => 17
  | .vmem => 23
  | .smem => 0
  | _ => 0

abbrev bufTy : (tb : Table) → Fin (tcTables nBuf tb) → BufTy
  | .hbm, ⟨0, _⟩ => ⟨S4x4096x1024, .bf16⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S4x4096x1024, .f32⟩
  | .hbm, ⟨5, _⟩ => ⟨S4x1x1024, .f32⟩
  | .hbm, ⟨6, _⟩ => ⟨S1024, .f32⟩
  | .hbm, ⟨7, _⟩ => ⟨S1024, .f32⟩
  | .hbm, ⟨8, _⟩ => ⟨S4x1x1024, .f32⟩
  | .hbm, ⟨9, _⟩ => ⟨S4x1x1024, .f32⟩
  | .hbm, ⟨10, _⟩ => ⟨S1024x2816, .bf16⟩
  | .hbm, ⟨11, _⟩ => ⟨S1024x2816, .bf16⟩
  | .hbm, ⟨12, _⟩ => ⟨S2816x1024, .bf16⟩
  | .hbm, ⟨13, _⟩ => ⟨S1x1024, .f32⟩
  | .hbm, ⟨14, _⟩ => ⟨S1x1024, .f32⟩
  | .hbm, ⟨15, _⟩ => ⟨S4x4096x1024, .f32⟩
  | .hbm, ⟨16, _⟩ => ⟨S4x4096x1024, .bf16⟩
  | .local _ .vmem, ⟨0, _⟩ => ⟨S1x512x1024, .bf16⟩
  | .local _ .vmem, ⟨1, _⟩ => ⟨S1x512x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1408x1024, .bf16⟩
  | .local _ .vmem, ⟨7, _⟩ => ⟨S1408x1024, .bf16⟩
  | .local _ .vmem, ⟨8, _⟩ => ⟨S1x512x1024, .f32⟩
  | .local _ .vmem, ⟨9, _⟩ => ⟨S1x512x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1024, .f32⟩
  | .local _ .vmem, ⟨13, _⟩ => ⟨S1x1024, .f32⟩
  | .local _ .vmem, ⟨14, _⟩ => ⟨S1x1x1024, .f32⟩
  | .local _ .vmem, ⟨15, _⟩ => ⟨S1x1x1024, .f32⟩
  | .local _ .vmem, ⟨16, _⟩ => ⟨S1x1x1024, .f32⟩
  | .local _ .vmem, ⟨17, _⟩ => ⟨S1x1x1024, .f32⟩
  | .local _ .vmem, ⟨18, _⟩ => ⟨S1x512x1024, .f32⟩
  | .local _ .vmem, ⟨19, _⟩ => ⟨S1x512x1024, .f32⟩
  | .local _ .vmem, ⟨20, _⟩ => ⟨S1x512x1024, .bf16⟩
  | .local _ .vmem, ⟨21, _⟩ => ⟨S1x512x1024, .bf16⟩
  | .local _ .vmem, ⟨22, _⟩ => ⟨S512x1024, .f32⟩
  | _, _ => ⟨S4x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5_0 : Ref sig .tc := ⟨.hbm, 15, rfl⟩
abbrev main_v5_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21

abbrev nD : Nat := 1
abbrev τ : Topo := Topo.v7x

variable {F : FTy → Type} [FloatOps F]

abbrev grid0 : Pipeline.Grid := ⟨3, ![4, 8, 2], ![false, false, false]⟩

def k0_cond2 (i : grid0.Coords) : BitVec 1 :=
  let arg2 : BitVec 32 := BitVec.ofNat 32 (i 2).val
  let c1_i32 : BitVec 32 := 1#32
  let v23 : BitVec 1 := Scalar.cmpi .eq arg2 c1_i32
  let v24 : BitVec 32 := Scalar.extui v23
  let c0_i32_15 : BitVec 32 := 0#32
  let v25 : BitVec 1 := Scalar.cmpi .ne v24 c0_i32_15
  v25

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true]

abbrev stage0_3 : Fin 2 → Memref sig .tc .vmem S1408x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false, false]

abbrev stage0_9 : Fin 2 → Memref sig .tc .vmem S1x1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false, false]

abbrev stage0_10 : Fin 2 → Memref sig .tc .vmem S1x512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, false]

abbrev stage0_11 : Fin 2 → Memref sig .tc .vmem S1x512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, false]
-- ==== Reference3Ideal.lean ====
abbrev S4x4096x1024 : Shape := ⟨3, ![4, 4096, 1024]⟩
abbrev S1024x2816 : Shape := ⟨2, ![1024, 2816]⟩
abbrev S2816x1024 : Shape := ⟨2, ![2816, 1024]⟩
abbrev S4x1x1024 : Shape := ⟨3, ![4, 1, 1024]⟩
abbrev S1024 : Shape := ⟨1, ![1024]⟩
abbrev S4x4096x2816 : Shape := ⟨3, ![4, 4096, 2816]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩

abbrev nBuf : Space → Nat
  | .hbm => 70
  | .vmem => 0
  | .smem => 0
  | _ => 0

abbrev bufTy : (tb : Table) → Fin (tcTables nBuf tb) → BufTy
  | .hbm, ⟨0, _⟩ => ⟨S4x4096x1024, .bf16⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S4x4096x1024, .f32⟩
  | .hbm, ⟨5, _⟩ => ⟨S4x1x1024, .f32⟩
  | .hbm, ⟨6, _⟩ => ⟨S1024, .f32⟩
  | .hbm, ⟨7, _⟩ => ⟨S1024, .f32⟩
  | .hbm, ⟨8, _⟩ => ⟨S4x1x1024, .f32⟩
  | .hbm, ⟨9, _⟩ => ⟨S4x1x1024, .f32⟩
  | .hbm, ⟨10, _⟩ => ⟨S4x4096x1024, .f32⟩
  | .hbm, ⟨11, _⟩ => ⟨S4x4096x2816, .f32⟩
  | .hbm, ⟨12, _⟩ => ⟨S4x4096x2816, .f32⟩
  | .hbm, ⟨13, _⟩ => ⟨S4x4096x2816, .f32⟩
  | .hbm, ⟨14, _⟩ => ⟨S_, .f32⟩
  | .hbm, ⟨15, _⟩ => ⟨S4x4096x2816, .f32⟩
  | .hbm, ⟨16, _⟩ => ⟨S4x4096x2816, .f32⟩
  | .hbm, ⟨17, _⟩ => ⟨S_, .f32⟩
  | .hbm, ⟨18, _⟩ => ⟨S4x4096x2816, .f32⟩
  | .hbm, ⟨19, _⟩ => ⟨S4x4096x2816, .f32⟩
  | .hbm, ⟨20, _⟩ => ⟨S4x4096x2816, .f32⟩
  | .hbm, ⟨21, _⟩ => ⟨S4x4096x2816, .f32⟩
  | .hbm, ⟨22, _⟩ => ⟨S4x4096x2816, .f32⟩
  | .hbm, ⟨23, _⟩ => ⟨S4x4096x1024, .f32⟩
  | .hbm, ⟨24, _⟩ => ⟨S_, .f32⟩
  | .hbm, ⟨25, _⟩ => ⟨S4x4096x1024, .f32⟩
  | .hbm, ⟨26, _⟩ => ⟨S4x4096x1024, .f32⟩
  | .hbm, ⟨27, _⟩ => ⟨S_, .f32⟩
  | .hbm, ⟨28, _⟩ => ⟨S4x1x1024, .f32⟩
  | .hbm, ⟨29, _⟩ => ⟨S4x1x1024, .f32⟩
  | .hbm, ⟨30, _⟩ => ⟨S4x4096x1024, .f32⟩
  | .hbm, ⟨31, _⟩ => ⟨S4x4096x1024, .f32⟩
  | .hbm, ⟨32, _⟩ => ⟨S4x4096x1024, .f32⟩
  | .hbm, ⟨33, _⟩ => ⟨S_, .f32⟩
  | .hbm, ⟨34, _⟩ => ⟨S4x4096, .f32⟩
  | .hbm, ⟨35, _⟩ => ⟨S4x4096x1, .f32⟩
  | .hbm, ⟨36, _⟩ => ⟨S_, .f32⟩
  | .hbm, ⟨37, _⟩ => ⟨S4x4096x1, .f32⟩
  | .hbm, ⟨38, _⟩ => ⟨S4x4096x1, .f32⟩
  | .hbm, ⟨39, _⟩ => ⟨S4x4096x1024, .f32⟩
  | .hbm, ⟨40, _⟩ => ⟨S4x4096x1024, .f32⟩
  | .hbm, ⟨41, _⟩ => ⟨S4x4096x1024, .f32⟩
  | .hbm, ⟨42, _⟩ => ⟨S_, .f32⟩
  | .hbm, ⟨43, _⟩ => ⟨S4x4096, .f32⟩
  | .hbm, ⟨44, _⟩ => ⟨S4x4096x1, .f32⟩
  | .hbm, ⟨45, _⟩ => ⟨S_, .f32⟩
  | .hbm, ⟨46, _⟩ => ⟨S4x4096x1, .f32⟩
  | .hbm, ⟨47, _⟩ => ⟨S4x4096x1, .f32⟩
  | .hbm, ⟨48, _⟩ => ⟨S4x4096x1024, .f32⟩
  | .hbm, ⟨49, _⟩ => ⟨S4x4096x1024, .f32⟩
  | .hbm, ⟨50, _⟩ => ⟨S_, .f32⟩
  | .hbm, ⟨51, _⟩ => ⟨S4x4096x1, .f32⟩
  | .hbm, ⟨52, _⟩ => ⟨S4x4096x1, .f32⟩
  | .hbm, ⟨53, _⟩ => ⟨S4x4096x1, .f32⟩
  | .hbm, ⟨54, _⟩ => ⟨S4x4096x1024, .f32⟩
  | .hbm, ⟨55, _⟩ => ⟨S4x4096x1024, .f32⟩
  | .hbm, ⟨56, _⟩ => ⟨S1x1x1024, .f32⟩
  | .hbm, ⟨57, _⟩ => ⟨S4x4096x1024, .f32⟩
  | .hbm, ⟨58, _⟩ => ⟨S4x4096x1024, .f32⟩
  | .hbm, ⟨59, _⟩ => ⟨S1x1x1024, .f32⟩
  | .hbm, ⟨60, _⟩ => ⟨S4x4096x1024, .f32⟩
  | .hbm, ⟨61, _⟩ => ⟨S4x4096x1024, .f32⟩
  | .hbm, ⟨62, _⟩ => ⟨S_, .f32⟩
  | .hbm, ⟨63, _⟩ => ⟨S4x1x1024, .f32⟩
  | .hbm, ⟨64, _⟩ => ⟨S4x1x1024, .f32⟩
  | .hbm, ⟨65, _⟩ => ⟨S4x4096x1024, .f32⟩
  | .hbm, ⟨66, _⟩ => ⟨S4x4096x1024, .f32⟩
  | .hbm, ⟨67, _⟩ => ⟨S4x4096x1024, .f32⟩
  | .hbm, ⟨68, _⟩ => ⟨S4x4096x1024, .f32⟩
  | .hbm, ⟨69, _⟩ => ⟨S4x4096x1024, .bf16⟩
  | _, _ => ⟨S4x4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_call0_v5 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_cst : Ref sig .tc := ⟨.hbm, 24, rfl⟩
abbrev main_v6 : Ref sig .tc := ⟨.hbm, 25, rfl⟩
abbrev main_v7 : Ref sig .tc := ⟨.hbm, 26, rfl⟩
abbrev main_cst_0 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_cst_1 : Ref sig .tc := ⟨.hbm, 33, rfl⟩
abbrev main_v13 : Ref sig .tc := ⟨.hbm, 34, rfl⟩
abbrev main_v14 : Ref sig .tc := ⟨.hbm, 35, rfl⟩
abbrev main_cst_2 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_cst_3 : Ref sig .tc := ⟨.hbm, 42, rfl⟩
abbrev main_v20 : Ref sig .tc := ⟨.hbm, 43, rfl⟩
abbrev main_v21 : Ref sig .tc := ⟨.hbm, 44, rfl⟩
abbrev main_cst_4 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_cst_5 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_cst_6 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩

abbrev nD : Nat := 1
abbrev τ : Topo := Topo.v7x

variable {F : FTy → Type} [FloatOps F]
-- ==== Kernel4.lean ====
abbrev S4x4096x512 : Shape := ⟨3, ![4, 4096, 512]⟩
abbrev S1024x1024 : Shape := ⟨2, ![1024, 1024]⟩
abbrev S4x4096x1024 : Shape := ⟨3, ![4, 4096, 1024]⟩
abbrev S4x1x1024 : Shape := ⟨3, ![4, 1, 1024]⟩
abbrev S1024 : Shape := ⟨1, ![1024]⟩
abbrev S512x1024 : Shape := ⟨2, ![512, 1024]⟩
abbrev S1x1024 : Shape := ⟨2, ![1, 1024]⟩
abbrev S1x512x512 : Shape := ⟨3, ![1, 512, 512]⟩
abbrev S1x512x1024 : Shape := ⟨3, ![1, 512, 1024]⟩
abbrev S1x1x1024 : Shape := ⟨3, ![1, 1, 1024]⟩
abbrev S512x512 : Shape := ⟨2, ![512, 512]⟩
abbrev S512 : Shape := ⟨1, ![512]⟩
abbrev S512x1 : Shape := ⟨2, ![512, 1]⟩

abbrev nBuf : Space → Nat
  | .hbm => 16
  | .vmem => 20
  | .smem => 0
  | _ => 0

abbrev bufTy : (tb : Table) → Fin (tcTables nBuf tb) → BufTy
  | .hbm, ⟨0, _⟩ => ⟨S4x4096x512, .bf16⟩
  | .hbm, ⟨1, _⟩ => ⟨S4x4096x512, .bf16⟩
  | .hbm, ⟨2, _⟩ => ⟨S1024x1024, .f32⟩
  | .hbm, ⟨3, _⟩ => ⟨S4x4096x1024, .f32⟩
  | .hbm, ⟨4, _⟩ => ⟨S4x1x1024, .f32⟩
  | .hbm, ⟨5, _⟩ => ⟨S1024, .f32⟩
  | .hbm, ⟨6, _⟩ => ⟨S1024, .f32⟩
  | .hbm, ⟨7, _⟩ => ⟨S4x1x1024, .f32⟩
  | .hbm, ⟨8, _⟩ => ⟨S4x1x1024, .f32⟩
  | .hbm, ⟨9, _⟩ => ⟨S1024x1024, .bf16⟩
  | .hbm, ⟨10, _⟩ => ⟨S512x1024, .bf16⟩
  | .hbm, ⟨11, _⟩ => ⟨S512x1024, .bf16⟩
  | .hbm, ⟨12, _⟩ => ⟨S1x1024, .f32⟩
  | .hbm, ⟨13, _⟩ => ⟨S1x1024, .f32⟩
  | .hbm, ⟨14, _⟩ => ⟨S4x4096x1024, .f32⟩
  | .hbm, ⟨15, _⟩ => ⟨S4x4096x1024, .bf16⟩
  | .local _ .vmem, ⟨0, _⟩ => ⟨S1x512x512, .bf16⟩
  | .local _ .vmem, ⟨1, _⟩ => ⟨S1x512x512, .bf16⟩
  | .local _ .vmem, ⟨2, _⟩ => ⟨S1x512x512, .bf16⟩
  | .local _ .vmem, ⟨3, _⟩ => ⟨S1x512x512, .bf16⟩
  | .local _ .vmem, ⟨4, _⟩ => ⟨S512x1024, .bf16⟩
  | .local _ .vmem, ⟨5, _⟩ => ⟨S512x1024, .bf16⟩
  | .local _ .vmem, ⟨6, _⟩ => ⟨S1x512x1024, .f32⟩
  | .local _ .vmem, ⟨7, _⟩ => ⟨S1x512x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1024, .f32⟩
  | .local _ .vmem, ⟨11, _⟩ => ⟨S1x1024, .f32⟩
  | .local _ .vmem, ⟨12, _⟩ => ⟨S1x1x1024, .f32⟩
  | .local _ .vmem, ⟨13, _⟩ => ⟨S1x1x1024, .f32⟩
  | .local _ .vmem, ⟨14, _⟩ => ⟨S1x1x1024, .f32⟩
  | .local _ .vmem, ⟨15, _⟩ => ⟨S1x1x1024, .f32⟩
  | .local _ .vmem, ⟨16, _⟩ => ⟨S1x512x1024, .f32⟩
  | .local _ .vmem, ⟨17, _⟩ => ⟨S1x512x1024, .f32⟩
  | .local _ .vmem, ⟨18, _⟩ => ⟨S1x512x1024, .bf16⟩
  | .local _ .vmem, ⟨19, _⟩ => ⟨S1x512x1024, .bf16⟩
  | _, _ => ⟨S4x4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5_0 : Ref sig .tc := ⟨.hbm, 14, rfl⟩
abbrev main_v5_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== Reference4Ideal.lean ====
abbrev S4x4096x512 : Shape := ⟨3, ![4, 4096, 512]⟩
abbrev S1024x1024 : Shape := ⟨2, ![1024, 1024]⟩
abbrev S4x4096x1024 : Shape := ⟨3, ![4, 4096, 1024]⟩
abbrev S4x1x1024 : Shape := ⟨3, ![4, 1, 1024]⟩
abbrev S1024 : Shape := ⟨1, ![1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩

abbrev nBuf : Space → Nat
  | .hbm => 58
  | .vmem => 0
  | .smem => 0
  | _ => 0

abbrev bufTy : (tb : Table) → Fin (tcTables nBuf tb) → BufTy
  | .hbm, ⟨0, _⟩ => ⟨S4x4096x512, .bf16⟩
  | .hbm, ⟨1, _⟩ => ⟨S4x4096x512, .bf16⟩
  | .hbm, ⟨2, _⟩ => ⟨S1024x1024, .f32⟩
  | .hbm, ⟨3, _⟩ => ⟨S4x4096x1024, .f32⟩
  | .hbm, ⟨4, _⟩ => ⟨S4x1x1024, .f32⟩
  | .hbm, ⟨5, _⟩ => ⟨S1024, .f32⟩
  | .hbm, ⟨6, _⟩ => ⟨S1024, .f32⟩
  | .hbm, ⟨7, _⟩ => ⟨S4x1x1024, .f32⟩
  | .hbm, ⟨8, _⟩ => ⟨S4x1x1024, .f32⟩
  | .hbm, ⟨9, _⟩ => ⟨S4x4096x1024, .bf16⟩
  | .hbm, ⟨10, _⟩ => ⟨S4x4096x1024, .f32⟩
  | .hbm, ⟨11, _⟩ => ⟨S4x4096x1024, .f32⟩
  | .hbm, ⟨12, _⟩ => ⟨S_, .f32⟩
  | .hbm, ⟨13, _⟩ => ⟨S4x4096x1024, .f32⟩
  | .hbm, ⟨14, _⟩ => ⟨S4x4096x1024, .f32⟩
  | .hbm, ⟨15, _⟩ => ⟨S_, .f32⟩
  | .hbm, ⟨16, _⟩ => ⟨S4x1x1024, .f32⟩
  | .hbm, ⟨17, _⟩ => ⟨S4x1x1024, .f32⟩
  | .hbm, ⟨18, _⟩ => ⟨S4x4096x1024, .f32⟩
  | .hbm, ⟨19, _⟩ => ⟨S4x4096x1024, .f32⟩
  | .hbm, ⟨20, _⟩ => ⟨S4x4096x1024, .f32⟩
  | .hbm, ⟨21, _⟩ => ⟨S_, .f32⟩
  | .hbm, ⟨22, _⟩ => ⟨S4x4096, .f32⟩
  | .hbm, ⟨23, _⟩ => ⟨S4x4096x1, .f32⟩
  | .hbm, ⟨24, _⟩ => ⟨S_, .f32⟩
  | .hbm, ⟨25, _⟩ => ⟨S4x4096x1, .f32⟩
  | .hbm, ⟨26, _⟩ => ⟨S4x4096x1, .f32⟩
  | .hbm, ⟨27, _⟩ => ⟨S4x4096x1024, .f32⟩
  | .hbm, ⟨28, _⟩ => ⟨S4x4096x1024, .f32⟩
  | .hbm, ⟨29, _⟩ => ⟨S4x4096x1024, .f32⟩
  | .hbm, ⟨30, _⟩ => ⟨S_, .f32⟩
  | .hbm, ⟨31, _⟩ => ⟨S4x4096, .f32⟩
  | .hbm, ⟨32, _⟩ => ⟨S4x4096x1, .f32⟩
  | .hbm, ⟨33, _⟩ => ⟨S_, .f32⟩
  | .hbm, ⟨34, _⟩ => ⟨S4x4096x1, .f32⟩
  | .hbm, ⟨35, _⟩ => ⟨S4x4096x1, .f32⟩
  | .hbm, ⟨36, _⟩ => ⟨S4x4096x1024, .f32⟩
  | .hbm, ⟨37, _⟩ => ⟨S4x4096x1024, .f32⟩
  | .hbm, ⟨38, _⟩ => ⟨S_, .f32⟩
  | .hbm, ⟨39, _⟩ => ⟨S4x4096x1, .f32⟩
  | .hbm, ⟨40, _⟩ => ⟨S4x4096x1, .f32⟩
  | .hbm, ⟨41, _⟩ => ⟨S4x4096x1, .f32⟩
  | .hbm, ⟨42, _⟩ => ⟨S4x4096x1024, .f32⟩
  | .hbm, ⟨43, _⟩ => ⟨S4x4096x1024, .f32⟩
  | .hbm, ⟨44, _⟩ => ⟨S1x1x1024, .f32⟩
  | .hbm, ⟨45, _⟩ => ⟨S4x4096x1024, .f32⟩
  | .hbm, ⟨46, _⟩ => ⟨S4x4096x1024, .f32⟩
  | .hbm, ⟨47, _⟩ => ⟨S1x1x1024, .f32⟩
  | .hbm, ⟨48, _⟩ => ⟨S4x4096x1024, .f32⟩
  | .hbm, ⟨49, _⟩ => ⟨S4x4096x1024, .f32⟩
  | .hbm, ⟨50, _⟩ => ⟨S_, .f32⟩
  | .hbm, ⟨51, _⟩ => ⟨S4x1x1024, .f32⟩
  | .hbm, ⟨52, _⟩ => ⟨S4x1x1024, .f32⟩
  | .hbm, ⟨53, _⟩ => ⟨S4x4096x1024, .f32⟩
  | .hbm, ⟨54, _⟩ => ⟨S4x4096x1024, .f32⟩
  | .hbm, ⟨55, _⟩ => ⟨S4x4096x1024, .f32⟩
  | .hbm, ⟨56, _⟩ => ⟨S4x4096x1024, .f32⟩
  | .hbm, ⟨57, _⟩ => ⟨S4x4096x1024, .bf16⟩
  | _, _ => ⟨S4x4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_cst_2 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_3 : Ref sig .tc := ⟨.hbm, 30, rfl⟩
abbrev main_v17 : Ref sig .tc := ⟨.hbm, 31, rfl⟩
abbrev main_v18 : Ref sig .tc := ⟨.hbm, 32, rfl⟩
abbrev main_cst_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_5 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_6 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩

abbrev nD : Nat := 1
abbrev τ : Topo := Topo.v7x

variable {F : FTy → Type} [FloatOps F]
-- ==== Kernel5.lean ====
abbrev S4x4096x1024 : Shape := ⟨3, ![4, 4096, 1024]⟩
abbrev S1024x3088 : Shape := ⟨2, ![1024, 3088]⟩
abbrev S1024x512 : Shape := ⟨2, ![1024, 512]⟩
abbrev S1024x256 : Shape := ⟨2, ![1024, 256]⟩
abbrev S1024x16 : Shape := ⟨2, ![1024, 16]⟩
abbrev S_ : Shape := ⟨0, ![]⟩
abbrev S1024x128 : Shape := ⟨2, ![1024, 128]⟩
abbrev S1024x3200 : Shape := ⟨2, ![1024, 3200]⟩
abbrev S512x1024 : Shape := ⟨2, ![512, 1024]⟩
abbrev S4x4096x512 : Shape := ⟨3, ![4, 4096, 512]⟩
abbrev S4x512x4096 : Shape := ⟨3, ![4, 512, 4096]⟩
abbrev S4x4096x256 : Shape := ⟨3, ![4, 4096, 256]⟩
abbrev S4x4096x128 : Shape := ⟨3, ![4, 4096, 128]⟩
abbrev S1x512x1024 : Shape := ⟨3, ![1, 512, 1024]⟩
abbrev S1x512x512 : Shape := ⟨3, ![1, 512, 512]⟩
abbrev S1x512x256 : Shape := ⟨3, ![1, 512, 256]⟩
abbrev S1x512x128 : Shape := ⟨3, ![1, 512, 128]⟩
abbrev S512x512 : Shape := ⟨2, ![512, 512]⟩
abbrev S512x256 : Shape := ⟨2, ![512, 256]⟩
abbrev S512x128 : Shape := ⟨2, ![512, 128]⟩

abbrev nBuf : Space → Nat
  | .hbm => 25
  | .vmem => 20
  | .smem => 0
  | _ => 0

abbrev bufTy : (tb : Table) → Fin (tcTables nBuf tb) → BufTy
  | .hbm, ⟨0, _⟩ => ⟨S4x4096x1024, .bf16⟩
  | .hbm, ⟨1, _⟩ => ⟨S1024x3088, .f32⟩
  | .hbm, ⟨2, _⟩ => ⟨S1024x512, .f32⟩
  | .hbm, ⟨3, _⟩ => ⟨S1024x512, .f32⟩
  | .hbm, ⟨4, _⟩ => ⟨S1024x512, .f32⟩
  | .hbm, ⟨5, _⟩ => ⟨S1024x256, .f32⟩
  | .hbm, ⟨6, _⟩ => ⟨S1024x256, .f32⟩
  | .hbm, ⟨7, _⟩ => ⟨S1024x512, .f32⟩
  | .hbm, ⟨8, _⟩ => ⟨S1024x512, .f32⟩
  | .hbm, ⟨9, _⟩ => ⟨S1024x16, .f32⟩
  | .hbm, ⟨10, _⟩ => ⟨S_, .i32⟩
  | .hbm, ⟨11, _⟩ => ⟨S_, .f32⟩
  | .hbm, ⟨12, _⟩ => ⟨S1024x128, .f32⟩
  | .hbm, ⟨13, _⟩ => ⟨S1024x3200, .f32⟩
  | .hbm, ⟨14, _⟩ => ⟨S1024x3200, .bf16⟩
  | .hbm, ⟨15, _⟩ => ⟨S512x1024, .f32⟩
  | .hbm, ⟨16, _⟩ => ⟨S512x1024, .bf16⟩
  | .hbm, ⟨17, _⟩ => ⟨S4x4096x512, .bf16⟩
  | .hbm, ⟨18, _⟩ => ⟨S4x4096x512, .bf16⟩
  | .hbm, ⟨19, _⟩ => ⟨S4x512x4096, .bf16⟩
  | .hbm, ⟨20, _⟩ => ⟨S4x4096x256, .f32⟩
  | .hbm, ⟨21, _⟩ => ⟨S4x4096x256, .f32⟩
  | .hbm, ⟨22, _⟩ => ⟨S4x4096x512, .f32⟩
  | .hbm, ⟨23, _⟩ => ⟨S4x4096x512, .f32⟩
  | .hbm, ⟨24, _⟩ => ⟨S4x4096x128, .f32⟩
  | .local _ .vmem, ⟨0, _⟩ => ⟨S1x512x1024, .bf16⟩
  | .local _ .vmem, ⟨1, _⟩ => ⟨S1x512x1024, .bf16⟩
  | .local _ .vmem, ⟨2, _⟩ => ⟨S1024x3200, .bf16⟩
  | .local _ .vmem, ⟨3, _⟩ => ⟨S512x1024, .bf16⟩
  | .local _ .vmem, ⟨4, _⟩ => ⟨S1x512x512, .bf16⟩
  | .local _ .vmem, ⟨5, _⟩ => ⟨S1x512x512, .bf16⟩
  | .local _ .vmem, ⟨6, _⟩ => ⟨S1x512x512, .bf16⟩
  | .local _ .vmem, ⟨7, _⟩ => ⟨S1x512x512, .bf16⟩
  | .local _ .vmem, ⟨8, _⟩ => ⟨S1x512x512, .bf16⟩
  | .local _ .vmem, ⟨9, _⟩ => ⟨S1x512x512, .bf16⟩
  | .local _ .vmem, ⟨10, _⟩ => ⟨S1x512x256, .f32⟩
  | .local _ .vmem, ⟨11, _⟩ => ⟨S1x512x256, .f32⟩
  | .local _ .vmem, ⟨12, _⟩ => ⟨S1x512x256, .f32⟩
  | .local _ .vmem, ⟨13, _⟩ => ⟨S1x512x256, .f32⟩
  | .local _ .vmem, ⟨14, _⟩ => ⟨S1x512x512, .f32⟩
  | .local _ .vmem, ⟨15, _⟩ => ⟨S1x512x512, .f32⟩
  | .local _ .vmem, ⟨16, _⟩ => ⟨S1x512x512, .f32⟩
  | .local _ .vmem, ⟨17, _⟩ => ⟨S1x512x512, .f32⟩
  | .local _ .vmem, ⟨18, _⟩ => ⟨S1x512x128, .f32⟩
  | .local _ .vmem, ⟨19, _⟩ => ⟨S1x512x128, .f32⟩
  | _, _ => ⟨S4x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_c : Ref sig .tc := ⟨.hbm, 10, rfl⟩
abbrev main_call0_v0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13_0 : Ref sig .tc := ⟨.hbm, 17, rfl⟩
abbrev main_v13_1 : Ref sig .tc := ⟨.hbm, 18, rfl⟩
abbrev main_v13_2 : Ref sig .tc := ⟨.hbm, 19, rfl⟩
abbrev main_v13_3 : Ref sig .tc := ⟨.hbm, 20, rfl⟩
abbrev main_v13_4 : Ref sig .tc := ⟨.hbm, 21, rfl⟩
abbrev main_v13_5 : Ref sig .tc := ⟨.hbm, 22, rfl⟩
abbrev main_v13_6 : Ref sig .tc := ⟨.hbm, 23, rfl⟩
abbrev main_v13_7 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x3200 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference5Ideal.lean ====
abbrev S4x4096x1024 : Shape := ⟨3, ![4, 4096, 1024]⟩
abbrev S1024x3088 : Shape := ⟨2, ![1024, 3088]⟩
abbrev S4x4096x3088 : Shape := ⟨3, ![4, 4096, 3088]⟩
abbrev S4x4096x512 : Shape := ⟨3, ![4, 4096, 512]⟩
abbrev S4x4096x256 : Shape := ⟨3, ![4, 4096, 256]⟩
abbrev S4x4096x16 : Shape := ⟨3, ![4, 4096, 16]⟩
abbrev S_ : Shape := ⟨0, ![]⟩
abbrev S4x512x4096 : Shape := ⟨3, ![4, 512, 4096]⟩
abbrev S4x4096x128 : Shape := ⟨3, ![4, 4096, 128]⟩

abbrev nBuf : Space → Nat
  | .hbm => 22
  | .vmem => 0
  | .smem => 0
  | _ => 0

abbrev bufTy : (tb : Table) → Fin (tcTables nBuf tb) → BufTy
  | .hbm, ⟨0, _⟩ => ⟨S4x4096x1024, .bf16⟩
  | .hbm, ⟨1, _⟩ => ⟨S1024x3088, .f32⟩
  | .hbm, ⟨2, _⟩ => ⟨S4x4096x1024, .f32⟩
  | .hbm, ⟨3, _⟩ => ⟨S4x4096x3088, .f32⟩
  | .hbm, ⟨4, _⟩ => ⟨S4x4096x512, .f32⟩
  | .hbm, ⟨5, _⟩ => ⟨S4x4096x512, .f32⟩
  | .hbm, ⟨6, _⟩ => ⟨S4x4096x512, .f32⟩
  | .hbm, ⟨7, _⟩ => ⟨S4x4096x256, .f32⟩
  | .hbm, ⟨8, _⟩ => ⟨S4x4096x256, .f32⟩
  | .hbm, ⟨9, _⟩ => ⟨S4x4096x512, .f32⟩
  | .hbm, ⟨10, _⟩ => ⟨S4x4096x512, .f32⟩
  | .hbm, ⟨11, _⟩ => ⟨S4x4096x16, .f32⟩
  | .hbm, ⟨12, _⟩ => ⟨S_, .f32⟩
  | .hbm, ⟨13, _⟩ => ⟨S4x4096x512, .f32⟩
  | .hbm, ⟨14, _⟩ => ⟨S4x4096x512, .f32⟩
  | .hbm, ⟨15, _⟩ => ⟨S4x4096x512, .bf16⟩
  | .hbm, ⟨16, _⟩ => ⟨S4x4096x512, .bf16⟩
  | .hbm, ⟨17, _⟩ => ⟨S4x512x4096, .f32⟩
  | .hbm, ⟨18, _⟩ => ⟨S4x512x4096, .bf16⟩
  | .hbm, ⟨19, _⟩ => ⟨S_, .i32⟩
  | .hbm, ⟨20, _⟩ => ⟨S_, .f32⟩
  | .hbm, ⟨21, _⟩ => ⟨S4x4096x128, .f32⟩
  | _, _ => ⟨S4x4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_c : Ref sig .tc := ⟨.hbm, 19, rfl⟩
abbrev main_call0_v0 : Ref sig .tc := ⟨.hbm, 20, rfl⟩
abbrev main_v16 : Ref sig .tc := ⟨.hbm, 21, rfl⟩

abbrev nD : Nat := 1
abbrev τ : Topo := Topo.v7x

variable {F : FTy → Type} [FloatOps F]
-- ==== Proof.GlaMath.lean ====
module
public import Idealize.ShloMosaic.Lib.Pointwise
public import Idealize.ShloMosaic.Lib.Pointwise.IndexVar
@[expose] public section
noncomputable section

/-! The scalar mathematics of one chunk of gated linear attention, over the extended reals. No program is mentioned. -/
namespace Gla
open Idealize.ShloMosaic Idealize.SL.Sem

/-- Column `d` of head `h` among the 256 query/key/decay columns. -/
def col (h : Fin 4) (d : Fin 64) : Fin 256 := ⟨64 * h.val + d.val, by omega⟩

/-- Column `e` of head `h` among the 512 value/gate columns. -/
def colv (h : Fin 4) (e : Fin 128) : Fin 512 := ⟨128 * h.val + e.val, by omega⟩

/-- The log-decay of a gate pre-activation `z`: `(min z 0 - log (1 + exp (-|z|))) / 16`. -/
def la (z : EReal) : EReal :=
  Ideal.div (min z 0 - Ideal.log1p (Ideal.exp (0 - max z (-z)))) (Ideal.ofBits FTy.f32 1098907648#32)

/-- The running sum of `l` up to and including position `t`. -/
def cum (l : Fin 64 → EReal) (t : Fin 64) : EReal := ∑ x, if x ≤ t then l x else 0

/-- The state after one chunk: the old state decayed over the chunk, plus the chunk's decayed outer products. -/
def stS (k : Fin 64 → Fin 64 → EReal) (v : Fin 64 → Fin 128 → EReal) (bc : Fin 64 → Fin 64 → EReal)
    (S : Fin 128 → Fin 64 → EReal) (e : Fin 128) (d : Fin 64) : EReal :=
  S e d * Ideal.exp (bc 63 d) + ∑ x, v x e * (k x d * Ideal.exp (bc 63 d - bc x d))

/-- The scaled query times its decay factor. -/
def qdS (q bc : Fin 64 → Fin 64 → EReal) (t d : Fin 64) : EReal :=
  q t d * Ideal.ofBits FTy.f32 0x3E000000#32 * Ideal.exp (bc t d)

/-- The score of positions `t` and `s` inside the chunk, before the causal mask. -/
def attnS (q k bc : Fin 64 → Fin 64 → EReal) (t s : Fin 64) : EReal :=
  ∑ d, qdS q bc t d * (k s d * Ideal.exp (0 - bc s d))

/-- The mixer's value at position `t`, value column `e`: inside the chunk (causal) plus from the carried state. -/
def oS (q k : Fin 64 → Fin 64 → EReal) (v : Fin 64 → Fin 128 → EReal) (bc : Fin 64 → Fin 64 → EReal)
    (S : Fin 128 → Fin 64 → EReal) (t : Fin 64) (e : Fin 128) : EReal :=
  (∑ s, if s ≤ t then attnS q k bc t s * v s e else 0) + ∑ d, qdS q bc t d * S e d

/-- The head's output: the mixer's value normalised by its root mean square, times the learned scale and the
    silu gate. -/
def outS (o : Fin 128 → EReal) (g r : Fin 128 → EReal) (e : Fin 128) : EReal :=
  o e * Ideal.rsqrt (Ideal.div (∑ x, o x * o x) (Ideal.ofBits FTy.f32 1124073472#32) + Ideal.ofBits FTy.f32 897988541#32)
    * g e * (r e * Ideal.logistic (r e))

theorem cum_congr {l l' : Fin 64 → EReal} (h : ∀ x, l x = l' x) (t : Fin 64) : cum l t = cum l' t := by
  rw [show l = l' from funext h]
theorem stS_congr {k k' : Fin 64 → Fin 64 → EReal} {v v' : Fin 64 → Fin 128 → EReal} {bc bc' : Fin 64 → Fin 64 → EReal}
    {S S' : Fin 128 → Fin 64 → EReal} (hk : ∀ x d, k x d = k' x d) (hv : ∀ x d, v x d = v' x d) (hb : ∀ x d, bc x d = bc' x d)
    (hS : ∀ x d, S x d = S' x d) (e : Fin 128) (d : Fin 64) : stS k v bc S e d = stS k' v' bc' S' e d := by
  rw [show k = k' from funext₂ hk, show v = v' from funext₂ hv, show bc = bc' from funext₂ hb, show S = S' from funext₂ hS]
theorem oS_congr {q q' k k' : Fin 64 → Fin 64 → EReal} {v v' : Fin 64 → Fin 128 → EReal} {bc bc' : Fin 64 → Fin 64 → EReal}
    {S S' : Fin 128 → Fin 64 → EReal} (hq : ∀ x d, q x d = q' x d) (hk : ∀ x d, k x d = k' x d) (hv : ∀ x d, v x d = v' x d) (hb : ∀ x d, bc x d = bc' x d)
    (hS : ∀ x d, S x d = S' x d) (t : Fin 64) (e : Fin 128) : oS q k v bc S t e = oS q' k' v' bc' S' t e := by
  rw [show q = q' from funext₂ hq, show k = k' from funext₂ hk, show v = v' from funext₂ hv, show bc = bc' from funext₂ hb, show S = S' from funext₂ hS]
theorem outS_congr {o o' g g' r r' : Fin 128 → EReal} (ho : ∀ x, o x = o' x) (hg : ∀ x, g x = g' x) (hr : ∀ x, r x = r' x) (e : Fin 128) :
    outS o g r e = outS o' g' r' e := by
  rw [show o = o' from funext ho, show g = g' from funext hg, show r = r' from funext hr]

/-- A comparison of two positions below 64 written as 32-bit words is the comparison of the positions. -/
theorem select_le (x t : Fin 64) (a b : EReal) :
    Scalar.select (IntOp.cmpi CmpIPredicate.sle (BitVec.ofNat 32 ↑x) (BitVec.ofNat 32 ↑t)) a b = if x ≤ t then a else b := by
  have : (IntOp.cmpi CmpIPredicate.sle (BitVec.ofNat 32 ↑x) (BitVec.ofNat 32 ↑t)) = if x ≤ t then 1#1 else 0#1 := by
    revert x t; decide +kernel
  rw [this]; by_cases h : x ≤ t <;> simp [h, Scalar.select]

/-- The head of one of the 512 value columns. -/
def hd (c : Fin 512) : Fin 4 := ⟨c.val / 128, by omega⟩

/-- The column inside its head. -/
def hc (c : Fin 512) : Fin 128 := ⟨c.val % 128, by omega⟩

theorem colv_hd (c : Fin 512) : colv (hd c) (hc c) = c := Fin.ext (by simp [colv, hd, hc]; omega)

/-- Position `t` of chunk `n`. -/
def pos (n : Fin 64) (t : Fin 64) : Fin 4096 := ⟨64 * n.val + t.val, by omega⟩

/-- What the mixer reads: queries, keys, values, gates, log-decays and the learned scale. -/
structure Dat where
  q : Fin 4 → Fin 4096 → Fin 256 → EReal
  k : Fin 4 → Fin 4096 → Fin 256 → EReal
  v : Fin 4 → Fin 4096 → Fin 512 → EReal
  r : Fin 4 → Fin 4096 → Fin 512 → EReal
  l : Fin 4 → Fin 4096 → Fin 256 → EReal
  g : Fin 512 → EReal

namespace Dat
variable (D : Dat)

/-- The running sum of the log-decays inside chunk `n`. -/
def bc (n : Fin 64) (b h : Fin 4) (t d : Fin 64) : EReal := cum (fun x => D.l b (pos n x) (col h d)) t

/-- The states before chunk `n`: zero before the first chunk. -/
def st : ℕ → Fin 4 → Fin 4 → Fin 128 → Fin 64 → EReal
  | 0 => fun _ _ _ _ => 0
  | n + 1 => fun b h e d =>
    if hn : n < 64 then
      stS (fun x d => D.k b (pos ⟨n, hn⟩ x) (col h d)) (fun x e => D.v b (pos ⟨n, hn⟩ x) (colv h e)) (D.bc ⟨n, hn⟩ b h) (st n b h) e d
    else 0

/-- The mixer's value before normalisation at position `t` of chunk `n`, head `h`. -/
def o (n : Fin 64) (b h : Fin 4) (t : Fin 64) (e : Fin 128) : EReal :=
  oS (fun x d => D.q b (pos n x) (col h d)) (fun x d => D.k b (pos n x) (col h d)) (fun x e => D.v b (pos n x) (colv h e))
    (D.bc n b h) (D.st n.val b h) t e

/-- The mixer's output at position `t` of chunk `n`, value column `c`. -/
def out (n : Fin 64) (b : Fin 4) (t : Fin 64) (c : Fin 512) : EReal :=
  outS (D.o n b (hd c) t) (fun e => D.g (colv (hd c) e)) (fun e => D.r b (pos n t) (colv (hd c) e)) (hc c)
end Dat

/-- The log-decay of a position and a column, from the low-rank gate input, its weight and its bias. -/
def decay (lr : Fin 4 → Fin 4096 → Fin 16 → EReal) (w : Fin 16 → Fin 256 → EReal) (b : Fin 256 → EReal) (i : Fin 4) (T : Fin 4096) (j : Fin 256) : EReal :=
  la (∑ x, lr i T x * w x j + b j)

/-- Summing a value and its difference from itself gives the value, unless it is plus infinity. -/
theorem add_sub_self_of {a : EReal} (h : a ≠ ⊤) : a + (a - a) = a := by
  induction a with
  | bot => simp
  | top => exact absurd rfl h
  | coe x => rw [EReal.sub_self (EReal.coe_ne_top x) (EReal.coe_ne_bot x), add_zero]

/-- The running sum split in a high and a low part that is a difference of a value from itself. -/
theorem cum_split (l : Fin 64 → EReal) (h : ∀ x, l x ≠ ⊤) (t : Fin 64) : cum l t + cum (fun x => l x - l x) t = cum l t := by
  unfold cum
  rw [← Finset.sum_add_distrib]
  refine Finset.sum_congr rfl fun x _ => ?_
  split_ifs
  · exact add_sub_self_of (h x)
  · exact add_zero _

/-- `log (1 + exp x)` is a nonnegative real unless `x` is plus infinity. -/
theorem log1p_exp {x : EReal} (h : x ≠ ⊤) : ∃ r : ℝ, 0 ≤ r ∧ Ideal.log1p (Ideal.exp x) = (r : EReal) := by
  induction x with
  | top => exact absurd rfl h
  | bot =>
    refine ⟨0, le_rfl, ?_⟩
    show Ideal.log (1 + 0) = _
    rw [add_zero]
    show (if (1:ℝ) ≤ 0 then (⊥ : EReal) else ((Real.log 1 : ℝ) : EReal)) = _
    rw [if_neg (by norm_num), Real.log_one]
  | coe x =>
    refine ⟨Real.log (1 + Real.exp x), Real.log_nonneg (by linarith [Real.exp_pos x]), ?_⟩
    show Ideal.log (1 + ((Real.exp x : ℝ) : EReal)) = _
    rw [show (1 : EReal) = ((1 : ℝ) : EReal) from rfl, ← EReal.coe_add]
    show (if (1 + Real.exp x) ≤ 0 then (⊥ : EReal) else ((Real.log _ : ℝ) : EReal)) = _
    rw [if_neg (by linarith [Real.exp_pos x])]
/-- The constant sixteen. -/
theorem c16 : Ideal.ofBits FTy.f32 1098907648#32 = ((16 : ℝ) : EReal) := by
  simp [Ideal.ofBits, Ideal.ieee, -EReal.coe_mul]; norm_num
theorem zabs_ne (z : EReal) : 0 - max z (-z) ≠ ⊤ := by
  have : 0 ≤ max z (-z) := by
    rcases le_total 0 z with h | h
    · exact le_max_of_le_left h
    · exact le_max_of_le_right (by simpa using EReal.neg_le_neg_iff.mpr h)
  intro e
  have h2 : 0 - max z (-z) ≤ 0 := by simpa [sub_eq_add_neg] using this
  rw [e] at h2
  exact absurd h2 (by simp)
/-- A log-decay is not plus infinity. -/
theorem la_ne_top (z : EReal) : la z ≠ ⊤ := by
  obtain ⟨r, hr, e⟩ := log1p_exp (zabs_ne z)
  unfold la
  rw [c16, Ideal.div_coe (by norm_num), e]
  have h : min z 0 - (r : EReal) ≤ 0 := by
    rw [sub_eq_add_neg]
    calc min z 0 + -(r : EReal) ≤ 0 + 0 := add_le_add (min_le_right _ _) (by rw [← EReal.coe_neg]; exact_mod_cast (by linarith : -r ≤ 0))
      _ = 0 := add_zero 0
  have : (min z 0 - (r : EReal)) * ((1 / 16 : ℝ) : EReal) ≤ 0 := by
    have := mul_nonneg (EReal.neg_nonneg.mpr h) (show (0:EReal) ≤ ((1/16 : ℝ) : EReal) by exact_mod_cast (by norm_num : (0:ℝ) ≤ 1/16))
    rw [EReal.neg_mul] at this
    exact EReal.neg_nonneg.mp this
  intro e
  rw [e] at this
  exact absurd this (by simp)
/-- The log-decay written through the softplus of the negated pre-activation. -/
theorem la_softplus (z : EReal) : Ideal.div (-(max (-z) 0 + Ideal.log1p (Ideal.exp (-(max (-z) (- -z)))))) (Ideal.ofBits FTy.f32 1098907648#32) = la z := by
  obtain ⟨r, hr, e⟩ := log1p_exp (zabs_ne z)
  unfold la
  have e2 : -(max (-z) (- -z)) = 0 - max z (-z) := by rw [neg_neg, max_comm, zero_sub]
  rw [e2, e, EReal.neg_add (Or.inr (by simp)) (Or.inr (by simp))]
  congr 2
  rcases le_total 0 z with h | h
  · rw [max_eq_right (by simpa using h), min_eq_right h, neg_zero]
  · rw [max_eq_left (by simpa using h), min_eq_left h, neg_neg]
/-- A sum over 128 padded columns is the sum over the 16 that are not padding. -/
theorem sum_pad (f g : Fin 16 → EReal) :
    ∑ j : Fin 128, (if h : j.val < 16 then f ⟨j.val, h⟩ else 0) * (if h : j.val < 16 then g ⟨j.val, h⟩ else 0) = ∑ j : Fin 16, f j * g j := by
  have h : ∀ n : ℕ, ∑ j : Fin (16 + n), ((if h : j.val < 16 then f ⟨j.val, h⟩ else 0) * (if h : j.val < 16 then g ⟨j.val, h⟩ else 0) : EReal) = ∑ j : Fin 16, f j * g j := by
    intro n
    rw [Fin.sum_univ_add]
    simp
  exact h 112
end Gla
-- ==== Proof.GlaBlock.lean ====
module
public import proofs.«01_k».proof.Proof.GlaMath
public import proofs.«01_k».proof.Proof.Gen.KernelIdeal.Frame
public import Idealize.ShloMosaic.Lib.Pipeline.ValueKit.Tiles
@[expose] public section
set_option maxRecDepth 16384
noncomputable section
namespace Cert.KernelIdeal.Gla
open Cert.KernelIdeal Cert.KernelIdeal.Gen
open Idealize.ShloMosaic Idealize.ShloMosaic.TcCoe Idealize.SL.Sem
open _root_.Gla

/-- The chunk's running sums of log-decays as the kernel computes them, as an expression of its loads. -/
def bcV (lr : Vec Ideal S1x64x128 .f32) (w : Vec Ideal S128x256 .f32) (b : Vec Ideal S1x256 .f32) : FVec Ideal S64x256 .f32 :=
  k0_pay5 lr w b

/-- One head's new state, as an expression of the kernel's loads. `ok`, `ov` are the head's first columns. -/
def stChain (ok ov : ℕ) (h1 : S64x256.Slices ![0, ok] S64x64) (h2 : S1x256.Slices ![0, ok] S1x64)
    (h3 : S64x512.Slices ![0, ov] S64x128) (bc : FVec Ideal S64x256 .f32)
    (k : Vec Ideal S1x64x256 .f32) (v : Vec Ideal S1x64x512 .f32) (s : Vec Ideal S1x1x128x64 .f32) : FVec Ideal S1x1x128x64 .f32 :=
  shapeCast S1x1x128x64
    (addf
      (mulf (shapeCast S128x64 s shapeCasts_S1x1x128x64_S128x64)
        (broadcastTo S128x64
          (extractStridedSlice S1x64 ![0, ok] (exp (extractStridedSlice S1x256 ![63, 0] bc slices_S64x256_o63_0_S1x256)) h2)
          broadcasts_S1x64_S128x64))
      (matmul dot_S64x128_S64x64_S128x64_0_0_1_1_n_n none
        (truncf .bf16 (extractStridedSlice S64x128 ![0, ov] (shapeCast S64x512 v shapeCasts_S1x64x512_S64x512) h3) bitsLt_bf16_f32)
        (truncf .bf16 (extractStridedSlice S64x64 ![0, ok]
          (k0_pay9 bc (extractStridedSlice S1x256 ![63, 0] bc slices_S64x256_o63_0_S1x256) k) h1) bitsLt_bf16_f32)
        (constant S128x64 .f32 0x00000000#32)))
    shapeCasts_S128x64_S1x1x128x64

/-- One head's mixer value before normalisation, as an expression of the kernel's loads. -/
def oChain (ok ov : ℕ) (h1 : S64x256.Slices ![0, ok] S64x64)
    (h3 : S64x512.Slices ![0, ov] S64x128) (bc : FVec Ideal S64x256 .f32) (q k : Vec Ideal S1x64x256 .f32)
    (v : Vec Ideal S1x64x512 .f32) (s : Vec Ideal S1x1x128x64 .f32) : FVec Ideal S64x128 .f32 :=
  addf
    (matmul dot_S64x64_S64x128_S64x128_1_0_0_1_n_n none
      (truncf .bf16
        (select k0_pay3
          (matmul dot_S64x64_S64x64_S64x64_1_1_0_0_n_n none
            (truncf .bf16 (extractStridedSlice S64x64 ![0, ok] (k0_pay7 bc q) h1) bitsLt_bf16_f32)
            (truncf .bf16 (extractStridedSlice S64x64 ![0, ok] (k0_pay8 bc k) h1) bitsLt_bf16_f32)
            (constant S64x64 .f32 0x00000000#32))
          (broadcast S64x64 (Scalar.ofBits .f32 0x00000000#32))) bitsLt_bf16_f32)
      (truncf .bf16 (extractStridedSlice S64x128 ![0, ov] (shapeCast S64x512 v shapeCasts_S1x64x512_S64x512) h3) bitsLt_bf16_f32)
      (constant S64x128 .f32 0x00000000#32))
    (matmul dot_S64x64_S128x64_S64x128_1_1_0_0_n_n none
      (truncf .bf16 (extractStridedSlice S64x64 ![0, ok] (k0_pay7 bc q) h1) bitsLt_bf16_f32)
      (truncf .bf16 (shapeCast S128x64 s shapeCasts_S1x1x128x64_S128x64) bitsLt_bf16_f32)
      (constant S64x128 .f32 0x00000000#32))

/-- One head's gated output from its mixer value `o`, the chunk's gate rows `r` and the head's scale row `g`. -/
def gateChain (ov : ℕ) (h3 : S64x512.Slices ![0, ov] S64x128) (o : FVec Ideal S64x128 .f32) (r : Vec Ideal S1x64x512 .f32) (g : Vec Ideal S1x128 .f32) : FVec Ideal S64x128 .f32 :=
  mulf
    (mulf
      (mulf o
        (broadcastTo S64x128
          (rsqrt (addf (divf (shapeCast S64x1 (multiReduction .add [1] S64 (mulf o o) 0x00000000#32 reduces_S64x128_S64 (.inl rfl) rfl) shapeCasts_S64_S64x1)
            (broadcast S64x1 (Scalar.ofBits .f32 0x43000000#32))) (broadcast S64x1 (Scalar.ofBits .f32 0x358637BD#32))))
          broadcasts_S64x1_S64x128))
      (broadcastTo S64x128 (shapeCast S1x128 g shapeCasts_S1x128_S1x128) broadcasts_S1x128_S64x128))
    (mulf (extractStridedSlice S64x128 ![0, ov] (shapeCast S64x512 r shapeCasts_S1x64x512_S64x512) h3)
      (logistic (extractStridedSlice S64x128 ![0, ov] (shapeCast S64x512 r shapeCasts_S1x64x512_S64x512) h3)))

/-- The running sums read at a position and a column. -/
theorem bcV_apply (lr : Vec Ideal S1x64x128 .f32) (w : Vec Ideal S128x256 .f32) (b : Vec Ideal S1x256 .f32) (t : Fin 64) (c : Fin 256) :
    bcV lr w b (ix2 t c) =
      cum (fun x => la (∑ j : Fin 128, lr (ix3 0 x j) * w (ix2 j c) + b (ix2 0 c))) t
      + cum (fun x => la (∑ j : Fin 128, lr (ix3 0 x j) * w (ix2 j c) + b (ix2 0 c)) - la (∑ j : Fin 128, lr (ix3 0 x j) * w (ix2 j c) + b (ix2 0 c))) t := by
  pointwise [bcV, k0_pay5, k0_pay4, k0_pay3]
  simp only [select_le]
  rfl

theorem stChain_apply (ok ov : ℕ) (h1 h2 h3) (bc k v s) (hok : ok + 64 ≤ 256) (hov : ov + 128 ≤ 512) (a b : Fin 1) (e : Fin 128) (d : Fin 64) :
    stChain ok ov h1 h2 h3 bc k v s (ix4 a b e d) =
      stS (fun x d => k (ix3 0 x ⟨ok + d.val, by omega⟩)) (fun x e => v (ix3 0 x ⟨ov + e.val, by omega⟩))
        (fun x d => bc (ix2 x ⟨ok + d.val, by omega⟩)) (fun e d => s (ix4 0 0 e d)) e d := by
  pointwise [stChain, k0_pay9]
  rfl

theorem oChain_apply (ok ov : ℕ) (h1 h3) (bc q k v s) (hok : ok + 64 ≤ 256) (hov : ov + 128 ≤ 512) (t : Fin 64) (e : Fin 128) :
    oChain ok ov h1 h3 bc q k v s (ix2 t e) =
      oS (fun x d => q (ix3 0 x ⟨ok + d.val, by omega⟩)) (fun x d => k (ix3 0 x ⟨ok + d.val, by omega⟩)) (fun x e => v (ix3 0 x ⟨ov + e.val, by omega⟩))
        (fun x d => bc (ix2 x ⟨ok + d.val, by omega⟩)) (fun e d => s (ix4 0 0 e d)) t e := by
  pointwise [oChain, k0_pay7, k0_pay8, k0_pay3]
  simp only [select_le]
  rfl

theorem gateChain_apply (ov : ℕ) (h3) (o r g) (hov : ov + 128 ≤ 512) (t : Fin 64) (e : Fin 128) :
    gateChain ov h3 o r g (ix2 t e) =
      outS (fun e => o (ix2 t e)) (fun e => g (ix2 0 e)) (fun e => r (ix3 0 t ⟨ov + e.val, by omega⟩)) e := by
  pointwise [gateChain]
  rfl

/-- The running sums of the batch row `b` of a chunk, from the chunk's whole blocks. -/
def bcS (x4 : Vec Ideal S4x64x128 .f32) (x5 : Vec Ideal S128x256 .f32) (x6 : Vec Ideal S1x256 .f32) (b : Fin 4) (t : Fin 64) (c : Fin 256) : EReal :=
  cum (fun x => la (∑ j : Fin 128, x4 (ix3 b x j) * x5 (ix2 j c) + x6 (ix2 0 c))) t
      + cum (fun x => la (∑ j : Fin 128, x4 (ix3 b x j) * x5 (ix2 j c) + x6 (ix2 0 c)) - la (∑ j : Fin 128, x4 (ix3 b x j) * x5 (ix2 j c) + x6 (ix2 0 c))) t

theorem ld3_256 {t : Vec Ideal S4x64x256 .f32} (bn p) (b : Fin 4) (hb : b.val = bn) (i : Fin 64) (j : Fin 256) :
    View.ld t (Rect.unit ![bn, 0, 0] ![1, 64, 256] p) (ix3 0 i j) = t (ix3 b i j) := by
  subst hb
  apply View.ld_unit_apply_of
  intro a; fin_cases a <;> simp
theorem ld3_512 {t : Vec Ideal S4x64x512 .f32} (bn p) (b : Fin 4) (hb : b.val = bn) (i : Fin 64) (j : Fin 512) :
    View.ld t (Rect.unit ![bn, 0, 0] ![1, 64, 512] p) (ix3 0 i j) = t (ix3 b i j) := by
  subst hb
  apply View.ld_unit_apply_of
  intro a; fin_cases a <;> simp
theorem ld3_128 {t : Vec Ideal S4x64x128 .f32} (bn p) (b : Fin 4) (hb : b.val = bn) (i : Fin 64) (j : Fin 128) :
    View.ld t (Rect.unit ![bn, 0, 0] ![1, 64, 128] p) (ix3 0 i j) = t (ix3 b i j) := by
  subst hb
  apply View.ld_unit_apply_of
  intro a; fin_cases a <;> simp
theorem ld4 {t : Vec Ideal S4x4x128x64 .f32} (bn hn p) (b h : Fin 4) (hb : b.val = bn) (hh : h.val = hn) (i : Fin 128) (j : Fin 64) :
    View.ld t (Rect.unit ![bn, hn, 0, 0] ![1, 1, 128, 64] p) (ix4 0 0 i j) = t (ix4 b h i j) := by
  subst hb hh
  apply View.ld_unit_apply_of
  intro a; fin_cases a <;> simp
theorem ld2g {t : Vec Ideal S1x512 .f32} (ov p) (h : Fin 4) (hov : ov = 128 * h.val) (j : Fin 128) :
    View.ld t (Rect.unit ![0, ov] ![1, 128] p) (ix2 0 j) = t (ix2 0 (colv h j)) := by
  subst hov
  apply View.ld_unit_apply_of
  intro a; fin_cases a <;> simp [colv]

theorem bc_piece {x4 : Vec Ideal S4x64x128 .f32} {x5 : Vec Ideal S128x256 .f32} {x6 : Vec Ideal S1x256 .f32} (bn : ℕ) (p4 p5 p6) (b : Fin 4) (hb : b.val = bn) (t : Fin 64) (c : Fin 256) :
    bcV (View.ld x4 (Rect.unit ![bn, 0, 0] S1x64x128.size p4)) (View.ld x5 (Rect.unit ![0, 0] S128x256.size p5)) (View.ld x6 (Rect.unit ![0, 0] S1x256.size p6)) (ix2 t c) = bcS x4 x5 x6 b t c := by
  rw [bcV_apply, View.ld_unit_lit' p5 x5 (by decide), View.ld_unit_lit' p6 x6 (by decide)]
  have e : ∀ x, la (∑ j : Fin 128, View.ld x4 (Rect.unit ![bn, 0, 0] S1x64x128.size p4) (ix3 0 x j) * x5 (ix2 j c) + x6 (ix2 0 c))
      = la (∑ j : Fin 128, x4 (ix3 b x j) * x5 (ix2 j c) + x6 (ix2 0 c)) := fun x => by
    refine congrArg la (congrArg (· + _) (Finset.sum_congr rfl fun j _ => congrArg (· * _) (ld3_128 bn p4 b hb x j)))
  exact congr (congrArg _ (cum_congr e t)) (cum_congr (fun x => congr (congrArg _ (e x)) (e x)) t)

/-- The piece of new state one head stores, at an index. -/
theorem st_piece {x1 : Vec Ideal S4x64x256 .f32} {x2 : Vec Ideal S4x64x512 .f32} {x4 : Vec Ideal S4x64x128 .f32} {x5 : Vec Ideal S128x256 .f32} {x6 : Vec Ideal S1x256 .f32} (bn ok ov : ℕ) (h1 h2 h3) (p1 p2 p4 p5 p6) (s : Vec Ideal S1x1x128x64 .f32) (S : Fin 128 → Fin 64 → EReal)
   (x : S1x1x128x64.Idx) (b h : Fin 4) (hb : b.val = bn) (hok : ok = 64 * h.val) (hov : ov = 128 * h.val) (hs : ∀ e d, s (ix4 0 0 e d) = S e d) :
   stChain ok ov h1 h2 h3 (bcV (View.ld x4 (Rect.unit ![bn, 0, 0] S1x64x128.size p4)) (View.ld x5 (Rect.unit ![0, 0] S128x256.size p5)) (View.ld x6 (Rect.unit ![0, 0] S1x256.size p6))) (View.ld x1 (Rect.unit ![bn, 0, 0] S1x64x256.size p1)) (View.ld x2 (Rect.unit ![bn, 0, 0] S1x64x512.size p2)) s x =
    stS (fun x d => x1 (ix3 b x (col h d))) (fun x e => x2 (ix3 b x (colv h e)))
     (fun x d => bcS x4 x5 x6 b x (col h d)) S (x 2) (x 3) := by
  idx_vars x
  subst hok hov
  rw [stChain_apply _ _ _ _ _ _ _ _ _ (by omega) (by omega)]
  exact stS_congr (fun _ _ => ld3_256 bn p1 b hb _ _) (fun _ _ => ld3_512 bn p2 b hb _ _)
    (fun _ _ => bc_piece bn p4 p5 p6 b hb _ _) hs _ _

/-- The output one head contributes, at an index. -/
theorem out_piece {x0 x1 : Vec Ideal S4x64x256 .f32} {x2 x3 : Vec Ideal S4x64x512 .f32} {x4 : Vec Ideal S4x64x128 .f32} {x5 : Vec Ideal S128x256 .f32} {x6 : Vec Ideal S1x256 .f32} {x7 : Vec Ideal S1x512 .f32} (bn ok ov : ℕ) (h1 h3) (p0 p1 p2 p3 p4 p5 p6 p7) (s : Vec Ideal S1x1x128x64 .f32) (S : Fin 128 → Fin 64 → EReal)
   (t : Fin 64) (e : Fin 128) (b h : Fin 4) (hb : b.val = bn) (hok : ok = 64 * h.val) (hov : ov = 128 * h.val) (hs : ∀ e d, s (ix4 0 0 e d) = S e d) :
   gateChain ov h3 (oChain ok ov h1 h3 (bcV (View.ld x4 (Rect.unit ![bn, 0, 0] S1x64x128.size p4)) (View.ld x5 (Rect.unit ![0, 0] S128x256.size p5)) (View.ld x6 (Rect.unit ![0, 0] S1x256.size p6))) (View.ld x0 (Rect.unit ![bn, 0, 0] S1x64x256.size p0)) (View.ld x1 (Rect.unit ![bn, 0, 0] S1x64x256.size p1)) (View.ld x2 (Rect.unit ![bn, 0, 0] S1x64x512.size p2)) s) (View.ld x3 (Rect.unit ![bn, 0, 0] S1x64x512.size p3)) (View.ld x7 (Rect.unit ![0, ov] S1x128.size p7)) (ix2 t e) =
    outS (oS (fun x d => x0 (ix3 b x (col h d))) (fun x d => x1 (ix3 b x (col h d))) (fun x e => x2 (ix3 b x (colv h e)))
     (fun x d => bcS x4 x5 x6 b x (col h d)) S t) (fun e => x7 (ix2 0 (colv h e))) (fun e => x3 (ix3 b t (colv h e))) e := by
  rw [gateChain_apply _ _ _ _ _ (by omega)]
  subst hok hov
  refine outS_congr (fun e => ?_) (fun e => ld2g _ p7 h rfl e) (fun e => ld3_512 bn p3 b hb _ _) _
  rw [oChain_apply _ _ _ _ _ _ _ _ _ (by omega) (by omega)]
  exact oS_congr (fun _ _ => ld3_256 bn p0 b hb _ _) (fun _ _ => ld3_256 bn p1 b hb _ _) (fun _ _ => ld3_512 bn p2 b hb _ _)
    (fun _ _ => bc_piece bn p4 p5 p6 b hb _ _) hs _ _

/-- Four heads' outputs laid side by side read at a column: the column's head at the column inside it. -/
theorem cat_apply (o0 o1 o2 o3 : FVec Ideal S64x128 .f32) (a : Fin 1) (t : Fin 64) (c : Fin 512) (r : EReal)
    (h0 : hd c = 0 → o0 (ix2 t (hc c)) = r) (h1 : hd c = 1 → o1 (ix2 t (hc c)) = r)
    (h2 : hd c = 2 → o2 (ix2 t (hc c)) = r) (h3 : hd c = 3 → o3 (ix2 t (hc c)) = r) :
    shapeCast S1x64x512 (truncf (φ := .f32) .bf16 (concatenate S64x512 1 [⟨S64x128, o0⟩, ⟨S64x128, o1⟩, ⟨S64x128, o2⟩, ⟨S64x128, o3⟩]
      concatenates_S64x128_S64x128_S64x128_S64x128_S64x512_d1 : FVec Ideal S64x512 .f32) bitsLt_bf16_f32) shapeCasts_S64x512_S1x64x512 (ix3 a t c)
      = r := by
  pointwise
  have hlt := c.isLt
  have key : ∀ (k : Fin 4) (o : FVec Ideal S64x128 .f32) (j : Fin 128), c.val = 128 * k.val + j.val → (hd c = k → o (ix2 t (hc c)) = r) → o (ix2 t j) = r := by
    intro k o j h hk
    rw [← hk (Fin.ext (by simp [hd]; omega)), show j = hc c from Fin.ext (by simp [hc]; omega)]
  split_ifs
  all_goals first
    | exact key 0 o0 ⟨c.val, by omega⟩ (by show c.val = 128 * 0 + c.val; omega) h0
    | exact key 1 o1 ⟨c.val - 128, by omega⟩ (by show c.val = 128 * 1 + (c.val - 128); omega) h1
    | exact key 2 o2 ⟨c.val - 128 - 128, by omega⟩ (by show c.val = 128 * 2 + (c.val - 128 - 128); omega) h2
    | exact key 3 o3 ⟨c.val - 128 - 128 - 128, by omega⟩ (by show c.val = 128 * 3 + (c.val - 128 - 128 - 128); omega) h3

/-- The carried states after a chunk, from the chunk's whole blocks and the states before it. -/
def stT (x1 : Vec Ideal S4x64x256 .f32) (x2 : Vec Ideal S4x64x512 .f32) (x4 : Vec Ideal S4x64x128 .f32) (x5 : Vec Ideal S128x256 .f32)
    (x6 : Vec Ideal S1x256 .f32) (S : Vec Ideal S4x4x128x64 .f32) : Vec Ideal S4x4x128x64 .f32 := fun y =>
  stS (fun x d => x1 (ix3 (y 0) x (col (y 1) d))) (fun x e => x2 (ix3 (y 0) x (colv (y 1) e)))
     (fun x d => bcS x4 x5 x6 (y 0) x (col (y 1) d)) (fun e d => S (ix4 (y 0) (y 1) e d)) (y 2) (y 3)

/-- The outputs of a chunk, from the chunk's whole blocks and the states before it. -/
def outT (x0 x1 : Vec Ideal S4x64x256 .f32) (x2 x3 : Vec Ideal S4x64x512 .f32) (x4 : Vec Ideal S4x64x128 .f32) (x5 : Vec Ideal S128x256 .f32)
    (x6 : Vec Ideal S1x256 .f32) (x7 : Vec Ideal S1x512 .f32) (S : Vec Ideal S4x4x128x64 .f32) : Vec Ideal S4x64x512 .bf16 := fun y =>
  outS (oS (fun x d => x0 (ix3 (y 0) x (col (hd (y 2)) d))) (fun x d => x1 (ix3 (y 0) x (col (hd (y 2)) d))) (fun x e => x2 (ix3 (y 0) x (colv (hd (y 2)) e)))
     (fun x d => bcS x4 x5 x6 (y 0) x (col (hd (y 2)) d)) (fun e d => S (ix4 (y 0) (hd (y 2)) e d)) (y 1)) (fun e => x7 (ix2 0 (colv (hd (y 2)) e)))
     (fun e => x3 (ix3 (y 0) (y 1) (colv (hd (y 2)) e))) (hc (y 2))
/-- The piece of output one batch row stores, at an index. -/
theorem out_block {x0 x1 : Vec Ideal S4x64x256 .f32} {x2 x3 : Vec Ideal S4x64x512 .f32} {x4 : Vec Ideal S4x64x128 .f32} {x5 : Vec Ideal S128x256 .f32} {x6 : Vec Ideal S1x256 .f32} {x7 : Vec Ideal S1x512 .f32} (bn : ℕ) (p0 p1 p2 p3 p4 p5 p6 p70 p71 p72 p73) (s0 s1 s2 s3 : Vec Ideal S1x1x128x64 .f32) (S : Fin 4 → Fin 128 → Fin 64 → EReal)
    (x : S1x64x512.Idx) (b : Fin 4) (hb : b.val = bn) (hs0 : ∀ e d, s0 (ix4 0 0 e d) = S 0 e d) (hs1 : ∀ e d, s1 (ix4 0 0 e d) = S 1 e d)
    (hs2 : ∀ e d, s2 (ix4 0 0 e d) = S 2 e d) (hs3 : ∀ e d, s3 (ix4 0 0 e d) = S 3 e d) :
    shapeCast S1x64x512 (truncf (φ := .f32) .bf16 (concatenate S64x512 1 [⟨S64x128, gateChain 0 slices_S64x512_o0_0_S64x128 (oChain 0 0 slices_S64x256_o0_0_S64x64 slices_S64x512_o0_0_S64x128 (bcV (View.ld x4 (Rect.unit ![bn, 0, 0] S1x64x128.size p4)) (View.ld x5 (Rect.unit ![0, 0] S128x256.size p5)) (View.ld x6 (Rect.unit ![0, 0] S1x256.size p6))) (View.ld x0 (Rect.unit ![bn, 0, 0] S1x64x256.size p0)) (View.ld x1 (Rect.unit ![bn, 0, 0] S1x64x256.size p1)) (View.ld x2 (Rect.unit ![bn, 0, 0] S1x64x512.size p2)) s0) (View.ld x3 (Rect.unit ![bn, 0, 0] S1x64x512.size p3)) (View.ld x7 (Rect.unit ![0, 0] S1x128.size p70))⟩, ⟨S64x128, gateChain 128 slices_S64x512_o0_128_S64x128 (oChain 64 128 slices_S64x256_o0_64_S64x64 slices_S64x512_o0_128_S64x128 (bcV (View.ld x4 (Rect.unit ![bn, 0, 0] S1x64x128.size p4)) (View.ld x5 (Rect.unit ![0, 0] S128x256.size p5)) (View.ld x6 (Rect.unit ![0, 0] S1x256.size p6))) (View.ld x0 (Rect.unit ![bn, 0, 0] S1x64x256.size p0)) (View.ld x1 (Rect.unit ![bn, 0, 0] S1x64x256.size p1)) (View.ld x2 (Rect.unit ![bn, 0, 0] S1x64x512.size p2)) s1) (View.ld x3 (Rect.unit ![bn, 0, 0] S1x64x512.size p3)) (View.ld x7 (Rect.unit ![0, 128] S1x128.size p71))⟩, ⟨S64x128, gateChain 256 slices_S64x512_o0_256_S64x128 (oChain 128 256 slices_S64x256_o0_128_S64x64 slices_S64x512_o0_256_S64x128 (bcV (View.ld x4 (Rect.unit ![bn, 0, 0] S1x64x128.size p4)) (View.ld x5 (Rect.unit ![0, 0] S128x256.size p5)) (View.ld x6 (Rect.unit ![0, 0] S1x256.size p6))) (View.ld x0 (Rect.unit ![bn, 0, 0] S1x64x256.size p0)) (View.ld x1 (Rect.unit ![bn, 0, 0] S1x64x256.size p1)) (View.ld x2 (Rect.unit ![bn, 0, 0] S1x64x512.size p2)) s2) (View.ld x3 (Rect.unit ![bn, 0, 0] S1x64x512.size p3)) (View.ld x7 (Rect.unit ![0, 256] S1x128.size p72))⟩, ⟨S64x128, gateChain 384 slices_S64x512_o0_384_S64x128 (oChain 192 384 slices_S64x256_o0_192_S64x64 slices_S64x512_o0_384_S64x128 (bcV (View.ld x4 (Rect.unit ![bn, 0, 0] S1x64x128.size p4)) (View.ld x5 (Rect.unit ![0, 0] S128x256.size p5)) (View.ld x6 (Rect.unit ![0, 0] S1x256.size p6))) (View.ld x0 (Rect.unit ![bn, 0, 0] S1x64x256.size p0)) (View.ld x1 (Rect.unit ![bn, 0, 0] S1x64x256.size p1)) (View.ld x2 (Rect.unit ![bn, 0, 0] S1x64x512.size p2)) s3) (View.ld x3 (Rect.unit ![bn, 0, 0] S1x64x512.size p3)) (View.ld x7 (Rect.unit ![0, 384] S1x128.size p73))⟩]
      concatenates_S64x128_S64x128_S64x128_S64x128_S64x512_d1 : FVec Ideal S64x512 .f32) bitsLt_bf16_f32) shapeCasts_S64x512_S1x64x512 x
      = outS (oS (fun t d => x0 (ix3 b t (col (hd (x 2)) d))) (fun t d => x1 (ix3 b t (col (hd (x 2)) d))) (fun t e => x2 (ix3 b t (colv (hd (x 2)) e)))
     (fun t d => bcS x4 x5 x6 b t (col (hd (x 2)) d)) (S (hd (x 2))) (x 1)) (fun e => x7 (ix2 0 (colv (hd (x 2)) e)))
     (fun e => x3 (ix3 b (x 1) (colv (hd (x 2)) e))) (hc (x 2)) := by
  idx_vars x
  refine cat_apply _ _ _ _ _ _ _ _ (fun h => ?_) (fun h => ?_) (fun h => ?_) (fun h => ?_)
  all_goals
    rw [h]
  · exact out_piece bn _ _ _ _ p0 p1 p2 p3 p4 p5 p6 p70 s0 (S 0) _ _ b 0 hb rfl rfl hs0
  · exact out_piece bn _ _ _ _ p0 p1 p2 p3 p4 p5 p6 p71 s1 (S 1) _ _ b 1 hb rfl rfl hs1
  · exact out_piece bn _ _ _ _ p0 p1 p2 p3 p4 p5 p6 p72 s2 (S 2) _ _ b 2 hb rfl rfl hs2
  · exact out_piece bn _ _ _ _ p0 p1 p2 p3 p4 p5 p6 p73 s3 (S 3) _ _ b 3 hb rfl rfl hs3
end Cert.KernelIdeal.Gla
-- ==== Proof.GlaCaseA.lean ====
module
public import proofs.«01_k».proof.Proof.GlaBlock
@[expose] public section
set_option maxRecDepth 16384
set_option maxHeartbeats 2000000
noncomputable section
namespace Cert.KernelIdeal.Gla
open Cert.KernelIdeal Cert.KernelIdeal.Gen
open Idealize.ShloMosaic Idealize.ShloMosaic.TcCoe Idealize.SL.Sem
open _root_.Gla

/-- The all-zero states a sequence starts from. -/
def zst : Vec Ideal S4x4x128x64 .f32 := fun _ => 0

/-- One stored tile of a list of stores, read at an index: the tile's value where it holds the index, and what the
    earlier stores left elsewhere. -/
theorem tile_step (bn hn : ℕ) (p) (w : Vec Ideal S1x1x128x64 .f32) (L : List (View.Piece (Elt Ideal) S4x4x128x64 .f32)) (y : S4x4x128x64.Idx) (r : EReal)
    (hit : (y 0).val = bn → (y 1).val = hn → w (ix4 0 0 (y 2) (y 3)) = r)
    (skip : ¬((y 0).val = bn ∧ (y 1).val = hn) → View.canon L y = r) :
    View.canon (⟨Rect.unit (s := S4x4x128x64) ![bn, hn, 0, 0] S1x1x128x64.size p, w⟩ :: L) y = r := by
  by_cases h : (y 0).val = bn ∧ (y 1).val = hn
  · rw [← hit h.1 h.2]
    have e : y = (Rect.unit (s := S4x4x128x64) ![bn, hn, 0, 0] S1x1x128x64.size p).emb (ix4 0 0 (y 2) (y 3)) := by
      obtain ⟨h0, h1⟩ := h
      subst h0 h1
      funext a; apply Fin.ext
      refine ((Rect.idx_unit_val _ _ _ _ _).trans ?_).symm
      fin_cases a <;> simp
    conv_lhs => rw [e]
    exact View.canon_cons_emb _ _ _ _
  · rw [← skip h]
    apply View.canon_cons_of_not_mem
    rw [Rect.mem_set_unit]
    intro hm
    apply h
    have h0 := hm 0
    have h1 := hm 1
    simp at h0 h1
    omega

/-- The zeroing store read at an index. -/
theorem zero_base (p) (y : S4x4x128x64.Idx) :
    View.canon [(⟨Rect.unit (s := S4x4x128x64) ![0, 0, 0, 0] S4x4x128x64.size p, k0_pay2 (F := Ideal)⟩ : View.Piece (Elt Ideal) S4x4x128x64 .f32)] y = (0 : EReal) := by
  rw [View.canon_cons_unit_lit' p _ _ (by decide)]
  idx_vars y
  pointwise [k0_pay2]

/-- A load of one tile from the stores so far, when they left zero there. -/
theorem zero_read (v : View sig .tc .vmem S4x4x128x64 .f32) (L : List (View.Piece (Elt Ideal) S4x4x128x64 .f32)) (bn hn : ℕ) (p)
    (h : ∀ y : S4x4x128x64.Idx, (y 0).val = bn → (y 1).val = hn → View.canon L y = (0 : EReal)) (e : Fin 128) (d : Fin 64) :
    v.readCov L (Rect.unit (s := S4x4x128x64) ![bn, hn, 0, 0] S1x1x128x64.size p).toLoadRect (ix4 0 0 e d) = (0 : EReal) := by
  rw [View.readCov_eq_canon']
  apply h
  · exact (Rect.idx_unit_val _ _ _ _ _).trans (by simp)
  · exact (Rect.idx_unit_val _ _ _ _ _).trans (by simp)

/-- The first chunk of a sequence leaves in the scratch the new states of all batch rows and heads. -/
theorem sout_A (c : Dev nD) (i : grid0.Coords) (arg1 : Memref sig .tc .vmem S4x64x256 .f32) (harg1 : arg1.IsWhole) (arg2 : Memref sig .tc .vmem S4x64x256 .f32) (harg2 : arg2.IsWhole) (arg3 : Memref sig .tc .vmem S4x64x512 .f32) (harg3 : arg3.IsWhole) (arg4 : Memref sig .tc .vmem S4x64x512 .f32) (harg4 : arg4.IsWhole) (arg5 : Memref sig .tc .vmem S4x64x128 .f32) (harg5 : arg5.IsWhole) (arg6 : Memref sig .tc .vmem S128x256 .f32) (harg6 : arg6.IsWhole) (arg7 : Memref sig .tc .vmem S1x256 .f32) (harg7 : arg7.IsWhole) (arg8 : Memref sig .tc .vmem S1x512 .f32) (harg8 : arg8.IsWhole) (arg9 : Memref sig .tc .vmem S4x64x512 .bf16) (harg9 : arg9.IsWhole) (arg10 : Memref sig .tc .vmem S4x4x128x64 .f32) (harg10 : arg10.IsWhole) (hc0 : cond0_0 i)
    (x0 : Vec Ideal S4x64x256 .f32) (x1 : Vec Ideal S4x64x256 .f32) (x2 : Vec Ideal S4x64x512 .f32) (x3 : Vec Ideal S4x64x512 .f32) (x4 : Vec Ideal S4x64x128 .f32) (x5 : Vec Ideal S128x256 .f32) (x6 : Vec Ideal S1x256 .f32) (x7 : Vec Ideal S1x512 .f32) :
    sout0_A_0 (F := Ideal) c i arg1 harg1 arg2 harg2 arg3 harg3 arg4 harg4 arg5 harg5 arg6 harg6 arg7 harg7 arg8 harg8 arg9 harg9 arg10 harg10 hc0 x0 x1 x2 x3 x4 x5 x6 x7 = stT x1 x2 x4 x5 x6 zst := by
  funext y
  unfold sout0_A_0
  rw [View.read_writes_eq_canon _ _ _ (scover0_A_0 (F := Ideal) c i arg1 harg1 arg2 harg2 arg3 harg3 arg4 harg4 arg5 harg5 arg6 harg6 arg7 harg7 arg8 harg8 arg9 harg9 arg10 harg10 hc0 x0 x1 x2 x3 x4 x5 x6 x7)]
  unfold kernelRun0_A
  dsimp only
  sl_unfold_words
  simp only [View.readAt_eq_ld, harg1.read_unread, harg2.read_unread, harg3.read_unread, harg4.read_unread, harg5.read_unread, harg6.read_unread, harg7.read_unread, harg8.read_unread]
  have y0 : (y 0).val < 4 := (y 0).isLt
  have y1 : (y 1).val < 4 := (y 1).isLt
  iterate 16
    refine tile_step _ _ _ _ _ _ _ (fun hb hh => ?_) (fun _ => ?_)
    · refine st_piece (x1 := x1) (x2 := x2) (x4 := x4) (x5 := x5) (x6 := x6) _ _ _ _ _ _ _ _ _ _ _ _ (fun e d => zst (ix4 (y 0) (y 1) e d)) _ (y 0) (y 1) (by omega) (by omega) (by omega)
        (fun e d => zero_read _ _ _ _ _ (fun z h0 h1 => ?_) _ _)
      repeat refine tile_step _ _ _ _ _ _ _ (fun _ _ => by omega) (fun _ => ?_)
      exact zero_base _ _
  omega

/-- The first chunk of a sequence writes the outputs of all batch rows and heads. -/
theorem out_A (c : Dev nD) (i : grid0.Coords) (arg1 : Memref sig .tc .vmem S4x64x256 .f32) (harg1 : arg1.IsWhole) (arg2 : Memref sig .tc .vmem S4x64x256 .f32) (harg2 : arg2.IsWhole) (arg3 : Memref sig .tc .vmem S4x64x512 .f32) (harg3 : arg3.IsWhole) (arg4 : Memref sig .tc .vmem S4x64x512 .f32) (harg4 : arg4.IsWhole) (arg5 : Memref sig .tc .vmem S4x64x128 .f32) (harg5 : arg5.IsWhole) (arg6 : Memref sig .tc .vmem S128x256 .f32) (harg6 : arg6.IsWhole) (arg7 : Memref sig .tc .vmem S1x256 .f32) (harg7 : arg7.IsWhole) (arg8 : Memref sig .tc .vmem S1x512 .f32) (harg8 : arg8.IsWhole) (arg9 : Memref sig .tc .vmem S4x64x512 .bf16) (harg9 : arg9.IsWhole) (arg10 : Memref sig .tc .vmem S4x4x128x64 .f32) (harg10 : arg10.IsWhole) (hc0 : cond0_0 i)
    (x0 : Vec Ideal S4x64x256 .f32) (x1 : Vec Ideal S4x64x256 .f32) (x2 : Vec Ideal S4x64x512 .f32) (x3 : Vec Ideal S4x64x512 .f32) (x4 : Vec Ideal S4x64x128 .f32) (x5 : Vec Ideal S128x256 .f32) (x6 : Vec Ideal S1x256 .f32) (x7 : Vec Ideal S1x512 .f32) :
    out0_A_8 (F := Ideal) c i arg1 harg1 arg2 harg2 arg3 harg3 arg4 harg4 arg5 harg5 arg6 harg6 arg7 harg7 arg8 harg8 arg9 harg9 arg10 harg10 hc0 x0 x1 x2 x3 x4 x5 x6 x7 = outT x0 x1 x2 x3 x4 x5 x6 x7 zst := by
  funext y
  have hc := cover0_A_8 (F := Ideal) c i arg1 harg1 arg2 harg2 arg3 harg3 arg4 harg4 arg5 harg5 arg6 harg6 arg7 harg7 arg8 harg8 arg9 harg9 arg10 harg10 hc0 x0 x1 x2 x3 x4 x5 x6 x7 y
  unfold out0_A_8
  rw [View.read_writes_apply_eq_canon _ _ _ _ hc]
  unfold kernelRun0_A at hc ⊢
  dsimp only at hc ⊢
  sl_unfold_words
  canon_tiles x h using hc
  all_goals (simp only [View.readAt_eq_ld, harg1.read_unread, harg2.read_unread, harg3.read_unread, harg4.read_unread, harg5.read_unread, harg6.read_unread, harg7.read_unread, harg8.read_unread])
  all_goals
    have e1 : x 1 = y 1 := Fin.ext (by have := h1; omega)
    have e2 : x 2 = y 2 := Fin.ext (by have := h2; omega)
    refine (out_block (x0 := x0) (x1 := x1) (x2 := x2) (x3 := x3) (x4 := x4) (x5 := x5) (x6 := x6) (x7 := x7) _ _ _ _ _ _ _ _ _ _ _ _ _ _ _ _ (fun h e d => zst (ix4 (y 0) h e d)) x (y 0) (by omega)
      (fun e d => zero_read _ _ _ _ _ (fun z h0 h1 => ?_) _ _) (fun e d => zero_read _ _ _ _ _ (fun z h0 h1 => ?_) _ _)
      (fun e d => zero_read _ _ _ _ _ (fun z h0 h1 => ?_) _ _) (fun e d => zero_read _ _ _ _ _ (fun z h0 h1 => ?_) _ _)).trans ?_
    rotate_right
    · rw [e1, e2]
      rfl
    all_goals
      repeat refine tile_step _ _ _ _ _ _ _ (fun _ _ => by omega) (fun _ => ?_)
      exact zero_base _ _

end Cert.KernelIdeal.Gla
-- ==== Proof.GlaCaseB.lean ====
module
public import proofs.«01_k».proof.Proof.GlaBlock
@[expose] public section
set_option maxRecDepth 16384
noncomputable section
namespace Cert.KernelIdeal.Gla
open Cert.KernelIdeal Cert.KernelIdeal.Gen
open Idealize.ShloMosaic Idealize.ShloMosaic.TcCoe Idealize.SL.Sem
open _root_.Gla

/-- A chunk after the first leaves in the scratch the new states of all batch rows and heads. -/
theorem sout_B (c : Dev nD) (i : grid0.Coords) (arg1 : Memref sig .tc .vmem S4x64x256 .f32) (harg1 : arg1.IsWhole) (arg2 : Memref sig .tc .vmem S4x64x256 .f32) (harg2 : arg2.IsWhole) (arg3 : Memref sig .tc .vmem S4x64x512 .f32) (harg3 : arg3.IsWhole) (arg4 : Memref sig .tc .vmem S4x64x512 .f32) (harg4 : arg4.IsWhole) (arg5 : Memref sig .tc .vmem S4x64x128 .f32) (harg5 : arg5.IsWhole) (arg6 : Memref sig .tc .vmem S128x256 .f32) (harg6 : arg6.IsWhole) (arg7 : Memref sig .tc .vmem S1x256 .f32) (harg7 : arg7.IsWhole) (arg8 : Memref sig .tc .vmem S1x512 .f32) (harg8 : arg8.IsWhole) (arg9 : Memref sig .tc .vmem S4x64x512 .bf16) (harg9 : arg9.IsWhole) (arg10 : Memref sig .tc .vmem S4x4x128x64 .f32) (harg10 : arg10.IsWhole) (hc0 : ¬cond0_0 i)
    (x0 : Vec Ideal S4x64x256 .f32) (x1 : Vec Ideal S4x64x256 .f32) (x2 : Vec Ideal S4x64x512 .f32) (x3 : Vec Ideal S4x64x512 .f32) (x4 : Vec Ideal S4x64x128 .f32) (x5 : Vec Ideal S128x256 .f32) (x6 : Vec Ideal S1x256 .f32) (x7 : Vec Ideal S1x512 .f32) (xs0 : Vec Ideal S4x4x128x64 .f32) :
    sout0_B_0 (F := Ideal) c i arg1 harg1 arg2 harg2 arg3 harg3 arg4 harg4 arg5 harg5 arg6 harg6 arg7 harg7 arg8 harg8 arg9 harg9 arg10 harg10 hc0 x0 x1 x2 x3 x4 x5 x6 x7 xs0 = stT x1 x2 x4 x5 x6 xs0 := by
  funext y
  have hc := scover0_B_0 (F := Ideal) c i arg1 harg1 arg2 harg2 arg3 harg3 arg4 harg4 arg5 harg5 arg6 harg6 arg7 harg7 arg8 harg8 arg9 harg9 arg10 harg10 hc0 x0 x1 x2 x3 x4 x5 x6 x7 xs0 y
  unfold sout0_B_0
  rw [View.read_writes_apply_eq_canon _ _ _ _ hc]
  unfold kernelRun0_B at hc ⊢
  dsimp only at hc ⊢
  sl_unfold_words
  canon_tiles x h using hc
  all_goals (simp only [View.readAt_eq_ld, harg1.read_unread, harg2.read_unread, harg3.read_unread, harg4.read_unread, harg5.read_unread, harg6.read_unread, harg7.read_unread, harg8.read_unread, harg10.read_unread])
  all_goals
    have e2 : x 2 = y 2 := Fin.ext (by have := h2; omega)
    have e3 : x 3 = y 3 := Fin.ext (by have := h3; omega)
    refine (st_piece (x1 := x1) (x2 := x2) (x4 := x4) (x5 := x5) (x6 := x6) _ _ _ _ _ _ _ _ _ _ _ _ (fun e d => xs0 (ix4 (y 0) (y 1) e d)) x (y 0) (y 1) (by omega) (by omega) (by omega)
      (fun e d => ld4 _ _ _ (y 0) (y 1) (by omega) (by omega) _ _)).trans ?_
    rw [e2, e3]
    rfl

/-- A chunk after the first writes the outputs of all batch rows and heads. -/
theorem out_B (c : Dev nD) (i : grid0.Coords) (arg1 : Memref sig .tc .vmem S4x64x256 .f32) (harg1 : arg1.IsWhole) (arg2 : Memref sig .tc .vmem S4x64x256 .f32) (harg2 : arg2.IsWhole) (arg3 : Memref sig .tc .vmem S4x64x512 .f32) (harg3 : arg3.IsWhole) (arg4 : Memref sig .tc .vmem S4x64x512 .f32) (harg4 : arg4.IsWhole) (arg5 : Memref sig .tc .vmem S4x64x128 .f32) (harg5 : arg5.IsWhole) (arg6 : Memref sig .tc .vmem S128x256 .f32) (harg6 : arg6.IsWhole) (arg7 : Memref sig .tc .vmem S1x256 .f32) (harg7 : arg7.IsWhole) (arg8 : Memref sig .tc .vmem S1x512 .f32) (harg8 : arg8.IsWhole) (arg9 : Memref sig .tc .vmem S4x64x512 .bf16) (harg9 : arg9.IsWhole) (arg10 : Memref sig .tc .vmem S4x4x128x64 .f32) (harg10 : arg10.IsWhole) (hc0 : ¬cond0_0 i)
    (x0 : Vec Ideal S4x64x256 .f32) (x1 : Vec Ideal S4x64x256 .f32) (x2 : Vec Ideal S4x64x512 .f32) (x3 : Vec Ideal S4x64x512 .f32) (x4 : Vec Ideal S4x64x128 .f32) (x5 : Vec Ideal S128x256 .f32) (x6 : Vec Ideal S1x256 .f32) (x7 : Vec Ideal S1x512 .f32) (xs0 : Vec Ideal S4x4x128x64 .f32) :
    out0_B_8 (F := Ideal) c i arg1 harg1 arg2 harg2 arg3 harg3 arg4 harg4 arg5 harg5 arg6 harg6 arg7 harg7 arg8 harg8 arg9 harg9 arg10 harg10 hc0 x0 x1 x2 x3 x4 x5 x6 x7 xs0 = outT x0 x1 x2 x3 x4 x5 x6 x7 xs0 := by
  funext y
  have hc := cover0_B_8 (F := Ideal) c i arg1 harg1 arg2 harg2 arg3 harg3 arg4 harg4 arg5 harg5 arg6 harg6 arg7 harg7 arg8 harg8 arg9 harg9 arg10 harg10 hc0 x0 x1 x2 x3 x4 x5 x6 x7 xs0 y
  unfold out0_B_8
  rw [View.read_writes_apply_eq_canon _ _ _ _ hc]
  unfold kernelRun0_B at hc ⊢
  dsimp only at hc ⊢
  sl_unfold_words
  canon_tiles x h using hc
  all_goals (simp only [View.readAt_eq_ld, harg1.read_unread, harg2.read_unread, harg3.read_unread, harg4.read_unread, harg5.read_unread, harg6.read_unread, harg7.read_unread, harg8.read_unread, harg10.read_unread])
  all_goals
    have e1 : x 1 = y 1 := Fin.ext (by have := h1; omega)
    have e2 : x 2 = y 2 := Fin.ext (by have := h2; omega)
    refine (out_block (x0 := x0) (x1 := x1) (x2 := x2) (x3 := x3) (x4 := x4) (x5 := x5) (x6 := x6) (x7 := x7) _ _ _ _ _ _ _ _ _ _ _ _ _ _ _ _ (fun h e d => xs0 (ix4 (y 0) h e d)) x (y 0) (by omega)
      (fun e d => ld4 _ _ _ (y 0) 0 (by omega) rfl _ _) (fun e d => ld4 _ _ _ (y 0) 1 (by omega) rfl _ _)
      (fun e d => ld4 _ _ _ (y 0) 2 (by omega) rfl _ _) (fun e d => ld4 _ _ _ (y 0) 3 (by omega) rfl _ _)).trans ?_
    rw [e1, e2]
    rfl
end Cert.KernelIdeal.Gla
-- ==== Proof.GlaKernel.lean ====
module
public import proofs.«01_k».proof.Proof.GlaCaseA
public import proofs.«01_k».proof.Proof.GlaCaseB
public import proofs.«01_k».proof.Proof.Gen.KernelIdeal.Value
public import Idealize.ShloMosaic.Lib.StableHlo.ReadAt
public import Idealize.ShloMosaic.Lib.Claim
@[expose] public section
set_option maxRecDepth 16384
noncomputable section
namespace Cert.KernelIdeal.Gla
open Cert.KernelIdeal Cert.KernelIdeal.Gen Cert.KernelIdeal.Value
open Idealize.ShloMosaic Idealize.ShloMosaic.TcCoe Idealize.SL.Sem
open _root_.Gla

variable (m : (ℓ : Loc nD τ sig) → Buf (Elt Ideal) ℓ)

theorem sitofp_zero : (FloatOps.sitofp FTy.f32 (0#32 : BitVec 32) : Ideal .f32) = (0 : EReal) := by
  simp [FloatOps.sitofp]

/-- The padded low-rank gate input: the argument in its first 16 columns and zero beyond. -/
theorem V0_at (c : Dev nD) (b : Fin 4) (t : Fin 4096) (j : Fin 128) :
    (V m c main_v0 : Vec Ideal S4x4096x128 .f32) (ix3 b t j) = (if h : j.val < 16 then (m ((c : Thread nD τ).loc main_arg4) : Vec Ideal S4x4096x16 .f32) (ix3 b t ⟨j.val, h⟩) else 0 : EReal) := by
  unfold V
  after_reads_at
  rw [sitofp_zero]
/-- The padded gate weight: the argument in its first 16 rows and zero beyond. -/
theorem V1_at (c : Dev nD) (j : Fin 128) (t : Fin 256) :
    (V m c main_v1 : Vec Ideal S128x256 .f32) (ix2 j t) = (if h : j.val < 16 then (m ((c : Thread nD τ).loc main_arg5) : Vec Ideal S16x256 .f32) (ix2 ⟨j.val, h⟩ t) else 0 : EReal) := by
  unfold V
  after_reads_at
  rw [sitofp_zero]
theorem V2_at (c : Dev nD) (t : Fin 256) :
    (V m c main_v2 : Vec Ideal S1x256 .f32) (ix2 0 t) = (m ((c : Thread nD τ).loc main_arg6) : Vec Ideal S256 .f32) (ix1 t) := by
  unfold V
  after_reads_at
theorem V3_at (c : Dev nD) (t : Fin 512) :
    (V m c main_v3 : Vec Ideal S1x512 .f32) (ix2 0 t) = (m ((c : Thread nD τ).loc main_arg7) : Vec Ideal S512 .f32) (ix1 t) := by
  unfold V
  after_reads_at
theorem idx0 : ∀ t : Fin cfg0.N, win0_0.index t 0 = 0 ∧ win0_0.index t 1 = t.val ∧ win0_0.index t 2 = 0 := by decide +kernel
/-- Window 0's block at a point is the chunk's rows of its array. -/
theorem iblk0 (c : Dev nD) (t : Fin cfg0.N) (n : Fin 64) (h : t.val = n.val) (b : Fin 4) (x : Fin 64) (j : Fin 256) :
    (iblk m c 0 t : Vec Ideal S4x64x256 .f32) (ix3 b x j) = (V m c main_arg0 : Vec Ideal S4x4096x256 .f32) (ix3 b (pos n x) j) := by
  have hi := idx0 t
  unfold iblk
  rw [View.read_apply]
  show V m c main_arg0 _ = V m c main_arg0 _
  congr 1
  funext a
  apply Fin.ext
  match a with
  | ⟨0, _⟩ => show win0_0.index t 0 * 4 + 1 * b.val = b.val; rw [hi.1]; omega
  | ⟨1, _⟩ => show win0_0.index t 1 * 64 + 1 * x.val = 64 * n.val + x.val; rw [hi.2.1]; omega
  | ⟨2, _⟩ => show win0_0.index t 2 * 256 + 1 * j.val = j.val; rw [hi.2.2]; omega
theorem idx1 : ∀ t : Fin cfg0.N, win0_1.index t 0 = 0 ∧ win0_1.index t 1 = t.val ∧ win0_1.index t 2 = 0 := by decide +kernel
/-- Window 1's block at a point is the chunk's rows of its array. -/
theorem iblk1 (c : Dev nD) (t : Fin cfg0.N) (n : Fin 64) (h : t.val = n.val) (b : Fin 4) (x : Fin 64) (j : Fin 256) :
    (iblk m c 1 t : Vec Ideal S4x64x256 .f32) (ix3 b x j) = (V m c main_arg1 : Vec Ideal S4x4096x256 .f32) (ix3 b (pos n x) j) := by
  have hi := idx1 t
  unfold iblk
  rw [View.read_apply]
  show V m c main_arg1 _ = V m c main_arg1 _
  congr 1
  funext a
  apply Fin.ext
  match a with
  | ⟨0, _⟩ => show win0_1.index t 0 * 4 + 1 * b.val = b.val; rw [hi.1]; omega
  | ⟨1, _⟩ => show win0_1.index t 1 * 64 + 1 * x.val = 64 * n.val + x.val; rw [hi.2.1]; omega
  | ⟨2, _⟩ => show win0_1.index t 2 * 256 + 1 * j.val = j.val; rw [hi.2.2]; omega
theorem idx2 : ∀ t : Fin cfg0.N, win0_2.index t 0 = 0 ∧ win0_2.index t 1 = t.val ∧ win0_2.index t 2 = 0 := by decide +kernel
/-- Window 2's block at a point is the chunk's rows of its array. -/
theorem iblk2 (c : Dev nD) (t : Fin cfg0.N) (n : Fin 64) (h : t.val = n.val) (b : Fin 4) (x : Fin 64) (j : Fin 512) :
    (iblk m c 2 t : Vec Ideal S4x64x512 .f32) (ix3 b x j) = (V m c main_arg2 : Vec Ideal S4x4096x512 .f32) (ix3 b (pos n x) j) := by
  have hi := idx2 t
  unfold iblk
  rw [View.read_apply]
  show V m c main_arg2 _ = V m c main_arg2 _
  congr 1
  funext a
  apply Fin.ext
  match a with
  | ⟨0, _⟩ => show win0_2.index t 0 * 4 + 1 * b.val = b.val; rw [hi.1]; omega
  | ⟨1, _⟩ => show win0_2.index t 1 * 64 + 1 * x.val = 64 * n.val + x.val; rw [hi.2.1]; omega
  | ⟨2, _⟩ => show win0_2.index t 2 * 512 + 1 * j.val = j.val; rw [hi.2.2]; omega
theorem idx3 : ∀ t : Fin cfg0.N, win0_3.index t 0 = 0 ∧ win0_3.index t 1 = t.val ∧ win0_3.index t 2 = 0 := by decide +kernel
/-- Window 3's block at a point is the chunk's rows of its array. -/
theorem iblk3 (c : Dev nD) (t : Fin cfg0.N) (n : Fin 64) (h : t.val = n.val) (b : Fin 4) (x : Fin 64) (j : Fin 512) :
    (iblk m c 3 t : Vec Ideal S4x64x512 .f32) (ix3 b x j) = (V m c main_arg3 : Vec Ideal S4x4096x512 .f32) (ix3 b (pos n x) j) := by
  have hi := idx3 t
  unfold iblk
  rw [View.read_apply]
  show V m c main_arg3 _ = V m c main_arg3 _
  congr 1
  funext a
  apply Fin.ext
  match a with
  | ⟨0, _⟩ => show win0_3.index t 0 * 4 + 1 * b.val = b.val; rw [hi.1]; omega
  | ⟨1, _⟩ => show win0_3.index t 1 * 64 + 1 * x.val = 64 * n.val + x.val; rw [hi.2.1]; omega
  | ⟨2, _⟩ => show win0_3.index t 2 * 512 + 1 * j.val = j.val; rw [hi.2.2]; omega
theorem idx4 : ∀ t : Fin cfg0.N, win0_4.index t 0 = 0 ∧ win0_4.index t 1 = t.val ∧ win0_4.index t 2 = 0 := by decide +kernel
/-- Window 4's block at a point is the chunk's rows of its array. -/
theorem iblk4 (c : Dev nD) (t : Fin cfg0.N) (n : Fin 64) (h : t.val = n.val) (b : Fin 4) (x : Fin 64) (j : Fin 128) :
    (iblk m c 4 t : Vec Ideal S4x64x128 .f32) (ix3 b x j) = (V m c main_v0 : Vec Ideal S4x4096x128 .f32) (ix3 b (pos n x) j) := by
  have hi := idx4 t
  unfold iblk
  rw [View.read_apply]
  show V m c main_v0 _ = V m c main_v0 _
  congr 1
  funext a
  apply Fin.ext
  match a with
  | ⟨0, _⟩ => show win0_4.index t 0 * 4 + 1 * b.val = b.val; rw [hi.1]; omega
  | ⟨1, _⟩ => show win0_4.index t 1 * 64 + 1 * x.val = 64 * n.val + x.val; rw [hi.2.1]; omega
  | ⟨2, _⟩ => show win0_4.index t 2 * 128 + 1 * j.val = j.val; rw [hi.2.2]; omega
theorem idx5 : ∀ t : Fin cfg0.N, win0_5.index t 0 = 0 ∧ win0_5.index t 1 = 0 := by decide +kernel
/-- Window 5's block at every point is its whole array. -/
theorem iblk5 (c : Dev nD) (t : Fin cfg0.N) (b : Fin 128) (j : Fin 256) :
    (iblk m c 5 t : Vec Ideal S128x256 .f32) (ix2 b j) = (V m c main_v1 : Vec Ideal S128x256 .f32) (ix2 b j) := by
  have hi := idx5 t
  unfold iblk
  rw [View.read_apply]
  show V m c main_v1 _ = V m c main_v1 _
  congr 1
  funext a
  apply Fin.ext
  match a with
  | ⟨0, _⟩ => show win0_5.index t 0 * 128 + 1 * b.val = b.val; rw [hi.1]; omega
  | ⟨1, _⟩ => show win0_5.index t 1 * 256 + 1 * j.val = j.val; rw [hi.2]; omega
theorem idx6 : ∀ t : Fin cfg0.N, win0_6.index t 0 = 0 ∧ win0_6.index t 1 = 0 := by decide +kernel
/-- Window 6's block at every point is its whole array. -/
theorem iblk6 (c : Dev nD) (t : Fin cfg0.N) (b : Fin 1) (j : Fin 256) :
    (iblk m c 6 t : Vec Ideal S1x256 .f32) (ix2 b j) = (V m c main_v2 : Vec Ideal S1x256 .f32) (ix2 b j) := by
  have hi := idx6 t
  unfold iblk
  rw [View.read_apply]
  show V m c main_v2 _ = V m c main_v2 _
  congr 1
  funext a
  apply Fin.ext
  match a with
  | ⟨0, _⟩ => show win0_6.index t 0 * 1 + 1 * b.val = b.val; rw [hi.1]; omega
  | ⟨1, _⟩ => show win0_6.index t 1 * 256 + 1 * j.val = j.val; rw [hi.2]; omega
theorem idx7 : ∀ t : Fin cfg0.N, win0_7.index t 0 = 0 ∧ win0_7.index t 1 = 0 := by decide +kernel
/-- Window 7's block at every point is its whole array. -/
theorem iblk7 (c : Dev nD) (t : Fin cfg0.N) (b : Fin 1) (j : Fin 512) :
    (iblk m c 7 t : Vec Ideal S1x512 .f32) (ix2 b j) = (V m c main_v3 : Vec Ideal S1x512 .f32) (ix2 b j) := by
  have hi := idx7 t
  unfold iblk
  rw [View.read_apply]
  show V m c main_v3 _ = V m c main_v3 _
  congr 1
  funext a
  apply Fin.ext
  match a with
  | ⟨0, _⟩ => show win0_7.index t 0 * 1 + 1 * b.val = b.val; rw [hi.1]; omega
  | ⟨1, _⟩ => show win0_7.index t 1 * 512 + 1 * j.val = j.val; rw [hi.2]; omega

/-- What the mixer reads, from the kernel's arguments. -/
def dat (c : Dev nD) : Dat where
  q b T j := (m ((c : Thread nD τ).loc main_arg0) : Vec Ideal S4x4096x256 .f32) (ix3 b T j)
  k b T j := (m ((c : Thread nD τ).loc main_arg1) : Vec Ideal S4x4096x256 .f32) (ix3 b T j)
  v b T j := (m ((c : Thread nD τ).loc main_arg2) : Vec Ideal S4x4096x512 .f32) (ix3 b T j)
  r b T j := (m ((c : Thread nD τ).loc main_arg3) : Vec Ideal S4x4096x512 .f32) (ix3 b T j)
  l := decay (fun b T x => (m ((c : Thread nD τ).loc main_arg4) : Vec Ideal S4x4096x16 .f32) (ix3 b T x))
    (fun x j => (m ((c : Thread nD τ).loc main_arg5) : Vec Ideal S16x256 .f32) (ix2 x j))
    (fun j => (m ((c : Thread nD τ).loc main_arg6) : Vec Ideal S256 .f32) (ix1 j))
  g j := (m ((c : Thread nD τ).loc main_arg7) : Vec Ideal S512 .f32) (ix1 j)

/-- The running sums the kernel computes at a point are the chunk's running sums of log-decays. -/
theorem bcS_eq (c : Dev nD) (t : Fin cfg0.N) (n : Fin 64) (hn : t.val = n.val) (b h : Fin 4) (x d : Fin 64) :
    bcS (iblk m c 4 t) (iblk m c 5 t) (iblk m c 6 t) b x (col h d) = (dat m c).bc n b h x d := by
  unfold bcS
  rw [cum_split _ (fun _ => la_ne_top _)]
  refine cum_congr (fun x => congrArg la ?_) _
  refine congr (congrArg _ ?_) ((iblk6 m c t 0 _).trans (V2_at m c _))
  refine (Finset.sum_congr rfl fun j _ => ?_).trans (sum_pad (fun j => (m ((c : Thread nD τ).loc main_arg4) : Vec Ideal S4x4096x16 .f32) (ix3 b (pos n x) j))
    (fun j => (m ((c : Thread nD τ).loc main_arg5) : Vec Ideal S16x256 .f32) (ix2 j (col h d))))
  exact congr (congrArg _ ((iblk4 m c t n hn b x j).trans (V0_at m c b _ j))) ((iblk5 m c t j _).trans (V1_at m c j _))

/-- One chunk's update of the states, on the kernel's blocks. -/
theorem stT_eq (c : Dev nD) (t : Fin cfg0.N) (n : Fin 64) (hn : t.val = n.val) (S : Vec Ideal S4x4x128x64 .f32)
    (hS : ∀ b h e d, S (ix4 b h e d) = (dat m c).st n.val b h e d) (b h : Fin 4) (e : Fin 128) (d : Fin 64) :
    stT (iblk m c 1 t) (iblk m c 2 t) (iblk m c 4 t) (iblk m c 5 t) (iblk m c 6 t) S (ix4 b h e d) = (dat m c).st (n.val + 1) b h e d := by
  refine Eq.trans ?_ (dif_pos n.isLt).symm
  exact stS_congr (fun x d => (iblk1 m c t n hn b x _).trans (congrFun (V_main_arg1 m c) _)) (fun x d => (iblk2 m c t n hn b x _).trans (congrFun (V_main_arg2 m c) _))
    (fun x d => bcS_eq m c t n hn b h x d) (fun e d => hS b h e d) e d

/-- One chunk's outputs, on the kernel's blocks. -/
theorem outT_eq (c : Dev nD) (t : Fin cfg0.N) (n : Fin 64) (hn : t.val = n.val) (S : Vec Ideal S4x4x128x64 .f32)
    (hS : ∀ b h e d, S (ix4 b h e d) = (dat m c).st n.val b h e d) (b : Fin 4) (x : Fin 64) (j : Fin 512) :
    outT (iblk m c 0 t) (iblk m c 1 t) (iblk m c 2 t) (iblk m c 3 t) (iblk m c 4 t) (iblk m c 5 t) (iblk m c 6 t) (iblk m c 7 t) S (ix3 b x j) = (dat m c).out n b x j := by
  refine outS_congr (fun e => ?_) (fun e => (iblk7 m c t 0 _).trans (V3_at m c _)) (fun e => (iblk3 m c t n hn b x _).trans (congrFun (V_main_arg3 m c) _)) _
  exact oS_congr (fun x d => (iblk0 m c t n hn b x _).trans (congrFun (V_main_arg0 m c) _)) (fun x d => (iblk1 m c t n hn b x _).trans (congrFun (V_main_arg1 m c) _)) (fun x d => (iblk2 m c t n hn b x _).trans (congrFun (V_main_arg2 m c) _))
    (fun x d => bcS_eq m c t n hn b _ x d) (fun e d => hS b _ e d) x e

/-- After each point: the outputs of its chunk, and the states after it. -/
theorem outsAt_eq (c : Dev nD) : ∀ (n : ℕ) (hn : n < cfg0.N) (h64 : n < 64),
    (∀ (b : Fin 4) (x : Fin 64) (j : Fin 512), (outsAt0 m c n hn).1 (ix3 b x j) = (dat m c).out ⟨n, h64⟩ b x j)
    ∧ ∀ (b h : Fin 4) (e : Fin 128) (d : Fin 64), (outsAt0 m c n hn).2 (ix4 b h e d) = (dat m c).st (n + 1) b h e d
  | 0, hn, h64 => by
    rw [show outsAt0 m c 0 hn = _ from outsAt0_A m c ⟨0, hn⟩ (Nat.zero_mod _)]
    constructor
    · intro b x j
      dsimp only
      rw [out_A]
      exact outT_eq m c ⟨0, hn⟩ ⟨0, h64⟩ rfl zst (fun _ _ _ _ => rfl) b x j
    · intro b h e d
      dsimp only
      rw [sout_A]
      exact stT_eq m c ⟨0, hn⟩ ⟨0, h64⟩ rfl zst (fun _ _ _ _ => rfl) b h e d
  | n + 1, hn, h64 => by
    have ih := (outsAt_eq c n (Nat.lt_of_succ_lt hn) (Nat.lt_of_succ_lt h64)).2
    rw [outsAt0_succ, stAt0_B m c ⟨n + 1, hn⟩ _ (by show ¬(n + 1) % 64 = 0; omega)]
    constructor
    · intro b x j
      dsimp only
      rw [out_B]
      exact outT_eq m c ⟨n + 1, hn⟩ ⟨n + 1, h64⟩ rfl _ ih b x j
    · intro b h e d
      dsimp only
      rw [sout_B]
      exact stT_eq m c ⟨n + 1, hn⟩ ⟨n + 1, h64⟩ rfl _ ih b h e d

/-- The kernel's result at an index. -/
theorem result_at (c : Dev nD) (n : Fin 64) (b : Fin 4) (x : Fin 64) (j : Fin 512) :
    (G8 m c : Vec Ideal S4x4096x512 .bf16) (ix3 b (pos n x) j) = (dat m c).out n b x j := by
  have hp : pt8Of (ix3 b (pos n x) j) = n.val := by
    show 64 * (b.val / 4 - 0) + 1 * ((64 * n.val + x.val) / 64 - 0) + 1 * (j.val / 512 - 0) = n.val
    omega
  have hl : loc8Of (ix3 b (pos n x) j) = ix3 b x j := by
    funext a
    apply Fin.ext
    match a with
    | ⟨0, _⟩ => show b.val % 4 = b.val; omega
    | ⟨1, _⟩ => show (64 * n.val + x.val) % 64 = x.val; omega
    | ⟨2, _⟩ => show j.val % 512 = j.val; omega
  have hN : n.val < cfg0.N := lt_of_lt_of_eq n.isLt N_0.symm
  unfold G8
  rw [dif_pos (by rw [hp]; exact hN), hl, fold0_congr m c _ _ n.val (by omega) hp, ← outsAt0_sweep m c n.val hN]
  exact (outsAt_eq m c n.val hN n.isLt).1 b x j
end Cert.KernelIdeal.Gla
-- ==== Proof.GlaRefEntry.lean ====
module
public import proofs.«01_k».proof.Proof.GlaMath
public import proofs.«01_k».proof.Proof.Gen.ReferenceIdeal.Run
public import Idealize.ShloMosaic.Lib.StableHlo.ReadAt
public import Idealize.ShloMosaic.Lib.Claim
@[expose] public section
set_option maxRecDepth 16384
noncomputable section
namespace Cert.ReferenceIdeal.Gla
open Cert.ReferenceIdeal Cert.ReferenceIdeal.Gen Cert.ReferenceIdeal.Value
open Idealize.ShloMosaic Idealize.ShloMosaic.TcCoe Idealize.SL.Sem
open _root_.Gla
open Idealize.ShloMosaic.StableHlo

variable (m : (ℓ : Loc nD τ sig) → Buf (Elt Ideal) ℓ)

/-- A sum over a window of 64 positions ending at `t`, zero before the start, is the running sum. -/
theorem sum_shift (f : Fin 64 → EReal) (t : Fin 64) :
    (∑ y : Fin 64, if hy : 63 ≤ t.val + y.val then f ⟨t.val + y.val - 63, by omega⟩ else 0) = ∑ x, if x ≤ t then f x else 0 := by
  have e : ∀ y : Fin 64, (if hy : 63 ≤ t.val + y.val then f ⟨t.val + y.val - 63, by omega⟩ else 0 : EReal) = if 63 ≤ t.val + y.val then f ⟨t.val + y.val - 63, by omega⟩ else 0 := fun y => rfl
  rw [Finset.sum_congr rfl fun y _ => e y, ← Finset.sum_filter, ← Finset.sum_filter]
  refine Finset.sum_bij' (fun y _ => ⟨t.val + y.val - 63, by omega⟩) (fun x hx => ⟨x.val + 63 - t.val, by have := (Finset.mem_filter.mp hx).2; have : x.val ≤ t.val := this; omega⟩) ?_ ?_ ?_ ?_ ?_
  · intro y hy
    have := (Finset.mem_filter.mp hy).2
    exact Finset.mem_filter.mpr ⟨Finset.mem_univ _, by show t.val + y.val - 63 ≤ t.val; omega⟩
  · intro x hx
    have : x.val ≤ t.val := (Finset.mem_filter.mp hx).2
    exact Finset.mem_filter.mpr ⟨Finset.mem_univ _, by show 63 ≤ t.val + (x.val + 63 - t.val); omega⟩
  · intro y hy
    have := (Finset.mem_filter.mp hy).2
    apply Fin.ext
    show t.val + y.val - 63 + 63 - t.val = y.val
    omega
  · intro x hx
    have : x.val ≤ t.val := (Finset.mem_filter.mp hx).2
    apply Fin.ext
    show t.val + (x.val + 63 - t.val) - 63 = x.val
    omega
  · intro y hy
    rfl
/-- A window sum of 64 positions padded 63 low is the running sum. -/
theorem cumsum_at (x : Vec Ideal S64x4x4x64x64 .f32) (n : Fin 64) (b h : Fin 4) (t d : Fin 64) :
    (Host.reduceWindowAdd ![1, 1, 1, 64, 1] ![1, 1, 1, 1, 1] ![0, 0, 0, 63, 0] ![0, 0, 0, 0, 0] x (broadcastInDim S_ ![] bcast_S_S_ (constant (F := Ideal) S_ .f32 0x00000000#32))
      reduceWindows_S64x4x4x64x64_S64x4x4x64x64_w1s1p0_0_w1s1p0_0_w1s1p0_0_w64s1p63_0_w1s1p0_0 h_S_ : Vec Ideal S64x4x4x64x64 .f32) (ix5 n b h t d)
      = cum (fun y => x (ix5 n b h y d)) t := by
  have hz : (broadcastInDim S_ ![] bcast_S_S_ (constant (F := Ideal) S_ .f32 0x00000000#32)) (Shape.Idx.first h_S_) = (0 : EReal) := by
    show Ideal.ofBits FTy.f32 0x00000000#32 = 0
    simp [Ideal.ofBits, Ideal.ieee]
  have hw : ∀ y : Fin 64, ∀ a : Fin 5, ((⟨5, ![1, 1, 1, 64, 1]⟩ : Shape).rowMajor.symm (y.cast (by decide)) a).val = if a = 3 then y.val else 0 := by decide +kernel
  unfold Host.reduceWindowAdd
  rw [hz]
  show Ideal.hostReduceWindowAdd _ _ _ _ _ x 0 _ = _
  unfold Ideal.hostReduceWindowAdd Host.reduceWindow cum
  dsimp only
  rw [← List.foldl_map (g := fun r z => r + z), ← List.sum_eq_foldl]
  have hlen : (⟨5, ![1, 1, 1, 64, 1]⟩ : Shape).numel = 64 := by decide
  have hsum : ∀ (N : ℕ) (e : N = 64) (f : Fin N → EReal), ((List.finRange N).map f).sum = ∑ y : Fin 64, f (y.cast e.symm) := by
    intro N e f
    subst e
    exact (Fin.sum_univ_def f).symm
  rw [hsum _ hlen]
  refine (Finset.sum_congr rfl (g := fun y : Fin 64 => if hy : 63 ≤ t.val + y.val then x (ix5 n b h ⟨t.val + y.val - 63, by omega⟩ d) else 0) fun y _ => ?_).trans (sum_shift (fun y => x (ix5 n b h y d)) t)
  have w0 : ((⟨5, ![1, 1, 1, 64, 1]⟩ : Shape).rowMajor.symm (y.cast hlen.symm) ⟨0, by decide⟩).val = 0 := hw y 0
  have w1 : ((⟨5, ![1, 1, 1, 64, 1]⟩ : Shape).rowMajor.symm (y.cast hlen.symm) ⟨1, by decide⟩).val = 0 := hw y 1
  have w2 : ((⟨5, ![1, 1, 1, 64, 1]⟩ : Shape).rowMajor.symm (y.cast hlen.symm) ⟨2, by decide⟩).val = 0 := hw y 2
  have w3 : ((⟨5, ![1, 1, 1, 64, 1]⟩ : Shape).rowMajor.symm (y.cast hlen.symm) ⟨3, by decide⟩).val = y.val := hw y 3
  have w4 : ((⟨5, ![1, 1, 1, 64, 1]⟩ : Shape).rowMajor.symm (y.cast hlen.symm) ⟨4, by decide⟩).val = 0 := hw y 4
  by_cases hy : 63 ≤ t.val + y.val
  · rw [dif_pos hy, dif_pos]
    · congr 1
      funext a
      apply Fin.ext
      match a with
      | ⟨0, _⟩ => show n.val * 1 + _ - 0 = n.val; rw [w0]; omega
      | ⟨1, _⟩ => show b.val * 1 + _ - 0 = b.val; rw [w1]; omega
      | ⟨2, _⟩ => show h.val * 1 + _ - 0 = h.val; rw [w2]; omega
      | ⟨3, _⟩ => show t.val * 1 + _ - 63 = t.val + y.val - 63; rw [w3]; omega
      | ⟨4, _⟩ => show d.val * 1 + _ - 0 = d.val; rw [w4]; omega
    · intro a
      match a with
      | ⟨0, _⟩ => show 0 ≤ n.val * 1 + _ ∧ n.val * 1 + _ - 0 < 64; rw [w0]; omega
      | ⟨1, _⟩ => show 0 ≤ b.val * 1 + _ ∧ b.val * 1 + _ - 0 < 4; rw [w1]; omega
      | ⟨2, _⟩ => show 0 ≤ h.val * 1 + _ ∧ h.val * 1 + _ - 0 < 4; rw [w2]; omega
      | ⟨3, _⟩ => show 63 ≤ t.val * 1 + _ ∧ t.val * 1 + _ - 63 < 64; rw [w3]; omega
      | ⟨4, _⟩ => show 0 ≤ d.val * 1 + _ ∧ d.val * 1 + _ - 0 < 64; rw [w4]; omega
  · rw [dif_neg hy, dif_neg]
    intro hin
    have h3 := (hin 3).1
    change 63 ≤ t.val * 1 + ((⟨5, ![1, 1, 1, 64, 1]⟩ : Shape).rowMajor.symm (y.cast hlen.symm) ⟨3, by decide⟩).val at h3
    rw [w3] at h3
    omega

abbrev A0 (c : Dev nD) : Vec Ideal S4x4096x256 .f32 := m ((c : Thread nD τ).loc main_arg0)
abbrev A1 (c : Dev nD) : Vec Ideal S4x4096x256 .f32 := m ((c : Thread nD τ).loc main_arg1)
abbrev A2 (c : Dev nD) : Vec Ideal S4x4096x512 .f32 := m ((c : Thread nD τ).loc main_arg2)
abbrev A3 (c : Dev nD) : Vec Ideal S4x4096x512 .f32 := m ((c : Thread nD τ).loc main_arg3)
abbrev A4 (c : Dev nD) : Vec Ideal S4x4096x16 .f32 := m ((c : Thread nD τ).loc main_arg4)
abbrev A5 (c : Dev nD) : Vec Ideal S16x256 .f32 := m ((c : Thread nD τ).loc main_arg5)
abbrev A6 (c : Dev nD) : Vec Ideal S256 .f32 := m ((c : Thread nD τ).loc main_arg6)
abbrev A7 (c : Dev nD) : Vec Ideal S512 .f32 := m ((c : Thread nD τ).loc main_arg7)

/-- What the mixer reads, from the reference's arguments. -/
def dat (c : Dev nD) : Dat where
  q b T j := A0 m c (ix3 b T j)
  k b T j := A1 m c (ix3 b T j)
  v b T j := A2 m c (ix3 b T j)
  r b T j := A3 m c (ix3 b T j)
  l := decay (fun b T x => A4 m c (ix3 b T x)) (fun x j => A5 m c (ix2 x j)) (fun j => A6 m c (ix1 j))
  g j := A7 m c (ix1 j)

theorem pos_eq (n t : Fin 64) (h : n.val * 64 + t.val < 4096) : (⟨n.val * 64 + t.val, h⟩ : Fin 4096) = pos n t := Fin.ext (by show n.val * 64 + t.val = 64 * n.val + t.val; omega)
theorem col_eq (a : Fin 4) (d : Fin 64) (h : a.val * 64 + d.val < 256) : (⟨a.val * 64 + d.val, h⟩ : Fin 256) = col a d := Fin.ext (by show a.val * 64 + d.val = 64 * a.val + d.val; omega)
theorem colv_eq (a : Fin 4) (d : Fin 128) (h : a.val * 128 + d.val < 512) : (⟨a.val * 128 + d.val, h⟩ : Fin 512) = colv a d := Fin.ext (by show a.val * 128 + d.val = 128 * a.val + d.val; omega)

/-- The scaled queries the loop reads. -/
theorem e0 (c : Dev nD) (n : Fin 64) (b h : Fin 4) (t d : Fin 64) :
    (entryContents preI m c (Proc.devRef .tc main_v26_0) : Vec Ideal S64x4x4x64x64 .f32) (ix5 n b h t d)
      = (dat m c).q b (pos n t) (col h d) * Ideal.ofBits FTy.f32 0x3E000000#32 := by
  simp only [entryContents, afterL_cons, afterL_nil]
  after_reads_at
  refine Eq.trans (id_eq _) ?_
  pointwise
  rw [pos_eq, col_eq]
  rfl
/-- The keys the loop reads. -/
theorem e1 (c : Dev nD) (n : Fin 64) (b h : Fin 4) (t d : Fin 64) :
    (entryContents preI m c (Proc.devRef .tc main_v26_1) : Vec Ideal S64x4x4x64x64 .f32) (ix5 n b h t d)
      = (dat m c).k b (pos n t) (col h d) := by
  simp only [entryContents, afterL_cons, afterL_nil]
  after_reads_at
  show (transpose S64x4x4x64x64 [1, 0, 3, 2, 4] _ _) _ = _
  pointwise
  rw [pos_eq, col_eq]
  rfl
/-- The values the loop reads. -/
theorem e2 (c : Dev nD) (n : Fin 64) (b h : Fin 4) (t : Fin 64) (e : Fin 128) :
    (entryContents preI m c (Proc.devRef .tc main_v26_2) : Vec Ideal S64x4x4x64x128 .f32) (ix5 n b h t e)
      = (dat m c).v b (pos n t) (colv h e) := by
  simp only [entryContents, afterL_cons, afterL_nil]
  after_reads_at
  show (transpose S64x4x4x64x128 [1, 0, 3, 2, 4] _ _) _ = _
  pointwise
  rw [pos_eq, colv_eq]
  rfl
/-- The chunked, head-split view of the 256-column array. -/
theorem chunk_at (X : Vec Ideal S4x4096x256 .f32) (n : Fin 64) (b h : Fin 4) (t d : Fin 64) :
    (transpose S64x4x4x64x64 [1, 0, 3, 2, 4] (shapeCast S4x64x64x4x64 (shapeCast S4x4096x4x64 X shapeCasts_S4x4096x256_S4x4096x4x64) shapeCasts_S4x4096x4x64_S4x64x64x4x64)
      transposes_S4x64x64x4x64_S64x4x4x64x64_1_0_3_2_4 : Vec Ideal S64x4x4x64x64 .f32) (ix5 n b h t d) = X (ix3 b (pos n t) (col h d)) := by
  pointwise
  rw [pos_eq, col_eq]
/-- The reference's log-sigmoid of an array. -/
def lsV (Z : Vec Ideal S4x4096x256 .f32) : Vec Ideal S4x4096x256 .f32 :=
  (Host.negf (select (cmpf .une (subf (Host.negf Z) (broadcastInDim S4x4096x256 ![] bcast_S_S4x4096x256 (constant (F := Ideal) S_ .f32 0x00000000#32)))
          (subf (Host.negf Z) (broadcastInDim S4x4096x256 ![] bcast_S_S4x4096x256 (constant (F := Ideal) S_ .f32 0x00000000#32))))
        (addf (Host.negf Z) (broadcastInDim S4x4096x256 ![] bcast_S_S4x4096x256 (constant (F := Ideal) S_ .f32 0x00000000#32)))
        (addf (maximumf (Host.negf Z) (broadcastInDim S4x4096x256 ![] bcast_S_S4x4096x256 (constant (F := Ideal) S_ .f32 0x00000000#32)))
          (Host.log1p (Host.exp (Host.negf (Host.absf (subf (Host.negf Z) (broadcastInDim S4x4096x256 ![] bcast_S_S4x4096x256 (constant (F := Ideal) S_ .f32 0x00000000#32))))))))))
/-- That array over sixteen is the log-decay. -/
theorem lsV_at (Z : Vec Ideal S4x4096x256 .f32) (b : Fin 4) (T : Fin 4096) (j : Fin 256) :
    Ideal.div (lsV Z (ix3 b T j)) (Ideal.ofBits FTy.f32 0x41800000#32) = la (Z (ix3 b T j)) := by
  unfold lsV
  pointwise
  rw [if_neg (by simp)]
  exact la_softplus _
variable (W : Valuation τ sig (Elt Ideal))
theorem s6 : after hostOps0_6 W (Proc.devRef .tc main_v26_3) = W (Proc.devRef .tc main_v21) := by
  after_reads_simp
  rfl
theorem s5 : after hostOps0_5 W (Proc.devRef .tc main_v21) = W (Proc.devRef .tc main_v21) := by
  after_reads_simp
theorem s4 : after hostOps0_4 W (Proc.devRef .tc main_v21) = W (Proc.devRef .tc main_v21) := by
  after_reads_simp
theorem s3 : after hostOps0_3 W (Proc.devRef .tc main_v21) = (Host.reduceWindowAdd ![1, 1, 1, 64, 1] ![1, 1, 1, 1, 1] ![0, 0, 0, 63, 0] ![0, 0, 0, 0, 0] (W (Proc.devRef .tc main_v20) : Vec Ideal S64x4x4x64x64 .f32) (broadcastInDim S_ ![] bcast_S_S_ (constant (F := Ideal) S_ .f32 0x00000000#32))
      reduceWindows_S64x4x4x64x64_S64x4x4x64x64_w1s1p0_0_w1s1p0_0_w1s1p0_0_w64s1p63_0_w1s1p0_0 h_S_ : Vec Ideal S64x4x4x64x64 .f32) := by
  after_reads_simp
  rfl
theorem s2 (n : Fin 64) (b h : Fin 4) (t d : Fin 64) : (after hostOps0_2 W (Proc.devRef .tc main_v20) : Vec Ideal S64x4x4x64x64 .f32) (ix5 n b h t d)
    = Ideal.div ((W (Proc.devRef .tc main_v4) : Vec Ideal S4x4096x256 .f32) (ix3 b (pos n t) (col h d))) (Ideal.ofBits FTy.f32 0x41800000#32) := by
  after_reads_simp
  refine (chunk_at _ n b h t d).trans ?_
  rfl
theorem s1 : after hostOps0_1 W (Proc.devRef .tc main_v4) = lsV (W (Proc.devRef .tc main_v3)) := by
  after_reads_simp
  rfl
theorem s0 (c : Dev nD) (b : Fin 4) (T : Fin 4096) (j : Fin 256) : la ((after hostOps0 (launchContents m c) (Proc.devRef .tc main_v3) : Vec Ideal S4x4096x256 .f32) (ix3 b T j)) = (dat m c).l b T j := by
  after_reads_at
  rfl
/-- The running log-decays the loop reads. -/
theorem e3 (c : Dev nD) (n : Fin 64) (b h : Fin 4) (t d : Fin 64) :
    (entryContents preI m c (Proc.devRef .tc main_v26_3) : Vec Ideal S64x4x4x64x64 .f32) (ix5 n b h t d)
      = (dat m c).bc n b h t d := by
  simp only [entryContents, afterL_cons, afterL_nil]
  rw [s6, s5, s4, s3]
  refine (cumsum_at _ n b h t d).trans (cum_congr (fun y => ?_) t)
  rw [s2, s1, lsV_at, s0]
/-- The causal mask the loop reads. -/
theorem e4 (c : Dev nD) (t s : Fin 64) :
    (entryContents preI m c (Proc.devRef .tc main_v26_4) : Vec Ideal S64x64 .i1) (ix2 t s)
      = if s ≤ t then 1#1 else 0#1 := by
  simp only [entryContents, afterL_cons, afterL_nil]
  after_reads_at
  show (select _ _ _) _ = _
  pointwise
  revert t s
  decide +kernel
/-- The state the loop starts from is zero. -/
theorem e6 (c : Dev nD) (b h : Fin 4) (d : Fin 64) (e : Fin 128) :
    (entryContents preI m c (Proc.devRef .tc main_v26_6) : Vec Ideal S4x4x64x128 .f32) (ix4 b h d e) = (0 : EReal) := by
  simp only [entryContents, afterL_cons, afterL_nil]
  after_reads_at
  show Ideal.ofBits FTy.f32 0x00000000#32 = 0
  simp [Ideal.ofBits, Ideal.ieee]
end Cert.ReferenceIdeal.Gla
-- ==== Proof.GlaRefLoop.lean ====
module
public import proofs.«01_k».proof.Proof.GlaRefEntry
public import Idealize.ShloMosaic.Lib.DynamicIndex
public import Idealize.ShloMosaic.Lib.Pipeline.Value
@[expose] public section
set_option maxRecDepth 16384
noncomputable section
namespace Cert.ReferenceIdeal.Gla
open Cert.ReferenceIdeal Cert.ReferenceIdeal.Gen Cert.ReferenceIdeal.Value
open Idealize.ShloMosaic Idealize.ShloMosaic.TcCoe Idealize.SL.Sem
open _root_.Gla
open Idealize.ShloMosaic.StableHlo

/-- The start of a slice at the counter. -/
theorem start_at (ctr : IVec S_ 32) (n : Fin 64) (hc : ctr = fun _ => BitVec.ofNat 32 n.val) (a : Fin 5) :
    (((![ctr, constantI S_ 32 0#32, constantI S_ 32 0#32, constantI S_ 32 0#32, constantI S_ 32 0#32] : Fin 5 → IVec S_ 32)) a (Shape.Idx.first h_S_)).toInt
      = ((![n.val, 0, 0, 0, 0] : Fin 5 → ℕ) a : ℤ) := by
  subst hc
  match a with
  | ⟨0, _⟩ => exact toInt_ofNat_of_lt (by omega)
  | ⟨1, _⟩ => rfl
  | ⟨2, _⟩ => rfl
  | ⟨3, _⟩ => rfl
  | ⟨4, _⟩ => rfl
/-- The slice a trip takes of a 64-column array is the trip's chunk. -/
theorem slice64 (x : Vec Ideal S64x4x4x64x64 .f32) (ctr : IVec S_ 32) (n : Fin 64) (hc : ctr = fun _ => BitVec.ofNat 32 n.val) (b h : Fin 4) (t d : Fin 64) :
    (shapeCast S4x4x64x64 (Host.dynamicSlice S1x4x4x64x64 x (fun k => (((![ctr, constantI S_ 32 0#32, constantI S_ 32 0#32, constantI S_ 32 0#32, constantI S_ 32 0#32] : Fin 5 → IVec S_ 32)) k (Shape.Idx.first h_S_)).toInt)
      sliceFits_S64x4x4x64x64_S1x4x4x64x64) shapeCasts_S1x4x4x64x64_S4x4x64x64 : Vec Ideal S4x4x64x64 .f32) (ix4 b h t d) = x (ix5 n b h t d) := by
  rw [Host.dynamicSlice_eq_extractStridedSlice S1x4x4x64x64 x _ ![n.val, 0, 0, 0, 0] _ ⟨rfl, fun a => by
    match a with
    | ⟨0, _⟩ => show n.val + 1 ≤ 64; omega
    | ⟨1, _⟩ => show 0 + 4 ≤ 4; omega
    | ⟨2, _⟩ => show 0 + 4 ≤ 4; omega
    | ⟨3, _⟩ => show 0 + 64 ≤ 64; omega
    | ⟨4, _⟩ => show 0 + 64 ≤ 64; omega⟩ (fun a => start_at ctr n hc a)]
  pointwise
theorem slice128 (x : Vec Ideal S64x4x4x64x128 .f32) (ctr : IVec S_ 32) (n : Fin 64) (hc : ctr = fun _ => BitVec.ofNat 32 n.val) (b h : Fin 4) (t : Fin 64) (d : Fin 128) :
    (shapeCast S4x4x64x128 (Host.dynamicSlice S1x4x4x64x128 x (fun k => (((![ctr, constantI S_ 32 0#32, constantI S_ 32 0#32, constantI S_ 32 0#32, constantI S_ 32 0#32] : Fin 5 → IVec S_ 32)) k (Shape.Idx.first h_S_)).toInt)
      sliceFits_S64x4x4x64x128_S1x4x4x64x128) shapeCasts_S1x4x4x64x128_S4x4x64x128 : Vec Ideal S4x4x64x128 .f32) (ix4 b h t d) = x (ix5 n b h t d) := by
  rw [Host.dynamicSlice_eq_extractStridedSlice S1x4x4x64x128 x _ ![n.val, 0, 0, 0, 0] _ ⟨rfl, fun a => by
    match a with
    | ⟨0, _⟩ => show n.val + 1 ≤ 64; omega
    | ⟨1, _⟩ => show 0 + 4 ≤ 4; omega
    | ⟨2, _⟩ => show 0 + 4 ≤ 4; omega
    | ⟨3, _⟩ => show 0 + 64 ≤ 64; omega
    | ⟨4, _⟩ => show 0 + 128 ≤ 128; omega⟩ (fun a => start_at ctr n hc a)]
  pointwise
/-- The block a trip writes lands on the trip's chunk; the other chunks stay. -/
theorem update_at (x : Vec Ideal S64x4x4x64x128 .f32) (u : Vec Ideal S4x4x64x128 .f32) (ctr : IVec S_ 32) (n : Fin 64) (hc : ctr = fun _ => BitVec.ofNat 32 n.val)
    (w : Fin 64) (b h : Fin 4) (t : Fin 64) (e : Fin 128) :
    (Host.dynamicUpdateSlice x (broadcastInDim S1x4x4x64x128 ![1, 2, 3, 4] bcast_S4x4x64x128_S1x4x4x64x128_1_2_3_4 u)
      (fun k => (((![ctr, constantI S_ 32 0#32, constantI S_ 32 0#32, constantI S_ 32 0#32, constantI S_ 32 0#32] : Fin 5 → IVec S_ 32)) k (Shape.Idx.first h_S_)).toInt)
      updateFits_S64x4x4x64x128_S1x4x4x64x128 : Vec Ideal S64x4x4x64x128 .f32) (ix5 w b h t e) = if w = n then u (ix4 b h t e) else x (ix5 w b h t e) := by
  have hs : S64x4x4x64x128.Slices ![n.val, 0, 0, 0, 0] S1x4x4x64x128 := ⟨rfl, fun a => by
    match a with
    | ⟨0, _⟩ => show n.val + 1 ≤ 64; omega
    | ⟨1, _⟩ => show 0 + 4 ≤ 4; omega
    | ⟨2, _⟩ => show 0 + 4 ≤ 4; omega
    | ⟨3, _⟩ => show 0 + 64 ≤ 64; omega
    | ⟨4, _⟩ => show 0 + 128 ≤ 128; omega⟩
  rw [Host.dynamicUpdateSlice_eq_updateSlice x _ _ _ ![n.val, 0, 0, 0, 0] (fun a => by
    rw [start_at ctr n hc a]
    have := hs.2 a
    omega) hs]
  unfold updateSlice
  by_cases hw : w = n
  · subst hw
    rw [if_pos rfl, dif_pos]
    · refine (congrArg (broadcastInDim S1x4x4x64x128 ![1, 2, 3, 4] bcast_S4x4x64x128_S1x4x4x64x128_1_2_3_4 u) (?_ : _ = ix5 (0 : Fin 1) b h t e)).trans ?_
      · funext a
        apply Fin.ext
        match a with
        | ⟨0, _⟩ => show w.val - w.val = 0; omega
        | ⟨1, _⟩ => rfl
        | ⟨2, _⟩ => rfl
        | ⟨3, _⟩ => rfl
        | ⟨4, _⟩ => rfl
      · pointwise
    · intro a
      match a with
      | ⟨0, _⟩ => show w.val ≤ w.val ∧ w.val < w.val + 1; omega
      | ⟨1, _⟩ => show 0 ≤ b.val ∧ b.val < 0 + 4; omega
      | ⟨2, _⟩ => show 0 ≤ h.val ∧ h.val < 0 + 4; omega
      | ⟨3, _⟩ => show 0 ≤ t.val ∧ t.val < 0 + 64; omega
      | ⟨4, _⟩ => show 0 ≤ e.val ∧ e.val < 0 + 128; omega
  · rw [if_neg hw, dif_neg]
    intro hin
    have h0 : n.val ≤ w.val ∧ w.val < n.val + 1 := hin 0
    exact hw (Fin.ext (by omega))

variable (D : Dat) (V0 : Valuation τ sig (Elt Ideal))

/-- What the carried buffers hold before trip `n`. -/
structure Holds (n : ℕ) : Prop where
  q : ∀ w b h t d, (V0 (Proc.devRef .tc main_v26_0) : Vec Ideal S64x4x4x64x64 .f32) (ix5 w b h t d) = D.q b (pos w t) (col h d) * Ideal.ofBits FTy.f32 0x3E000000#32
  k : ∀ w b h t d, (V0 (Proc.devRef .tc main_v26_1) : Vec Ideal S64x4x4x64x64 .f32) (ix5 w b h t d) = D.k b (pos w t) (col h d)
  v : ∀ w b h t e, (V0 (Proc.devRef .tc main_v26_2) : Vec Ideal S64x4x4x64x128 .f32) (ix5 w b h t e) = D.v b (pos w t) (colv h e)
  bc : ∀ w b h t d, (V0 (Proc.devRef .tc main_v26_3) : Vec Ideal S64x4x4x64x64 .f32) (ix5 w b h t d) = D.bc w b h t d
  mask : ∀ t s, (V0 (Proc.devRef .tc main_v26_4) : Vec Ideal S64x64 .i1) (ix2 t s) = if s ≤ t then 1#1 else 0#1
  ctr : (V0 (Proc.devRef .tc main_v26_5) : IVec S_ 32) = fun _ => BitVec.ofNat 32 n
  st : ∀ b h d e, (V0 (Proc.devRef .tc main_v26_6) : Vec Ideal S4x4x64x128 .f32) (ix4 b h d e) = D.st n b h e d
  out : ∀ w : Fin 64, w.val < n → ∀ b h t e, (V0 (Proc.devRef .tc main_v26_7) : Vec Ideal S64x4x4x64x128 .f32) (ix5 w b h t e) = D.o w b h t e

section
variable {D V0} (n : Fin 64) (H : Holds D V0 n.val) (b h : Fin 4)
include H
theorem r47 (t d : Fin 64) : (res_main_while0b_v47 V0 : Vec Ideal S4x4x64x64 .f32) (ix4 b h t d) = D.k b (pos n t) (col h d) :=
  (slice64 _ _ n H.ctr b h t d).trans (H.k n b h t d)
theorem r48 (t : Fin 64) (e : Fin 128) : (res_main_while0b_v48 V0 : Vec Ideal S4x4x64x128 .f32) (ix4 b h t e) = D.v b (pos n t) (colv h e) :=
  (slice128 _ _ n H.ctr b h t e).trans (H.v n b h t e)
theorem r49 (t d : Fin 64) : (res_main_while0b_v49 V0 : Vec Ideal S4x4x64x64 .f32) (ix4 b h t d) = D.bc n b h t d :=
  (slice64 _ _ n H.ctr b h t d).trans (H.bc n b h t d)
theorem r50 (d : Fin 64) : (res_main_while0b_v50 V0 : Vec Ideal S4x4x1x64 .f32) (ix4 b h 0 d) = D.bc n b h 63 d := by
  unfold res_main_while0b_v50
  refine Eq.trans ?_ (r49 n H b h 63 d)
  generalize res_main_while0b_v49 V0 = X
  pointwise
theorem r52 (t d : Fin 64) : (res_main_while0b_v52 V0 : Vec Ideal S4x4x64x64 .f32) (ix4 b h t d)
    = qdS (fun x d => D.q b (pos n x) (col h d)) (D.bc n b h) t d := by
  have e := (slice64 _ _ n H.ctr b h t d).trans (H.q n b h t d)
  have e2 := r49 n H b h t d
  unfold res_main_while0b_v52
  unfold qdS
  exact congrArg₂ (fun x y : EReal => x * Ideal.exp y) e e2
theorem r6 (d : Fin 64) (e : Fin 128) : (step_main_v26_6 V0 : Vec Ideal S4x4x64x128 .f32) (ix4 b h d e) = D.st (n.val + 1) b h e d := by
  have h47 := r47 n H b h
  have h48 := r48 n H b h
  have h49 := r49 n H b h
  have h50 := r50 n H b h
  have hs := H.st b h
  unfold step_main_v26_6
  revert h47 h48 h49 h50 hs
  generalize res_main_while0b_v47 V0 = X47
  generalize res_main_while0b_v48 V0 = X48
  generalize res_main_while0b_v49 V0 = X49
  generalize res_main_while0b_v50 V0 = X50
  generalize V0 (Proc.devRef .tc main_v26_6) = S
  intro h47 h48 h49 h50 hs
  refine Eq.trans ?_ (dif_pos n.isLt).symm
  refine Eq.trans (id_eq _) ?_
  clean_types
  pointwise
  unfold stS
  simp only [h47, h48, h49, h50, hs]
  refine congrArg₂ (· + ·) (mul_comm _ _) (Finset.sum_congr rfl fun x _ => mul_comm _ _)
theorem rO (t : Fin 64) (e : Fin 128) :
    (step_main_v26_7 V0 : Vec Ideal S64x4x4x64x128 .f32) (ix5 n b h t e) = D.o n b h t e := by
  have h47 := r47 n H b h
  have h48 := r48 n H b h
  have h49 := r49 n H b h
  have h52 := r52 n H b h
  have hs := H.st b h
  have hm := H.mask
  unfold step_main_v26_7
  refine (update_at _ _ _ n H.ctr n b h t e).trans ?_
  rw [if_pos rfl]
  revert h47 h48 h49 h52 hs hm
  generalize res_main_while0b_v47 V0 = X47
  generalize res_main_while0b_v48 V0 = X48
  generalize res_main_while0b_v49 V0 = X49
  generalize res_main_while0b_v52 V0 = X52
  generalize V0 (Proc.devRef .tc main_v26_6) = S
  generalize V0 (Proc.devRef .tc main_v26_4) = M
  intro h47 h48 h49 h52 hs hm
  clean_types
  pointwise
  simp only [h47, h48, h49, h52, hs, hm]
  unfold Dat.o oS attnS
  refine congrArg₂ (· + ·) (Finset.sum_congr rfl fun x _ => ?_) rfl
  have hz : (id (constant (F := Ideal) S_ FTy.f32 0#32) ix0 : EReal) = 0 := by
    show Ideal.ofBits FTy.f32 0#32 = 0
    simp [Ideal.ofBits, Ideal.ieee]
  rw [hz]
  by_cases hx : x ≤ t
  · rw [if_pos hx, if_pos hx]
    simp only [Scalar.select, zero_sub]
    exact congrArg (fun z : EReal => z * D.v b (pos n x) (colv h e)) (if_pos rfl)
  · rw [if_neg hx, if_neg hx]
    exact zero_mul _
theorem rOne (w : Fin 64) (hw : w ≠ n) (t : Fin 64) (e : Fin 128) :
    (step_main_v26_7 V0 : Vec Ideal S64x4x4x64x128 .f32) (ix5 w b h t e) = (V0 (Proc.devRef .tc main_v26_7) : Vec Ideal S64x4x4x64x128 .f32) (ix5 w b h t e) := by
  unfold step_main_v26_7
  refine (update_at _ _ _ n H.ctr w b h t e).trans ?_
  rw [if_neg hw]
end
/-- One trip carries the loop's state from chunk to chunk. -/
theorem step_holds {D : Dat} {V0 : Valuation τ sig (Elt Ideal)} (n : Fin 64) (H : Holds D V0 n.val) : Holds D (STEP V0) (n.val + 1) where
  q := by rw [STEP_main_v26_0]; exact H.q
  k := by rw [STEP_main_v26_1]; exact H.k
  v := by rw [STEP_main_v26_2]; exact H.v
  bc := by rw [STEP_main_v26_3]; exact H.bc
  mask := by rw [STEP_main_v26_4]; exact H.mask
  ctr := by
    rw [STEP_main_v26_5]
    unfold step_main_v26_5
    refine Eq.trans (id_eq _) ?_
    have e := H.ctr
    revert e
    generalize V0 (Proc.devRef .tc main_v26_5) = C
    intro e
    have e : C = fun _ => BitVec.ofNat 32 n.val := e
    subst e
    funext i
    show BitVec.ofNat 32 n.val + 1#32 = BitVec.ofNat 32 (n.val + 1)
    rw [BitVec.ofNat_add]
  st := by rw [STEP_main_v26_6]; exact r6 n H
  out := by
    rw [STEP_main_v26_7]
    intro w hw b h t e
    by_cases hn : w = n
    · subst hn
      exact rO w H b h t e
    · refine (rOne n H b h w hn t e).trans (H.out w ?_ b h t e)
      have : w.val ≠ n.val := fun e => hn (Fin.ext e)
      omega
variable (m : (ℓ : Loc nD τ sig) → Buf (Elt Ideal) ℓ)
/-- What the loop's buffers hold at its entry. -/
theorem entry_holds (c : Dev nD) : Holds (dat m c) (entryContents preI m c) 0 where
  q := e0 m c
  k := e1 m c
  v := e2 m c
  bc := e3 m c
  mask := e4 m c
  ctr := ctr_entry m c
  st b h d e := e6 m c b h d e
  out w hw := absurd hw (Nat.not_lt_zero _)
/-- What the loop's buffers hold before any trip. -/
theorem iter_holds (c : Dev nD) (n : ℕ) (hn : n ≤ 64) : Holds (dat m c) (STEP^[n] (entryContents preI m c)) n := by
  induction n with
  | zero => exact entry_holds m c
  | succ n ih =>
    rw [Function.iterate_succ_apply']
    exact step_holds ⟨n, by omega⟩ (ih (by omega))
theorem one_const : Ideal.ofBits FTy.f32 0x3F800000#32 = (1 : EReal) := by
  simp [Ideal.ofBits, Ideal.ieee, -EReal.coe_mul]
  try norm_num
/-- The reference's result of the loop's end, at a position and a column. -/
theorem out_at (D : Dat) (V0 : Valuation τ sig (Elt Ideal)) (n : Fin 64) (b : Fin 4) (x : Fin 64) (j : Fin 512)
    (ho : ∀ h e, (V0 (Proc.devRef .tc main_v26_7) : Vec Ideal S64x4x4x64x128 .f32) (ix5 n b h x e) = D.o n b h x e)
    (h3 : ∀ j, (V0 (Proc.devRef .tc main_arg3) : Vec Ideal S4x4096x512 .f32) (ix3 b (pos n x) j) = D.r b (pos n x) j)
    (h7 : ∀ j, (V0 (Proc.devRef .tc main_arg7) : Vec Ideal S512 .f32) (ix1 j) = D.g j) :
    (out_main_v45 V0 : Vec Ideal S4x4096x512 .bf16) (ix3 b (pos n x) j) = D.out n b x j := by
  unfold out_main_v45
  revert ho h3 h7
  generalize V0 (Proc.devRef .tc main_v26_7) = O
  generalize V0 (Proc.devRef .tc main_arg3) = R
  generalize V0 (Proc.devRef .tc main_arg7) = G
  intro ho h3 h7
  clean_types
  pointwise
  have e1 : ∀ h, (⟨(pos n x).val / 64, h⟩ : Fin 64) = n := fun h => Fin.ext (by show (64 * n.val + x.val) / 64 = n.val; omega)
  have e2 : ∀ h, (⟨(pos n x).val % 64, h⟩ : Fin 64) = x := fun h => Fin.ext (by show (64 * n.val + x.val) % 64 = x.val; omega)
  simp only [e1, e2, ho, h3, h7]
  unfold Dat.out outS
  beta_reduce
  rw [colv_hd]
  rfl
/-- The reference's result at a position and a column. -/
theorem result_at (c : Dev nD) (n : Fin 64) (b : Fin 4) (x : Fin 64) (j : Fin 512) :
    (out_main_v45 (STEP^[64] (entryContents preI m c)) : Vec Ideal S4x4096x512 .bf16) (ix3 b (pos n x) j) = (dat m c).out n b x j :=
  out_at _ _ n b x j (fun h e => (iter_holds m c 64 le_rfl).out n n.isLt b h x e)
    (fun _ => by rw [iter_main_arg3]; rfl) (fun _ => by rw [iter_main_arg7]; rfl)
end Cert.ReferenceIdeal.Gla
-- ==== Proof.MoeMath.lean ====
module
public import Idealize.ShloMosaic.Lib.Pointwise
public import Idealize.ShloMosaic.Lib.Pointwise.IndexVar
@[expose] public section
noncomputable section

/-! The scalar mathematics of a gated feed-forward block, over the extended reals. No program is mentioned. -/
namespace Ffn
open Idealize.ShloMosaic Idealize.SL.Sem

/-- A row times the columns of a matrix. -/
def up {n : ℕ} (x : Fin 1024 → EReal) (w : Fin 1024 → Fin n → EReal) (f : Fin n) : EReal := ∑ k, x k * w k f

/-- A hidden unit: the silu of its gate times its value. -/
def hid {n : ℕ} (x : Fin 1024 → EReal) (w1 w3 : Fin 1024 → Fin n → EReal) (f : Fin n) : EReal :=
  up x w1 f * Ideal.logistic (up x w1 f) * up x w3 f

/-- The block's output at one of the model's columns: the hidden units times the down projection. -/
def ffn {n : ℕ} (x : Fin 1024 → EReal) (w1 w3 : Fin 1024 → Fin n → EReal) (w2 : Fin n → Fin 1024 → EReal) (d : Fin 1024) : EReal :=
  ∑ f, hid x w1 w3 f * w2 f d

theorem up_congr {n : ℕ} {x x' : Fin 1024 → EReal} {w w' : Fin 1024 → Fin n → EReal} (f : Fin n) (hx : ∀ k, x k = x' k) (hw : ∀ k, w k f = w' k f) : up x w f = up x' w' f :=
  Finset.sum_congr rfl fun k _ => by rw [hx, hw]

theorem ffn_congr {n : ℕ} {x x' : Fin 1024 → EReal} {w1 w1' w3 w3' : Fin 1024 → Fin n → EReal} {w2 w2' : Fin n → Fin 1024 → EReal} {d : Fin 1024}
    (hx : ∀ k, x k = x' k) (h1 : ∀ k f, w1 k f = w1' k f) (h3 : ∀ k f, w3 k f = w3' k f) (h2 : ∀ f, w2 f d = w2' f d) :
    ffn x w1 w3 w2 d = ffn x' w1' w3' w2' d :=
  Finset.sum_congr rfl fun f _ => by unfold hid; rw [up_congr f hx fun k => h1 k f, up_congr f hx fun k => h3 k f, h2]

/-- Column `f` of tile `j` among the `T * B` hidden units. -/
def cell {T B : ℕ} (j : Fin T) (f : Fin B) : Fin (T * B) := ⟨B * j.val + f.val, by
  calc B * j.val + f.val < B * j.val + B := by omega
    _ = B * (j.val + 1) := by ring
    _ ≤ B * T := Nat.mul_le_mul_left _ j.isLt
    _ = T * B := Nat.mul_comm _ _⟩

/-- One tile's part of the output. -/
def part {T B : ℕ} (x : Fin 1024 → EReal) (w1 w3 : Fin 1024 → Fin (T * B) → EReal) (w2 : Fin (T * B) → Fin 1024 → EReal) (d : Fin 1024) (j : Fin T) : EReal :=
  ffn x (fun k f => w1 k (cell j f)) (fun k f => w3 k (cell j f)) (fun f => w2 (cell j f)) d

/-- The output is the sum of the tiles' parts. -/
theorem sum_part {T B : ℕ} (x : Fin 1024 → EReal) (w1 w3 : Fin 1024 → Fin (T * B) → EReal) (w2 : Fin (T * B) → Fin 1024 → EReal) (d : Fin 1024) :
    ∑ j, part x w1 w3 w2 d j = ffn x w1 w3 w2 d := by
  unfold part ffn
  refine (Fintype.sum_prod_type' fun (j : Fin T) (f : Fin B) => hid x (fun k f => w1 k (cell j f)) (fun k f => w3 k (cell j f)) f * w2 (cell j f) d).symm.trans ?_
  refine Fintype.sum_equiv finProdFinEquiv _ _ fun p => ?_
  have e : finProdFinEquiv p = cell p.1 p.2 := Fin.ext (by simp [cell, finProdFinEquiv]; ring)
  rw [e]
  rfl

/-- The sum of the first `n` tiles' parts. -/
def acc {T B : ℕ} (x : Fin 1024 → EReal) (w1 w3 : Fin 1024 → Fin (T * B) → EReal) (w2 : Fin (T * B) → Fin 1024 → EReal) (d : Fin 1024) : ℕ → EReal
  | 0 => 0
  | n + 1 => acc x w1 w3 w2 d n + if h : n < T then part x w1 w3 w2 d ⟨n, h⟩ else 0

theorem acc_all {T B : ℕ} (x : Fin 1024 → EReal) (w1 w3 : Fin 1024 → Fin (T * B) → EReal) (w2 : Fin (T * B) → Fin 1024 → EReal) (d : Fin 1024) :
    acc x w1 w3 w2 d T = ffn x w1 w3 w2 d := by
  have h (n : ℕ) : acc x w1 w3 w2 d n = ∑ j ∈ Finset.range n, if h : j < T then part x w1 w3 w2 d ⟨j, h⟩ else 0 := by
    induction n with
    | zero => rfl
    | succ n ih => rw [acc, ih, Finset.sum_range_succ]
  rw [h, ← sum_part, Finset.sum_range]
  exact Finset.sum_congr rfl fun j _ => dif_pos j.isLt
end Ffn

namespace Moe
open Idealize.ShloMosaic Idealize.SL.Sem

/-- Block `i` is among the first `n`. -/
abbrev Used (n : BitVec 32) (i : ℕ) : Prop := (BitVec.ofNat 32 i).slt n = true

/-- Row `r` of block `i`. -/
def row (i : Fin 40) (r : Fin 1056) : Fin 42240 := ⟨1056 * i.val + r.val, by omega⟩

/-- What the experts' feed-forward reads: the grouped rows, each block's expert, the number of blocks in use, and the experts' weights. -/
structure Dat where
  x : Fin 42240 → Fin 1024 → EReal
  e : Fin 40 → BitVec 32
  n : BitVec 32
  w1 : Fin 16 → Fin 1024 → Fin 3584 → EReal
  w3 : Fin 16 → Fin 1024 → Fin 3584 → EReal
  w2 : Fin 16 → Fin 3584 → Fin 1024 → EReal

/-- Block `i`'s expert. -/
def Dat.ex (D : Dat) (i : Fin 40) : Fin 16 := ⟨(D.e i).toNat % 16, Nat.mod_lt _ (by decide)⟩

theorem Dat.ex_val (D : Dat) (i : Fin 40) (h : (D.e i).toNat ≤ 15) : (D.ex i).val = (D.e i).toNat := Nat.mod_eq_of_lt (by omega)

/-- The result in block `i`: its expert's feed-forward on its rows, and zero past the blocks in use. -/
def Dat.out (D : Dat) (i : Fin 40) (r : Fin 1056) (d : Fin 1024) : EReal :=
  if Used D.n i.val then Ffn.ffn (D.x (row i r)) (D.w1 (D.ex i)) (D.w3 (D.ex i)) (D.w2 (D.ex i)) d else 0

/-- The running sum in block `i` after its first `j` tiles. -/
def Dat.acc (D : Dat) (i : Fin 40) (j : ℕ) (r : Fin 1056) (d : Fin 1024) : EReal :=
  if Used D.n i.val then Ffn.acc (T := 7) (B := 512) (D.x (row i r)) (D.w1 (D.ex i)) (D.w3 (D.ex i)) (D.w2 (D.ex i)) d j else 0

theorem Dat.acc_all (D : Dat) (i : Fin 40) (r : Fin 1056) (d : Fin 1024) : D.acc i 7 r d = D.out i r d := by
  unfold Dat.acc Dat.out
  split
  · exact Ffn.acc_all (T := 7) (B := 512) _ _ _ _ d
  · rfl
end Moe
-- ==== Proof.MoeCase.lean ====
module
public import proofs.«01_k».proof.Proof.Gen.Kernel2Ideal.Frame
public import proofs.«01_k».proof.Proof.MoeMath
public import Idealize.ShloMosaic.Lib.Pipeline.Value
public import Idealize.ShloMosaic.Lib.Pipeline.ValueKit
@[expose] public section
set_option maxRecDepth 16384
noncomputable section
namespace Cert.Kernel2Ideal.Moe
open Cert.Kernel2Ideal Cert.Kernel2Ideal.Gen
open Idealize.ShloMosaic Idealize.ShloMosaic.TcCoe Idealize.SL.Sem

section
variable {F : FTy → Type} [FloatOps F]
variable (c : Dev nD) (i : grid0.Coords) (arg4 : Memref sig .tc .vmem S1056x1024 .f32) (harg4 : arg4.IsWhole) (arg5 : Memref sig .tc .vmem S1x1024x512 .f32) (harg5 : arg5.IsWhole) (arg6 : Memref sig .tc .vmem S1x1024x512 .f32) (harg6 : arg6.IsWhole) (arg7 : Memref sig .tc .vmem S1x512x1024 .f32) (harg7 : arg7.IsWhole) (arg8 : Memref sig .tc .vmem S1056x1024 .f32) (harg8 : arg8.IsWhole) (arg9 : Memref sig .tc .vmem S1056x1024 .f32) (harg9 : arg9.IsWhole) (arg10 : Memref sig .tc .vmem S1056x1024 .bf16) (harg10 : arg10.IsWhole)
variable (x0 : Vec F S1056x1024 .f32) (x1 : Vec F S1x1024x512 .f32) (x2 : Vec F S1x1024x512 .f32) (x3 : Vec F S1x512x1024 .f32) (xt0 : TbBuf0 (F := F) c tbM0_0) (xt1 : TbBuf0 (F := F) c tbM0_1) (xs0 : Vec F S1056x1024 .f32) (xs1 : Vec F S1056x1024 .bf16)

/-- The first tile of a block that is used: the running sum starts from zero and takes the tile. -/
theorem acc_A (hc0 : cond0_0 i) (hc2 : ¬cond0_2 i) (hc1) :
    sout0_A_0 c i arg4 harg4 arg5 harg5 arg6 harg6 arg7 harg7 arg8 harg8 arg9 harg9 arg10 harg10 hc0 hc2 x0 x1 x2 x3 xt0 xt1 hc1 = k0_pay3 (k0_pay2 x0) x1 x2 k0_pay1 x3 := by
  frame_out

/-- The first tile of a block keeps the block's rows, cast. -/
theorem xb_A (hc0 : cond0_0 i) (hc2 : ¬cond0_2 i) (hc1) :
    sout0_A_1 c i arg4 harg4 arg5 harg5 arg6 harg6 arg7 harg7 arg8 harg8 arg9 harg9 arg10 harg10 hc0 hc2 x0 x1 x2 x3 xt0 xt1 hc1 = k0_pay2 x0 := by
  frame_out

/-- The first tile of a block that is not used leaves the running sum at zero. -/
theorem acc_B (hc0 : cond0_0 i) (hc2 : ¬cond0_2 i) (hc1) :
    sout0_B_0 c i arg4 harg4 arg5 harg5 arg6 harg6 arg7 harg7 arg8 harg8 arg9 harg9 arg10 harg10 hc0 hc2 x0 x1 x2 x3 xt0 xt1 hc1 = k0_pay1 := by
  frame_out

/-- Its rows are kept, cast. -/
theorem xb_B (hc0 : cond0_0 i) (hc2 : ¬cond0_2 i) (hc1) :
    sout0_B_1 c i arg4 harg4 arg5 harg5 arg6 harg6 arg7 harg7 arg8 harg8 arg9 harg9 arg10 harg10 hc0 hc2 x0 x1 x2 x3 xt0 xt1 hc1 = k0_pay2 x0 := by
  frame_out

/-- A later tile of a block that is used joins the running sum. -/
theorem acc_C (hc0 : ¬cond0_0 i) (hc2 : ¬cond0_2 i) (hc1) :
    sout0_C_0 c i arg4 harg4 arg5 harg5 arg6 harg6 arg7 harg7 arg8 harg8 arg9 harg9 arg10 harg10 hc0 hc2 x0 x1 x2 x3 xt0 xt1 xs0 xs1 hc1 = k0_pay3 xs1 x1 x2 xs0 x3 := by
  frame_out

/-- The last tile of a block that is used joins the running sum … -/
theorem acc_E (hc0 : ¬cond0_0 i) (hc2 : cond0_2 i) (hc1) :
    sout0_E_0 c i arg4 harg4 arg5 harg5 arg6 harg6 arg7 harg7 arg8 harg8 arg9 harg9 arg10 harg10 hc0 hc2 x0 x1 x2 x3 xt0 xt1 xs0 xs1 hc1 = k0_pay3 xs1 x1 x2 xs0 x3 := by
  frame_out

/-- … and is then written out. -/
theorem out_E (hc0 : ¬cond0_0 i) (hc2 : cond0_2 i) (hc1) :
    out0_E_4 c i arg4 harg4 arg5 harg5 arg6 harg6 arg7 harg7 arg8 harg8 arg9 harg9 arg10 harg10 hc0 hc2 x0 x1 x2 x3 xt0 xt1 xs0 xs1 hc1 = k0_pay3 xs1 x1 x2 xs0 x3 := by
  frame_out

/-- The last tile of a block that is not used writes out the running sum as it stands. -/
theorem out_F (hc0 : ¬cond0_0 i) (hc2 : cond0_2 i) (hc1) :
    out0_F_4 c i arg4 harg4 arg5 harg5 arg6 harg6 arg7 harg7 arg8 harg8 arg9 harg9 arg10 harg10 hc0 hc2 x0 x1 x2 x3 xt0 xt1 xs0 xs1 hc1 = xs0 := by
  frame_out
end
/-- The rows block of the bf16 scratch: at `Ideal` the cast keeps the values. -/
theorem pay2_at (x0 : Vec Ideal S1056x1024 .f32) (x : Fin 1056) (d : Fin 1024) : (k0_pay2 x0 (ix2 x d) : EReal) = x0 (ix2 x d) := by
  pointwise [k0_pay2]

/-- The zeroed running sum. -/
theorem pay1_at (x : Fin 1056) (d : Fin 1024) : (k0_pay1 (F := Ideal) (ix2 x d) : EReal) = 0 := by
  pointwise [k0_pay1]

/-- One tile's contribution, added to the running sum. -/
theorem pay3_at (xb : Vec Ideal S1056x1024 .bf16) (w1 w3 : Vec Ideal S1x1024x512 .f32) (acc : Vec Ideal S1056x1024 .f32) (w2 : Vec Ideal S1x512x1024 .f32) (x : Fin 1056) (d : Fin 1024) :
    (k0_pay3 xb w1 w3 acc w2 (ix2 x d) : EReal) = acc (ix2 x d) + Ffn.ffn (fun k => xb (ix2 x k)) (fun k f => w1 (ix3 0 k f)) (fun k f => w3 (ix3 0 k f)) (fun f d => w2 (ix3 0 f d)) d := by
  pointwise [k0_pay3]
  rfl
end Cert.Kernel2Ideal.Moe
-- ==== Proof.MoeTable.lean ====
module
public import proofs.«01_k».proof.Proof.Gen.Kernel2Ideal.Frame
public import proofs.«01_k».proof.Pre_expert_named
public import proofs.«01_k».proof.Proof.MoeMath
public import Idealize.ShloMosaic.Lib.Pointwise
public import Idealize.ShloMosaic.Lib.Pointwise.IndexVar
@[expose] public section
noncomputable section

namespace Cert.Pre_expert_named
open Idealize.ShloMosaic
instance facts : Facts := ⟨by decide⟩

/-- Under the precondition each block's expert is one of the 16. -/
theorem named {F : FTy → Type} [FloatOps F] (xs : FVec F S42240x1024 .f32) (e : IVec S40 32) (n : IVec S1 32) (w1 w3 : FVec F S2x8x1024x3584 .f32)
    (w2 : FVec F S2x8x3584x1024 .f32) (h : fn (F := F) xs e n w1 w3 w2 = fun _ => 1#1) (w : S40.Idx) : (e w).toNat ≤ 15 := by
  have andi_one (a b : BitVec 1) : IntOp.andi a b = 1#1 ↔ a = 1#1 ∧ b = 1#1 := by revert a b; decide
  have ofBool_eq_one (p : Bool) : (BitVec.ofBool p = 1#1) ↔ p = true := by cases p <;> decide
  have pre := congrFun h w
  simp only [fn, constantI, broadcastInDim, cmpi, andi, andi_one] at pre
  simp only [ofBool_eq_one, IntOp.cmpi, BitVec.sle, decide_eq_true_eq, BitVec.toInt, BitVec.toNat_ofNat] at pre
  have := (e w).isLt
  omega
end Cert.Pre_expert_named

namespace Cert.Kernel2Ideal.Moe
open Cert.Kernel2Ideal Cert.Kernel2Ideal.Gen
open Idealize.ShloMosaic Idealize.ShloMosaic.TcCoe Idealize.SL.Sem
open _root_.Moe (Used)
variable {F : FTy → Type} [FloatOps F]

/-- The tile of the weights at column step `j` of block `i`. -/
def tile (n : BitVec 32) (i j : ℕ) : ℕ := (Scalar.select (Scalar.cmpi .slt (BitVec.ofNat 32 i) n) (BitVec.ofNat 32 j) 6#32).toNat

theorem slt_one (a n : BitVec 32) : Scalar.cmpi .slt a n = 1#1 ↔ a.slt n = true := by
  show BitVec.ofBool (a.slt n) = 1#1 ↔ _
  cases a.slt n <;> decide

theorem tile_used {n : BitVec 32} {i j : ℕ} (h : Used n i) (hj : j < 7) : tile n i j = j := by
  unfold tile Scalar.select
  rw [if_pos (show _ = (1 : BitVec 1) from (slt_one _ _).2 h), BitVec.toNat_ofNat]
  omega

theorem tile_le (n : BitVec 32) (i j : ℕ) (hj : j < 7) : tile n i j ≤ 6 := by
  unfold tile Scalar.select
  split
  · rw [BitVec.toNat_ofNat]; omega
  · decide

/-- The word of the first table that block `i` reads is its `i`-th. -/
theorem word0 (pf : pre0.Contents (Elt F)) (i : grid0.Coords) :
    pf.at 0 (Rect.unit (s := S40) ![(Scalar.indexCast (BitVec.ofNat 32 (i 0).val)).toNat] S1.size (k0_off1_inb i)) numel1_S1 = (pf 0 : IVec S40 32) (ix1 (i 0)) := by
  refine congrArg (pf 0 : IVec S40 32) (funext fun (a : Fin 1) => ?_)
  obtain rfl : a = 0 := Subsingleton.elim _ _
  apply Fin.ext
  have : (i 0).val < 40 := (i 0).isLt
  show (BitVec.ofNat 32 (i 0).val).toNat + 1 * 0 = (i 0).val
  rw [BitVec.toNat_ofNat]; omega

theorem word1 (pf : pre0.Contents (Elt F)) :
    pf.at 1 (Rect.unit (s := S1) ![0] S1.size inb_S1_S1_0) numel1_S1 = (pf 1 : IVec S1 32) (ix1 0) := by
  refine congrArg (pf 1 : IVec S1 32) (funext fun (a : Fin 1) => ?_)
  obtain rfl : a = 0 := Subsingleton.elim _ _
  rfl

theorem index1 (pf : pre0.Contents (Elt F)) (i : grid0.Coords) :
    cc0_transform_1 k0_off1_inb numel1_S1 inb_S1_S1_0 pf i = ![((pf 0 : IVec S40 32) (ix1 (i 0))).toNat, 0, tile ((pf 1 : IVec S1 32) (ix1 0)) (i 0).val (i 1).val] := by
  rw [← word0 pf i, ← word1 pf]; rfl

theorem index2 (pf : pre0.Contents (Elt F)) (i : grid0.Coords) :
    cc0_transform_2 k0_off1_inb numel1_S1 inb_S1_S1_0 pf i = ![((pf 0 : IVec S40 32) (ix1 (i 0))).toNat, 0, tile ((pf 1 : IVec S1 32) (ix1 0)) (i 0).val (i 1).val] :=
  index1 pf i

theorem index3 (pf : pre0.Contents (Elt F)) (i : grid0.Coords) :
    cc0_transform_3 k0_off1_inb numel1_S1 inb_S1_S1_0 pf i = ![((pf 0 : IVec S40 32) (ix1 (i 0))).toNat, tile ((pf 1 : IVec S1 32) (ix1 0)) (i 0).val (i 1).val, 0] := by
  rw [← word0 pf i, ← word1 pf]; rfl

/-- With each block's expert one of the 16, every block of the weights lies in its array. -/
theorem ok_of (pf : pre0.Contents (Elt F)) (h : ∀ w : S40.Idx, ((pf 0 : IVec S40 32) w).toNat ≤ 15) : ok0 (F := F) pf := by
  refine ⟨fun i => ⟨?_, .inl rfl⟩, fun i => ⟨?_, .inl rfl⟩, fun i => ⟨?_, .inl rfl⟩⟩
  all_goals
    have he := h (ix1 (i 0))
    have hj := tile_le ((pf 1 : IVec S1 32) (ix1 0)) (i 0).val (i 1).val (i 1).isLt
    intro a
  · rw [index1]
    match a with
    | ⟨0, _⟩ => show (((pf 0 : IVec S40 32) (ix1 (i 0))).toNat + 1) * 1 ≤ 16; omega
    | ⟨1, _⟩ => show (0 + 1) * 1024 ≤ 1024; omega
    | ⟨2, _⟩ => show (tile ((pf 1 : IVec S1 32) (ix1 0)) (i 0).val (i 1).val + 1) * 512 ≤ 3584; omega
  · rw [index2]
    match a with
    | ⟨0, _⟩ => show (((pf 0 : IVec S40 32) (ix1 (i 0))).toNat + 1) * 1 ≤ 16; omega
    | ⟨1, _⟩ => show (0 + 1) * 1024 ≤ 1024; omega
    | ⟨2, _⟩ => show (tile ((pf 1 : IVec S1 32) (ix1 0)) (i 0).val (i 1).val + 1) * 512 ≤ 3584; omega
  · rw [index3]
    match a with
    | ⟨0, _⟩ => show (((pf 0 : IVec S40 32) (ix1 (i 0))).toNat + 1) * 1 ≤ 16; omega
    | ⟨1, _⟩ => show (tile ((pf 1 : IVec S1 32) (ix1 0)) (i 0).val (i 1).val + 1) * 512 ≤ 3584; omega
    | ⟨2, _⟩ => show (0 + 1) * 1024 ≤ 1024; omega

variable (m : (ℓ : Loc nD τ sig) → Buf (Elt F) ℓ)

/-- The kernel's side condition on its tables, from the precondition. -/
theorem ok_of_pre (h : ∀ c : Dev nD, Cert.Pre_expert_named.fn (F := F) (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) = fun _ => 1#1) : Gen.Ok m :=
  ok_of (tbl m) fun w => by
    rw [show tbl m 0 = m (((0 : Dev nD) : Thread nD τ).loc main_arg1) from V_main_arg1 m 0]
    exact Cert.Pre_expert_named.named _ _ _ _ _ _ (h 0) w

/-- The condition of the tile's branch, at a point: its block is in use. -/
theorem cond_iff (i : grid0.Coords) :
    cond0_1 i (tbM0_1.view.readAt (Elt F) (Rect.unit (s := S1) ![0] S1.size inb_S1_S1_0).toLoadRect (tbl m 1) (Shape.Idx.first (numel1_S1.symm ▸ Nat.one_pos)))
      ↔ Used ((tbl m 1 : IVec S1 32) (ix1 0)) (i 0).val := by
  have e : tbM0_1.view.readAt (Elt F) (Rect.unit (s := S1) ![0] S1.size inb_S1_S1_0).toLoadRect (tbl m 1) (Shape.Idx.first (numel1_S1.symm ▸ Nat.one_pos)) = (tbl m 1 : IVec S1 32) (ix1 0) := by
    refine congrArg (tbl m 1 : IVec S1 32) (funext fun (a : Fin 1) => ?_)
    obtain rfl : a = 0 := Subsingleton.elim _ _
    rfl
  rw [e]
  unfold cond0_1 Used
  generalize (BitVec.ofNat 32 (i 0).val) = a
  generalize (tbl m 1 : IVec S1 32) (ix1 0) = b
  show Scalar.cmpi .ne (Scalar.extui (BitVec.ofBool (a.slt b))) 0#32 = 1#1 ↔ _
  cases a.slt b <;> decide
end Cert.Kernel2Ideal.Moe
-- ==== Proof.MoeKernel.lean ====
module
public import proofs.«01_k».proof.Proof.MoeCase
public import proofs.«01_k».proof.Proof.MoeTable
public import Idealize.ShloMosaic.Lib.StableHlo.ReadAt
public import Idealize.ShloMosaic.Lib.Claim
@[expose] public section
set_option maxRecDepth 16384
noncomputable section
namespace Cert.Kernel2Ideal.Moe
open Cert.Kernel2Ideal Cert.Kernel2Ideal.Gen
open Idealize.ShloMosaic Idealize.ShloMosaic.TcCoe Idealize.SL.Sem
open _root_.Moe

variable (m : (ℓ : Loc nD τ sig) → Buf (Elt Ideal) ℓ)

/-- The two layers' experts stacked: expert `e` of the 16 is expert `e % 8` of layer `e / 8`. -/
theorem V0_at (c : Dev nD) (e : Fin 16) (k : Fin 1024) (f : Fin 3584) :
    (V m c main_v0 : Vec Ideal S16x1024x3584 .f32) (ix3 e k f) = ((m ((c : Thread nD τ).loc main_arg3) : Vec Ideal S2x8x1024x3584 .f32) (ix4 ⟨e.val / 8, by omega⟩ ⟨e.val % 8, by omega⟩ k f) : EReal) := by
  unfold V
  after_reads_at
theorem V1_at (c : Dev nD) (e : Fin 16) (k : Fin 1024) (f : Fin 3584) :
    (V m c main_v1 : Vec Ideal S16x1024x3584 .f32) (ix3 e k f) = ((m ((c : Thread nD τ).loc main_arg4) : Vec Ideal S2x8x1024x3584 .f32) (ix4 ⟨e.val / 8, by omega⟩ ⟨e.val % 8, by omega⟩ k f) : EReal) := by
  unfold V
  after_reads_at
theorem V2_at (c : Dev nD) (e : Fin 16) (f : Fin 3584) (d : Fin 1024) :
    (V m c main_v2 : Vec Ideal S16x3584x1024 .f32) (ix3 e f d) = ((m ((c : Thread nD τ).loc main_arg5) : Vec Ideal S2x8x3584x1024 .f32) (ix4 ⟨e.val / 8, by omega⟩ ⟨e.val % 8, by omega⟩ f d) : EReal) := by
  unfold V
  after_reads_at

/-- What the feed-forward reads, from the kernel's arguments. -/
def dat (c : Dev nD) : Dat where
  x R k := (m ((c : Thread nD τ).loc main_arg0) : Vec Ideal S42240x1024 .f32) (ix2 R k)
  e i := (m ((c : Thread nD τ).loc main_arg1) : IVec S40 32) (ix1 i)
  n := (m ((c : Thread nD τ).loc main_arg2) : IVec S1 32) (ix1 0)
  w1 e k f := (m ((c : Thread nD τ).loc main_arg3) : Vec Ideal S2x8x1024x3584 .f32) (ix4 ⟨e.val / 8, by omega⟩ ⟨e.val % 8, by omega⟩ k f)
  w3 e k f := (m ((c : Thread nD τ).loc main_arg4) : Vec Ideal S2x8x1024x3584 .f32) (ix4 ⟨e.val / 8, by omega⟩ ⟨e.val % 8, by omega⟩ k f)
  w2 e f d := (m ((c : Thread nD τ).loc main_arg5) : Vec Ideal S2x8x3584x1024 .f32) (ix4 ⟨e.val / 8, by omega⟩ ⟨e.val % 8, by omega⟩ f d)

theorem tbl0 (c : Dev nD) (i : Fin 40) : (tbl m 0 : IVec S40 32) (ix1 i) = (dat m c).e i := by
  obtain rfl : c = 0 := Subsingleton.elim _ _
  exact congrFun (V_main_arg1 m 0) _
theorem tbl1 (c : Dev nD) : (tbl m 1 : IVec S1 32) (ix1 0) = (dat m c).n := by
  obtain rfl : c = 0 := Subsingleton.elim _ _
  exact congrFun (V_main_arg2 m 0) _

/-- A grid point is a block and a tile of its hidden units. -/
theorem coords_at : ∀ t : Fin grid0.N, (grid0.coords t 0).val = t.val / 7 ∧ (grid0.coords t 1).val = t.val % 7 := by decide +kernel

variable (hO : Gen.Ok m) (c : Dev nD) (he : ∀ i, ((dat m c).e i).toNat ≤ 15)

/-- Where window 1's block at a point lies in its array, axis by axis. -/
theorem emb1 (t : Fin grid0.N) (y : S1x1024x512.Idx) (a : Fin 3) (p : Fin 3 → ℕ) (hp : cc0_transform_1 k0_off1_inb numel1_S1 inb_S1_S1_0 (tbl m) (grid0.coords t) = p) :
    ((((cfgM m hO).win 1).blk t).view.emb y a).val = p a * S1x1024x512.size a + 1 * (y a).val := by
  subst hp
  exact rfl

/-- Where window 2's block at a point lies in its array, axis by axis. -/
theorem emb2 (t : Fin grid0.N) (y : S1x1024x512.Idx) (a : Fin 3) (p : Fin 3 → ℕ) (hp : cc0_transform_2 k0_off1_inb numel1_S1 inb_S1_S1_0 (tbl m) (grid0.coords t) = p) :
    ((((cfgM m hO).win 2).blk t).view.emb y a).val = p a * S1x1024x512.size a + 1 * (y a).val := by
  subst hp
  exact rfl

/-- Where window 3's block at a point lies in its array, axis by axis. -/
theorem emb3 (t : Fin grid0.N) (y : S1x512x1024.Idx) (a : Fin 3) (p : Fin 3 → ℕ) (hp : cc0_transform_3 k0_off1_inb numel1_S1 inb_S1_S1_0 (tbl m) (grid0.coords t) = p) :
    ((((cfgM m hO).win 3).blk t).view.emb y a).val = p a * S1x512x1024.size a + 1 * (y a).val := by
  subst hp
  exact rfl

section
variable (t : Fin grid0.N) (i : Fin 40) (j : Fin 7) (ht : t.val = 7 * i.val + j.val)
include ht

theorem co0 : grid0.coords t 0 = i := Fin.ext (by rw [(coords_at t).1]; omega)
theorem co1 : (grid0.coords t 1).val = j.val := by rw [(coords_at t).2]; omega

theorem iblk0 (r : Fin 1056) (k : Fin 1024) : (iblk m hO c 0 t : Vec Ideal S1056x1024 .f32) (ix2 r k) = (dat m c).x (row i r) k := by
  have h0 := co0 t i j ht
  unfold iblk
  refine (View.read_apply _ _).trans ?_
  refine Eq.trans ?_ (congrFun (V_main_arg0 m c) (ix2 (row i r) k))
  show V m c main_arg0 _ = V m c main_arg0 _
  congr 1
  funext a
  apply Fin.ext
  match a with
  | ⟨0, _⟩ =>
    show (BitVec.ofNat 32 (grid0.coords t 0).val).toNat * 1056 + 1 * r.val = 1056 * i.val + r.val
    rw [h0, BitVec.toNat_ofNat]; omega
  | ⟨1, _⟩ => show 0 * 1024 + 1 * k.val = k.val; omega

include he
theorem iblk1 (hU : Used (dat m c).n i.val) (k : Fin 1024) (f : Fin 512) :
    (iblk m hO c 1 t : Vec Ideal S1x1024x512 .f32) (ix3 0 k f) = (dat m c).w1 ((dat m c).ex i) k (Ffn.cell (T := 7) j f) := by
  have h0 := co0 t i j ht
  have h1 := co1 t i j ht
  have hx := (dat m c).ex_val i (he i)
  have hi := index1 (tbl m) (grid0.coords t)
  rw [tbl1 m c, h0, h1, tbl0 m c, tile_used hU j.isLt, ← hx] at hi
  unfold iblk
  refine (View.read_apply _ _).trans (Eq.trans ?_ (V0_at m c ((dat m c).ex i) k (Ffn.cell (T := 7) j f)))
  refine congrArg (V m c main_v0 : Vec Ideal S16x1024x3584 .f32) (funext fun (a : Fin 3) => Fin.ext ((emb1 m hO t _ a _ hi).trans ?_))
  match a with
  | ⟨0, _⟩ => show ((dat m c).ex i).val * 1 + 1 * 0 = ((dat m c).ex i).val; omega
  | ⟨1, _⟩ => show 0 * 1024 + 1 * k.val = k.val; omega
  | ⟨2, _⟩ => show j.val * 512 + 1 * f.val = 512 * j.val + f.val; omega

theorem iblk2 (hU : Used (dat m c).n i.val) (k : Fin 1024) (f : Fin 512) :
    (iblk m hO c 2 t : Vec Ideal S1x1024x512 .f32) (ix3 0 k f) = (dat m c).w3 ((dat m c).ex i) k (Ffn.cell (T := 7) j f) := by
  have h0 := co0 t i j ht
  have h1 := co1 t i j ht
  have hx := (dat m c).ex_val i (he i)
  have hi := index2 (tbl m) (grid0.coords t)
  rw [tbl1 m c, h0, h1, tbl0 m c, tile_used hU j.isLt, ← hx] at hi
  unfold iblk
  refine (View.read_apply _ _).trans (Eq.trans ?_ (V1_at m c ((dat m c).ex i) k (Ffn.cell (T := 7) j f)))
  refine congrArg (V m c main_v1 : Vec Ideal S16x1024x3584 .f32) (funext fun (a : Fin 3) => Fin.ext ((emb2 m hO t _ a _ hi).trans ?_))
  match a with
  | ⟨0, _⟩ => show ((dat m c).ex i).val * 1 + 1 * 0 = ((dat m c).ex i).val; omega
  | ⟨1, _⟩ => show 0 * 1024 + 1 * k.val = k.val; omega
  | ⟨2, _⟩ => show j.val * 512 + 1 * f.val = 512 * j.val + f.val; omega

theorem iblk3 (hU : Used (dat m c).n i.val) (f : Fin 512) (d : Fin 1024) :
    (iblk m hO c 3 t : Vec Ideal S1x512x1024 .f32) (ix3 0 f d) = (dat m c).w2 ((dat m c).ex i) (Ffn.cell (T := 7) j f) d := by
  have h0 := co0 t i j ht
  have h1 := co1 t i j ht
  have hx := (dat m c).ex_val i (he i)
  have hi := index3 (tbl m) (grid0.coords t)
  rw [tbl1 m c, h0, h1, tbl0 m c, tile_used hU j.isLt, ← hx] at hi
  unfold iblk
  refine (View.read_apply _ _).trans (Eq.trans ?_ (V2_at m c ((dat m c).ex i) (Ffn.cell (T := 7) j f) d))
  refine congrArg (V m c main_v2 : Vec Ideal S16x3584x1024 .f32) (funext fun (a : Fin 3) => Fin.ext ((emb3 m hO t _ a _ hi).trans ?_))
  match a with
  | ⟨0, _⟩ => show ((dat m c).ex i).val * 1 + 1 * 0 = ((dat m c).ex i).val; omega
  | ⟨1, _⟩ => show j.val * 512 + 1 * f.val = 512 * j.val + f.val; omega
  | ⟨2, _⟩ => show 0 * 1024 + 1 * d.val = d.val; omega

/-- One tile joins the running sum of a block in use. -/
theorem tile_joins (hU : Used (dat m c).n i.val) (xb : Vec Ideal S1056x1024 .bf16) (acc : Vec Ideal S1056x1024 .f32)
    (hx : ∀ r k, (xb (ix2 r k) : EReal) = (dat m c).x (row i r) k) (ha : ∀ r d, (acc (ix2 r d) : EReal) = (dat m c).acc i j.val r d) (r : Fin 1056) (d : Fin 1024) :
    (k0_pay3 xb (iblk m hO c 1 t) (iblk m hO c 2 t) acc (iblk m hO c 3 t) (ix2 r d) : EReal) = (dat m c).acc i (j.val + 1) r d := by
  refine (pay3_at xb _ _ acc _ r d).trans ?_
  rw [ha r d]
  unfold Dat.acc
  rw [if_pos hU, if_pos hU, Ffn.acc, dif_pos j.isLt]
  refine congrArg _ (Ffn.ffn_congr (hx r) (fun k f => iblk1 m hO c he t i j ht hU k f) (fun k f => iblk2 m hO c he t i j ht hU k f) (fun f => iblk3 m hO c he t i j ht hU f d))
end

/-- The kernel's own test of whether a point's block is in use. -/
abbrev Tst (t : Fin grid0.N) : Prop :=
  cond0_1 (grid0.coords t) (tbM0_1.view.readAt (Elt Ideal) (Rect.unit (s := S1) ![0] S1.size inb_S1_S1_0).toLoadRect (tbl m 1) (Shape.Idx.first (numel1_S1.symm ▸ Nat.one_pos)))

section
variable (t : Fin (cfgM m hO).N)
theorem accA (h0 : t.val % 7 = 0) (h1 : Tst m t) (h2 : ¬t.val % 7 = 6) : (outsAt0 m hO c t.val t.isLt).2.1 = k0_pay3 (k0_pay2 (iblk m hO c 0 t)) (iblk m hO c 1 t) (iblk m hO c 2 t) (k0_pay1 (F := Ideal)) (iblk m hO c 3 t) := by
  rw [outsAt0_A m hO c t h0 h1 h2]
  dsimp only
  exact acc_A c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) scM0_1 (Memref.isWhole_whole _) (iblk m hO c 0 t) (iblk m hO c 1 t) (iblk m hO c 2 t) (iblk m hO c 3 t) (tbl m 0) (tbl m 1) ((hcond0_0 t).mpr h0) (fun h => h2 ((hcond0_2 t).mp h)) h1
theorem xbA (h0 : t.val % 7 = 0) (h1 : Tst m t) (h2 : ¬t.val % 7 = 6) : (outsAt0 m hO c t.val t.isLt).2.2 = k0_pay2 (iblk m hO c 0 t) := by
  rw [outsAt0_A m hO c t h0 h1 h2]
  dsimp only
  exact xb_A c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) scM0_1 (Memref.isWhole_whole _) (iblk m hO c 0 t) (iblk m hO c 1 t) (iblk m hO c 2 t) (iblk m hO c 3 t) (tbl m 0) (tbl m 1) ((hcond0_0 t).mpr h0) (fun h => h2 ((hcond0_2 t).mp h)) h1
theorem accB (h0 : t.val % 7 = 0) (h1 : ¬Tst m t) (h2 : ¬t.val % 7 = 6) : (outsAt0 m hO c t.val t.isLt).2.1 = k0_pay1 (F := Ideal) := by
  rw [outsAt0_B m hO c t h0 h1 h2]
  dsimp only
  exact acc_B c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) scM0_1 (Memref.isWhole_whole _) (iblk m hO c 0 t) (iblk m hO c 1 t) (iblk m hO c 2 t) (iblk m hO c 3 t) (tbl m 0) (tbl m 1) ((hcond0_0 t).mpr h0) (fun h => h2 ((hcond0_2 t).mp h)) h1
theorem xbB (h0 : t.val % 7 = 0) (h1 : ¬Tst m t) (h2 : ¬t.val % 7 = 6) : (outsAt0 m hO c t.val t.isLt).2.2 = k0_pay2 (iblk m hO c 0 t) := by
  rw [outsAt0_B m hO c t h0 h1 h2]
  dsimp only
  exact xb_B c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) scM0_1 (Memref.isWhole_whole _) (iblk m hO c 0 t) (iblk m hO c 1 t) (iblk m hO c 2 t) (iblk m hO c 3 t) (tbl m 0) (tbl m 1) ((hcond0_0 t).mpr h0) (fun h => h2 ((hcond0_2 t).mp h)) h1
theorem accC (h0 : ¬t.val % 7 = 0) (h1 : Tst m t) (h2 : ¬t.val % 7 = 6) : (outsAt0 m hO c t.val t.isLt).2.1 = k0_pay3 (outsAt0 m hO c (t.val - 1) (Nat.lt_of_le_of_lt (Nat.sub_le _ _) t.isLt)).2.2 (iblk m hO c 1 t) (iblk m hO c 2 t) (outsAt0 m hO c (t.val - 1) (Nat.lt_of_le_of_lt (Nat.sub_le _ _) t.isLt)).2.1 (iblk m hO c 3 t) := by
  rw [outsAt0_C m hO c t h0 h1 h2]
  dsimp only
  exact acc_C c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) scM0_1 (Memref.isWhole_whole _) (iblk m hO c 0 t) (iblk m hO c 1 t) (iblk m hO c 2 t) (iblk m hO c 3 t) (tbl m 0) (tbl m 1) (outsAt0 m hO c (t.val - 1) (Nat.lt_of_le_of_lt (Nat.sub_le _ _) t.isLt)).2.1 (outsAt0 m hO c (t.val - 1) (Nat.lt_of_le_of_lt (Nat.sub_le _ _) t.isLt)).2.2 (fun h => h0 ((hcond0_0 t).mp h)) (fun h => h2 ((hcond0_2 t).mp h)) h1
theorem xbC (h0 : ¬t.val % 7 = 0) (h1 : Tst m t) (h2 : ¬t.val % 7 = 6) : (outsAt0 m hO c t.val t.isLt).2.2 = (outsAt0 m hO c (t.val - 1) (Nat.lt_of_le_of_lt (Nat.sub_le _ _) t.isLt)).2.2 := by
  rw [outsAt0_C m hO c t h0 h1 h2]
  rfl
theorem accD (h0 : ¬t.val % 7 = 0) (h1 : ¬Tst m t) (h2 : ¬t.val % 7 = 6) : (outsAt0 m hO c t.val t.isLt).2.1 = (outsAt0 m hO c (t.val - 1) (Nat.lt_of_le_of_lt (Nat.sub_le _ _) t.isLt)).2.1 := by
  rw [outsAt0_D m hO c t h0 h1 h2]
  rfl
theorem xbD (h0 : ¬t.val % 7 = 0) (h1 : ¬Tst m t) (h2 : ¬t.val % 7 = 6) : (outsAt0 m hO c t.val t.isLt).2.2 = (outsAt0 m hO c (t.val - 1) (Nat.lt_of_le_of_lt (Nat.sub_le _ _) t.isLt)).2.2 := by
  rw [outsAt0_D m hO c t h0 h1 h2]
  rfl
theorem accE (h0 : ¬t.val % 7 = 0) (h1 : Tst m t) (h2 : t.val % 7 = 6) : (outsAt0 m hO c t.val t.isLt).2.1 = k0_pay3 (outsAt0 m hO c (t.val - 1) (Nat.lt_of_le_of_lt (Nat.sub_le _ _) t.isLt)).2.2 (iblk m hO c 1 t) (iblk m hO c 2 t) (outsAt0 m hO c (t.val - 1) (Nat.lt_of_le_of_lt (Nat.sub_le _ _) t.isLt)).2.1 (iblk m hO c 3 t) := by
  rw [outsAt0_E m hO c t h0 h1 h2]
  dsimp only
  exact acc_E c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) scM0_1 (Memref.isWhole_whole _) (iblk m hO c 0 t) (iblk m hO c 1 t) (iblk m hO c 2 t) (iblk m hO c 3 t) (tbl m 0) (tbl m 1) (outsAt0 m hO c (t.val - 1) (Nat.lt_of_le_of_lt (Nat.sub_le _ _) t.isLt)).2.1 (outsAt0 m hO c (t.val - 1) (Nat.lt_of_le_of_lt (Nat.sub_le _ _) t.isLt)).2.2 (fun h => h0 ((hcond0_0 t).mp h)) ((hcond0_2 t).mpr h2) h1
theorem xbE (h0 : ¬t.val % 7 = 0) (h1 : Tst m t) (h2 : t.val % 7 = 6) : (outsAt0 m hO c t.val t.isLt).2.2 = (outsAt0 m hO c (t.val - 1) (Nat.lt_of_le_of_lt (Nat.sub_le _ _) t.isLt)).2.2 := by
  rw [outsAt0_E m hO c t h0 h1 h2]
  rfl
theorem outE (h0 : ¬t.val % 7 = 0) (h1 : Tst m t) (h2 : t.val % 7 = 6) : (outsAt0 m hO c t.val t.isLt).1 = k0_pay3 (outsAt0 m hO c (t.val - 1) (Nat.lt_of_le_of_lt (Nat.sub_le _ _) t.isLt)).2.2 (iblk m hO c 1 t) (iblk m hO c 2 t) (outsAt0 m hO c (t.val - 1) (Nat.lt_of_le_of_lt (Nat.sub_le _ _) t.isLt)).2.1 (iblk m hO c 3 t) := by
  rw [outsAt0_E m hO c t h0 h1 h2]
  dsimp only
  exact out_E c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) scM0_1 (Memref.isWhole_whole _) (iblk m hO c 0 t) (iblk m hO c 1 t) (iblk m hO c 2 t) (iblk m hO c 3 t) (tbl m 0) (tbl m 1) (outsAt0 m hO c (t.val - 1) (Nat.lt_of_le_of_lt (Nat.sub_le _ _) t.isLt)).2.1 (outsAt0 m hO c (t.val - 1) (Nat.lt_of_le_of_lt (Nat.sub_le _ _) t.isLt)).2.2 (fun h => h0 ((hcond0_0 t).mp h)) ((hcond0_2 t).mpr h2) h1
theorem accF (h0 : ¬t.val % 7 = 0) (h1 : ¬Tst m t) (h2 : t.val % 7 = 6) : (outsAt0 m hO c t.val t.isLt).2.1 = (outsAt0 m hO c (t.val - 1) (Nat.lt_of_le_of_lt (Nat.sub_le _ _) t.isLt)).2.1 := by
  rw [outsAt0_F m hO c t h0 h1 h2]
  rfl
theorem xbF (h0 : ¬t.val % 7 = 0) (h1 : ¬Tst m t) (h2 : t.val % 7 = 6) : (outsAt0 m hO c t.val t.isLt).2.2 = (outsAt0 m hO c (t.val - 1) (Nat.lt_of_le_of_lt (Nat.sub_le _ _) t.isLt)).2.2 := by
  rw [outsAt0_F m hO c t h0 h1 h2]
  rfl
theorem outF (h0 : ¬t.val % 7 = 0) (h1 : ¬Tst m t) (h2 : t.val % 7 = 6) : (outsAt0 m hO c t.val t.isLt).1 = (outsAt0 m hO c (t.val - 1) (Nat.lt_of_le_of_lt (Nat.sub_le _ _) t.isLt)).2.1 := by
  rw [outsAt0_F m hO c t h0 h1 h2]
  dsimp only
  exact out_F c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) scM0_1 (Memref.isWhole_whole _) (iblk m hO c 0 t) (iblk m hO c 1 t) (iblk m hO c 2 t) (iblk m hO c 3 t) (tbl m 0) (tbl m 1) (outsAt0 m hO c (t.val - 1) (Nat.lt_of_le_of_lt (Nat.sub_le _ _) t.isLt)).2.1 (outsAt0 m hO c (t.val - 1) (Nat.lt_of_le_of_lt (Nat.sub_le _ _) t.isLt)).2.2 (fun h => h0 ((hcond0_0 t).mp h)) ((hcond0_2 t).mpr h2) h1
end

/-- What the kernel's buffers hold after a point. -/
structure After (i : Fin 40) (j : Fin 7) (o : Vec Ideal S1056x1024 .f32 × Vec Ideal S1056x1024 .f32 × Vec Ideal S1056x1024 .bf16) : Prop where
  acc : ∀ r d, (o.2.1 (ix2 r d) : EReal) = (dat m c).acc i (j.val + 1) r d
  xb : ∀ r k, (o.2.2 (ix2 r k) : EReal) = (dat m c).x (row i r) k
  out : j.val = 6 → ∀ r d, (o.1 (ix2 r d) : EReal) = (dat m c).out i r d

theorem acc_unused (i : Fin 40) (n : ℕ) (hU : ¬Used (dat m c).n i.val) (r : Fin 1056) (d : Fin 1024) : (dat m c).acc i n r d = 0 := if_neg hU

include he in
theorem outsAt_eq : ∀ (n : ℕ) (hn : n < (cfgM m hO).N) (i : Fin 40) (j : Fin 7), n = 7 * i.val + j.val → After m c i j (outsAt0 m hO c n hn) := by
  intro n
  induction n using Nat.strong_induction_on with
  | _ n ih =>
  intro hn i j hij
  have hc := cond_iff m (grid0.coords ⟨n, hn⟩)
  rw [tbl1 m c, co0 ⟨n, hn⟩ i j hij] at hc
  by_cases hj0 : j.val = 0
  · have h0 : n % 7 = 0 := by omega
    have h2 : ¬n % 7 = 6 := by omega
    by_cases hU : Used (dat m c).n i.val
    · have h1 : Tst m ⟨n, hn⟩ := hc.mpr hU
      have hA := accA m hO c ⟨n, hn⟩ h0 h1 h2
      have hX := xbA m hO c ⟨n, hn⟩ h0 h1 h2
      have hx : ∀ r k, (k0_pay2 (iblk m hO c 0 ⟨n, hn⟩) (ix2 r k) : EReal) = (dat m c).x (row i r) k := fun r k =>
        (pay2_at _ r k).trans (iblk0 m hO c ⟨n, hn⟩ i j hij r k)
      refine ⟨fun r d => ?_, fun r k => (congrFun hX (ix2 r k)).trans (hx r k), fun h => absurd h (by omega)⟩
      refine (congrFun hA (ix2 r d)).trans (tile_joins m hO c he ⟨n, hn⟩ i j hij hU _ _ hx (fun r d => ?_) r d)
      rw [pay1_at, hj0]
      unfold Dat.acc
      rw [if_pos hU]
      rfl
    · have h1 : ¬Tst m ⟨n, hn⟩ := fun h => hU (hc.mp h)
      have hA := accB m hO c ⟨n, hn⟩ h0 h1 h2
      have hX := xbB m hO c ⟨n, hn⟩ h0 h1 h2
      refine ⟨fun r d => ?_, fun r k => (congrFun hX (ix2 r k)).trans ((pay2_at _ r k).trans (iblk0 m hO c ⟨n, hn⟩ i j hij r k)), fun h => absurd h (by omega)⟩
      rw [acc_unused m c i _ hU]
      exact (congrFun hA (ix2 r d)).trans (pay1_at r d)
  · have h0 : ¬n % 7 = 0 := by omega
    have hp : n - 1 = 7 * i.val + (j.val - 1) := by omega
    have P := ih (n - 1) (by omega) (Nat.lt_of_le_of_lt (Nat.sub_le _ _) hn) i ⟨j.val - 1, by omega⟩ hp
    have hs : j.val - 1 + 1 = j.val := by omega
    have pa := P.acc
    rw [show (⟨j.val - 1, by omega⟩ : Fin 7).val + 1 = j.val from hs] at pa
    by_cases hj6 : j.val = 6
    · have h2 : n % 7 = 6 := by omega
      by_cases hU : Used (dat m c).n i.val
      · have h1 : Tst m ⟨n, hn⟩ := hc.mpr hU
        have hA := accE m hO c ⟨n, hn⟩ h0 h1 h2
        have hX := xbE m hO c ⟨n, hn⟩ h0 h1 h2
        have hY := outE m hO c ⟨n, hn⟩ h0 h1 h2
        have hj := fun r d => tile_joins m hO c he ⟨n, hn⟩ i j hij hU _ _ P.xb pa r d
        refine ⟨fun r d => (congrFun hA (ix2 r d)).trans (hj r d), fun r k => (congrFun hX (ix2 r k)).trans (P.xb r k), fun h r d => ((congrFun hY (ix2 r d)).trans (hj r d)).trans ?_⟩
        rw [h]
        exact Dat.acc_all _ i r d
      · have h1 : ¬Tst m ⟨n, hn⟩ := fun h => hU (hc.mp h)
        have hA := accF m hO c ⟨n, hn⟩ h0 h1 h2
        have hX := xbF m hO c ⟨n, hn⟩ h0 h1 h2
        have hY := outF m hO c ⟨n, hn⟩ h0 h1 h2
        refine ⟨fun r d => ((congrFun hA (ix2 r d)).trans (pa r d)).trans ?_, fun r k => (congrFun hX (ix2 r k)).trans (P.xb r k), fun h r d => ((congrFun hY (ix2 r d)).trans (pa r d)).trans ?_⟩
        · rw [acc_unused m c i _ hU, acc_unused m c i _ hU]
        · rw [acc_unused m c i _ hU]
          exact (if_neg hU).symm
    · have h2 : ¬n % 7 = 6 := by omega
      by_cases hU : Used (dat m c).n i.val
      · have h1 : Tst m ⟨n, hn⟩ := hc.mpr hU
        have hA := accC m hO c ⟨n, hn⟩ h0 h1 h2
        have hX := xbC m hO c ⟨n, hn⟩ h0 h1 h2
        exact ⟨fun r d => (congrFun hA (ix2 r d)).trans (tile_joins m hO c he ⟨n, hn⟩ i j hij hU _ _ P.xb pa r d), fun r k => (congrFun hX (ix2 r k)).trans (P.xb r k), fun h => absurd h hj6⟩
      · have h1 : ¬Tst m ⟨n, hn⟩ := fun h => hU (hc.mp h)
        have hA := accD m hO c ⟨n, hn⟩ h0 h1 h2
        have hX := xbD m hO c ⟨n, hn⟩ h0 h1 h2
        refine ⟨fun r d => ((congrFun hA (ix2 r d)).trans (pa r d)).trans ?_, fun r k => (congrFun hX (ix2 r k)).trans (P.xb r k), fun h => absurd h hj6⟩
        rw [acc_unused m c i _ hU, acc_unused m c i _ hU]

/-- Where the output's block at a point lies in its array, axis by axis. -/
theorem emb4 (t : Fin grid0.N) (y : S1056x1024.Idx) (a : Fin 2) :
    ((((cfgM m hO).win 4).blk t).view.emb y a).val = cc0_transform_4 (grid0.coords t) a * S1056x1024.size a + 1 * (y a).val := rfl

theorem index4 (t : Fin grid0.N) : cc0_transform_4 (grid0.coords t) = ![t.val / 7, 0] := by
  have h := (coords_at t).1
  have hN : t.val < 280 := lt_of_lt_of_eq t.isLt N_0
  funext a
  match a with
  | ⟨0, _⟩ =>
    show (BitVec.ofNat 32 (grid0.coords t 0).val).toNat = t.val / 7
    rw [h, BitVec.toNat_ofNat]; omega
  | ⟨1, _⟩ => rfl

/-- A block is written out at its last point. -/
theorem flush4 (t : Fin grid0.N) : ((cfgM m hO).win 4).flush t = true ↔ t.val % 7 = 6 := by
  have hN : grid0.N = 280 := N_0
  have ht : t.val < 280 := lt_of_lt_of_eq t.isLt hN
  have hi : ∀ t : Fin grid0.N, ((cfgM m hO).win 4).index t = ![t.val / 7, 0] := index4
  refine (Pipeline.Window.flush_out ((cfgM m hO).win 4) rfl t).trans ⟨?_, fun h => ?_⟩
  · rintro (h | ⟨h, hne⟩)
    · have : t.val + 1 = 280 := h.trans hN
      omega
    · by_contra hc
      refine hne ?_
      rw [hi, hi]
      show ![(t.val + 1) / 7, 0] = ![t.val / 7, 0]
      rw [show (t.val + 1) / 7 = t.val / 7 from by omega]
  · by_cases hl : t.val + 1 = 280
    · exact Or.inl (hl.trans hN.symm)
    · refine Or.inr ⟨lt_of_lt_of_eq (by omega) hN.symm, fun he => ?_⟩
      rw [hi, hi] at he
      have : (t.val + 1) / 7 = t.val / 7 := congrFun he 0
      omega

/-- The result array: block by block, row by row. -/
def G : Vec Ideal S42240x1024 .f32 := fun I =>
  (dat m c).out ⟨(I 0).val / 1056, by have : (I 0).val < 42240 := (I 0).isLt; omega⟩ ⟨(I 0).val % 1056, Nat.mod_lt _ (by decide)⟩ (I 1)

theorem G_at (i : Fin 40) (r : Fin 1056) (d : Fin 1024) (I : S42240x1024.Idx) (h0 : (I 0).val = i.val * 1056 + 1 * r.val) (h1 : (I 1).val = 0 * 1024 + 1 * d.val) :
    G m c I = (dat m c).out i r d := by
  have a0 : ∀ h, (⟨(I 0).val / 1056, h⟩ : Fin 40) = i := fun h => Fin.ext (show (I 0).val / 1056 = i.val by omega)
  have a1 : ∀ h, (⟨(I 0).val % 1056, h⟩ : Fin 1056) = r := fun h => Fin.ext (show (I 0).val % 1056 = r.val by omega)
  have a2 : I 1 = d := Fin.ext (by omega)
  unfold G
  rw [a0, a1, a2]

include he in
theorem flushed_eq (t : Fin grid0.N) (hf : ((cfgM m hO).win 4).flush t = true) :
    (dats m hO 0 c).flushed 4 t = (((cfgM m hO).win 4).blk t).view.read (Elt Ideal) (G m c) := by
  have h6 := (flush4 m hO t).mp hf
  have ht : t.val < 280 := lt_of_lt_of_eq t.isLt N_0
  have P := outsAt_eq m hO c he t.val t.isLt ⟨t.val / 7, by omega⟩ ⟨6, by decide⟩ (show t.val = 7 * (t.val / 7) + 6 by omega)
  show ((cfgM m hO).win 4).cut (grid0.coords t) ((dats m hO 0 c).after 4 t) = _
  rw [after0_4]
  refine funext fun (y : S1056x1024.Idx) => ?_
  obtain ⟨r, d, rfl⟩ : ∃ r d, y = ix2 r d := ⟨y 0, y 1, (ix2_eta y).symm⟩
  have hP := P.out rfl r d
  generalize (outsAt0 m hO c t.val t.isLt).1 = o at hP ⊢
  show o (ix2 r d) = _
  rw [hP]
  refine Eq.trans ?_ (View.read_apply _ _).symm
  have e0 : ((((cfgM m hO).win 4).blk t).view.emb (ix2 r d : S1056x1024.Idx) (0 : Fin 2)).val = t.val / 7 * 1056 + 1 * r.val :=
    (emb4 m hO t (ix2 r d) 0).trans (by rw [index4]; rfl)
  have e1 : ((((cfgM m hO).win 4).blk t).view.emb (ix2 r d : S1056x1024.Idx) (1 : Fin 2)).val = 0 * 1024 + 1 * d.val :=
    (emb4 m hO t (ix2 r d) 1).trans (by rw [index4]; rfl)
  generalize hI : (((cfgM m hO).win 4).blk t).view.emb (ix2 r d : S1056x1024.Idx) = I at e0 e1
  have hG := G_at m c ⟨t.val / 7, by omega⟩ r d I e0 e1
  rw [← hG, ← hI]
  rfl

theorem covered (I : S42240x1024.Idx) : ∃ t : Fin grid0.N, ((cfgM m hO).win 4).flush t = true ∧ I ∈ (((cfgM m hO).win 4).blk t).view.set := by
  have hI : (I 0).val < 42240 := (I 0).isLt
  have hI1 : (I 1).val < 1024 := (I 1).isLt
  refine ⟨⟨7 * ((I 0).val / 1056) + 6, lt_of_lt_of_eq (by omega) N_0.symm⟩, (flush4 m hO _).mpr (show (7 * ((I 0).val / 1056) + 6) % 7 = 6 by omega), ?_⟩
  generalize ht : (⟨7 * ((I 0).val / 1056) + 6, lt_of_lt_of_eq (by omega) N_0.symm⟩ : Fin grid0.N) = t
  have hv : t.val = 7 * ((I 0).val / 1056) + 6 := by rw [← ht]
  show I ∈ ((View.whole main_v3).slice (Rect.block (s := S42240x1024) S1056x1024.size (cc0_transform_4 (grid0.coords t)) (Facts₀.hinb0_4 _))).set
  rw [View.set_slice_whole, Rect.mem_set_unit]
  show ∀ a : Fin 2, cc0_transform_4 (grid0.coords t) a * S1056x1024.size a ≤ (I a).val ∧ (I a).val < cc0_transform_4 (grid0.coords t) a * S1056x1024.size a + S1056x1024.size a
  rw [index4]
  intro a
  match a with
  | ⟨0, _⟩ => show t.val / 7 * 1056 ≤ (I 0).val ∧ (I 0).val < t.val / 7 * 1056 + 1056; omega
  | ⟨1, _⟩ => show 0 * 1024 ≤ (I 1).val ∧ (I 1).val < 0 * 1024 + 1024; omega

include he in
theorem final : (dats m hO 0 c).arrAt 4 (cfgM m hO).N = G m c :=
  (dats m hO 0 c).arrAt_eq_of_cover 4 _ (fun t hf => flushed_eq m hO c he t hf) (fun I => covered m hO I)

/-- The kernel's run: the result array is the experts' feed-forward, block by block; the arguments stay. -/
theorem run (ρ) (hO : Gen.Ok m) (he : ∀ c i, ((dat m c).e i).toNat ≤ 15) :
    θ_run defs (onTc (τ := τ) (main (F := Ideal))) ⟨m, fun _ => 0, ρ⟩ fun r => ∀ c : Dev nD,
      r.2.mem ((c : Thread nD τ).loc main_v3) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c => ⟨((h.1 c).1 4).trans (final m hO c (he c)), h.2 c⟩) (θ_run_and (run_main m ρ hO) (unchanged m ρ hO))
end Cert.Kernel2Ideal.Moe
-- ==== Proof.MoeRef.lean ====
module
public import proofs.«01_k».proof.Proof.MoeMath
public import proofs.«01_k».proof.Proof.Gen.Reference2Ideal.Run
public import Idealize.ShloMosaic.Lib.StableHlo.ReadAt
public import Idealize.ShloMosaic.Lib.Claim
public import Idealize.ShloMosaic.Lib.DynamicIndex
public import Idealize.ShloMosaic.Lib.Pipeline.Value
@[expose] public section
set_option maxRecDepth 16384
noncomputable section
namespace Cert.Reference2Ideal.Moe
open Cert.Reference2Ideal Cert.Reference2Ideal.Gen Cert.Reference2Ideal.Value
open Idealize.ShloMosaic Idealize.ShloMosaic.TcCoe Idealize.SL.Sem
open _root_.Moe
open Idealize.ShloMosaic.StableHlo

/-- The start of a slice at the counter. -/
theorem start_at (ctr : IVec S_ 32) (n : Fin 40) (hc : ctr = fun _ => BitVec.ofNat 32 n.val) (a : Fin 3) :
    (((![ctr, constantI S_ 32 0#32, constantI S_ 32 0#32] : Fin 3 → IVec S_ 32)) a (Shape.Idx.first h_S_)).toInt = ((![n.val, 0, 0] : Fin 3 → ℕ) a : ℤ) := by
  subst hc
  match a with
  | ⟨0, _⟩ => exact toInt_ofNat_of_lt (by omega)
  | ⟨1, _⟩ => rfl
  | ⟨2, _⟩ => rfl
theorem start1_at (ctr : IVec S_ 32) (n : Fin 40) (hc : ctr = fun _ => BitVec.ofNat 32 n.val) (a : Fin 1) :
    (((![ctr] : Fin 1 → IVec S_ 32)) a (Shape.Idx.first h_S_)).toInt = ((![n.val] : Fin 1 → ℕ) a : ℤ) := by
  subst hc
  match a with
  | ⟨0, _⟩ => exact toInt_ofNat_of_lt (by omega)
/-- An expert's number, as an index: an index from the end is never taken, the number being non-negative. -/
theorem wrap_at : ∀ e : Fin 16, (Scalar.select (Scalar.cmpi .slt (BitVec.ofNat 32 e.val) 0#32) (BitVec.ofNat 32 e.val + 16#32) (BitVec.ofNat 32 e.val)).toInt = (e.val : ℤ) := by decide
/-- The start of an expert's slice. -/
theorem estart_at (E : IVec S_ 32) (e : Fin 16) (hE : E = fun _ => BitVec.ofNat 32 e.val) (A B : BitVec 32) (a : Fin 3) :
    (((![select (cmpi .slt E (constantI S_ 32 0#32)) (addi E (constantI S_ 32 16#32)) E,
      select (cmpi .slt (constantI S_ 32 0#32) (constantI S_ 32 0#32)) (addi (constantI S_ 32 0#32) (constantI S_ 32 A)) (constantI S_ 32 0#32),
      select (cmpi .slt (constantI S_ 32 0#32) (constantI S_ 32 0#32)) (addi (constantI S_ 32 0#32) (constantI S_ 32 B)) (constantI S_ 32 0#32)] : Fin 3 → IVec S_ 32)) a (Shape.Idx.first h_S_)).toInt
      = ((![e.val, 0, 0] : Fin 3 → ℕ) a : ℤ) := by
  subst hE
  match a with
  | ⟨0, _⟩ => exact wrap_at e
  | ⟨1, _⟩ => rfl
  | ⟨2, _⟩ => rfl
/-- An expert's slice of the stacked weights. -/
theorem sliceW (x : Vec Ideal S16x1024x3584 .f32) (E : IVec S_ 32) (e : Fin 16) (hE : E = fun _ => BitVec.ofNat 32 e.val) (k : Fin 1024) (f : Fin 3584) :
    (shapeCast S1024x3584 (Host.dynamicSlice S1x1024x3584 x (fun k => (((![select (cmpi .slt E (constantI S_ 32 0#32)) (addi E (constantI S_ 32 16#32)) E,
      select (cmpi .slt (constantI S_ 32 0#32) (constantI S_ 32 0#32)) (addi (constantI S_ 32 0#32) (constantI S_ 32 1024#32)) (constantI S_ 32 0#32),
      select (cmpi .slt (constantI S_ 32 0#32) (constantI S_ 32 0#32)) (addi (constantI S_ 32 0#32) (constantI S_ 32 3584#32)) (constantI S_ 32 0#32)] : Fin 3 → IVec S_ 32)) k (Shape.Idx.first h_S_)).toInt)
      sliceFits_S16x1024x3584_S1x1024x3584) shapeCasts_S1x1024x3584_S1024x3584 : Vec Ideal S1024x3584 .f32) (ix2 k f) = x (ix3 e k f) := by
  rw [Host.dynamicSlice_eq_extractStridedSlice S1x1024x3584 x _ ![e.val, 0, 0] _ ⟨rfl, fun a => by
    match a with
    | ⟨0, _⟩ => show e.val + 1 ≤ 16; omega
    | ⟨1, _⟩ => show 0 + 1024 ≤ 1024; omega
    | ⟨2, _⟩ => show 0 + 3584 ≤ 3584; omega⟩ (fun a => estart_at E e hE _ _ a)]
  pointwise
theorem sliceV (x : Vec Ideal S16x3584x1024 .f32) (E : IVec S_ 32) (e : Fin 16) (hE : E = fun _ => BitVec.ofNat 32 e.val) (f : Fin 3584) (d : Fin 1024) :
    (shapeCast S3584x1024 (Host.dynamicSlice S1x3584x1024 x (fun k => (((![select (cmpi .slt E (constantI S_ 32 0#32)) (addi E (constantI S_ 32 16#32)) E,
      select (cmpi .slt (constantI S_ 32 0#32) (constantI S_ 32 0#32)) (addi (constantI S_ 32 0#32) (constantI S_ 32 3584#32)) (constantI S_ 32 0#32),
      select (cmpi .slt (constantI S_ 32 0#32) (constantI S_ 32 0#32)) (addi (constantI S_ 32 0#32) (constantI S_ 32 1024#32)) (constantI S_ 32 0#32)] : Fin 3 → IVec S_ 32)) k (Shape.Idx.first h_S_)).toInt)
      sliceFits_S16x3584x1024_S1x3584x1024) shapeCasts_S1x3584x1024_S3584x1024 : Vec Ideal S3584x1024 .f32) (ix2 f d) = x (ix3 e f d) := by
  rw [Host.dynamicSlice_eq_extractStridedSlice S1x3584x1024 x _ ![e.val, 0, 0] _ ⟨rfl, fun a => by
    match a with
    | ⟨0, _⟩ => show e.val + 1 ≤ 16; omega
    | ⟨1, _⟩ => show 0 + 3584 ≤ 3584; omega
    | ⟨2, _⟩ => show 0 + 1024 ≤ 1024; omega⟩ (fun a => estart_at E e hE _ _ a)]
  pointwise
/-- A trip's block of rows. -/
theorem sliceX (x : Vec Ideal S40x1056x1024 .f32) (ctr : IVec S_ 32) (n : Fin 40) (hc : ctr = fun _ => BitVec.ofNat 32 n.val) (r : Fin 1056) (k : Fin 1024) :
    (shapeCast S1056x1024 (Host.dynamicSlice S1x1056x1024 x (fun k => (((![ctr, constantI S_ 32 0#32, constantI S_ 32 0#32] : Fin 3 → IVec S_ 32)) k (Shape.Idx.first h_S_)).toInt)
      sliceFits_S40x1056x1024_S1x1056x1024) shapeCasts_S1x1056x1024_S1056x1024 : Vec Ideal S1056x1024 .f32) (ix2 r k) = x (ix3 n r k) := by
  rw [Host.dynamicSlice_eq_extractStridedSlice S1x1056x1024 x _ ![n.val, 0, 0] _ ⟨rfl, fun a => by
    match a with
    | ⟨0, _⟩ => show n.val + 1 ≤ 40; omega
    | ⟨1, _⟩ => show 0 + 1056 ≤ 1056; omega
    | ⟨2, _⟩ => show 0 + 1024 ≤ 1024; omega⟩ (fun a => start_at ctr n hc a)]
  pointwise
/-- A trip's entry of a table. -/
theorem sliceT {w : ℕ} (x : IVec S40 w) (ctr : IVec S_ 32) (n : Fin 40) (hc : ctr = fun _ => BitVec.ofNat 32 n.val) :
    (shapeCast S_ (Host.dynamicSlice S1 x (fun k => (((![ctr] : Fin 1 → IVec S_ 32)) k (Shape.Idx.first h_S_)).toInt) sliceFits_S40_S1) shapeCasts_S1_S_ : IVec S_ w) = fun _ => x (ix1 n) := by
  rw [Host.dynamicSlice_eq_extractStridedSlice S1 x _ ![n.val] _ ⟨rfl, fun a => by
    match a with
    | ⟨0, _⟩ => show n.val + 1 ≤ 40; omega⟩ (fun a => start1_at ctr n hc a)]
  funext j
  unfold shapeCast extractStridedSlice
  refine congrArg x (funext fun (a : Fin 1) => Fin.ext ?_)
  match a with
  | ⟨0, _⟩ => show n.val + (_ : Fin 1).val = n.val; omega
/-- The block a trip writes lands on its own place; the other blocks stay. -/
theorem update_at (x : Vec Ideal S40x1056x1024 .f32) (u : Vec Ideal S1056x1024 .f32) (ctr : IVec S_ 32) (n : Fin 40) (hc : ctr = fun _ => BitVec.ofNat 32 n.val)
    (w : Fin 40) (r : Fin 1056) (d : Fin 1024) :
    (Host.dynamicUpdateSlice x (broadcastInDim S1x1056x1024 ![1, 2] bcast_S1056x1024_S1x1056x1024_1_2 u)
      (fun k => (((![ctr, constantI S_ 32 0#32, constantI S_ 32 0#32] : Fin 3 → IVec S_ 32)) k (Shape.Idx.first h_S_)).toInt)
      updateFits_S40x1056x1024_S1x1056x1024 : Vec Ideal S40x1056x1024 .f32) (ix3 w r d) = if w = n then u (ix2 r d) else x (ix3 w r d) := by
  have hs : S40x1056x1024.Slices ![n.val, 0, 0] S1x1056x1024 := ⟨rfl, fun a => by
    match a with
    | ⟨0, _⟩ => show n.val + 1 ≤ 40; omega
    | ⟨1, _⟩ => show 0 + 1056 ≤ 1056; omega
    | ⟨2, _⟩ => show 0 + 1024 ≤ 1024; omega⟩
  rw [Host.dynamicUpdateSlice_eq_updateSlice x _ _ _ ![n.val, 0, 0] (fun a => by
    rw [start_at ctr n hc a]
    have := hs.2 a
    omega) hs]
  unfold updateSlice
  by_cases hw : w = n
  · subst hw
    rw [if_pos rfl, dif_pos]
    · refine (congrArg (broadcastInDim S1x1056x1024 ![1, 2] bcast_S1056x1024_S1x1056x1024_1_2 u) (?_ : _ = ix3 (0 : Fin 1) r d)).trans ?_
      · funext a
        apply Fin.ext
        match a with
        | ⟨0, _⟩ => show w.val - w.val = 0; omega
        | ⟨1, _⟩ => rfl
        | ⟨2, _⟩ => rfl
      · pointwise
    · intro a
      match a with
      | ⟨0, _⟩ => show w.val ≤ w.val ∧ w.val < w.val + 1; omega
      | ⟨1, _⟩ => show 0 ≤ r.val ∧ r.val < 0 + 1056; omega
      | ⟨2, _⟩ => show 0 ≤ d.val ∧ d.val < 0 + 1024; omega
  · rw [if_neg hw, dif_neg]
    intro hin
    have h0 : n.val ≤ w.val ∧ w.val < n.val + 1 := hin 0
    exact hw (Fin.ext (by omega))

variable (D : Dat) (V0 : Valuation τ sig (Elt Ideal))

/-- What the carried buffers hold before trip `n`. -/
structure Holds (n : ℕ) : Prop where
  x : ∀ i r k, (V0 (Proc.devRef .tc main_v9_0) : Vec Ideal S40x1056x1024 .f32) (ix3 i r k) = D.x (row i r) k
  held : ∀ i : Fin 40, (V0 (Proc.devRef .tc main_v9_1) : IVec S40 1) (ix1 i) = if Used D.n i.val then 1#1 else 0#1
  e : ∀ i, (V0 (Proc.devRef .tc main_v9_2) : IVec S40 32) (ix1 i) = D.e i
  w1 : ∀ e k f, (V0 (Proc.devRef .tc main_v9_3) : Vec Ideal S16x1024x3584 .f32) (ix3 e k f) = D.w1 e k f
  w3 : ∀ e k f, (V0 (Proc.devRef .tc main_v9_4) : Vec Ideal S16x1024x3584 .f32) (ix3 e k f) = D.w3 e k f
  w2 : ∀ e f d, (V0 (Proc.devRef .tc main_v9_5) : Vec Ideal S16x3584x1024 .f32) (ix3 e f d) = D.w2 e f d
  ctr : (V0 (Proc.devRef .tc main_v9_6) : IVec S_ 32) = fun _ => BitVec.ofNat 32 n
  out : ∀ w : Fin 40, w.val < n → ∀ r d, (V0 (Proc.devRef .tc main_v9_7) : Vec Ideal S40x1056x1024 .f32) (ix3 w r d) = D.out w r d

theorem one_const : Ideal.ofBits FTy.f32 0x3F800000#32 = (1 : EReal) := by
  simp [Ideal.ofBits, Ideal.ieee, -EReal.coe_mul]
  try norm_num

section
variable {D V0} (he : ∀ i, (D.e i).toNat ≤ 15) (n : Fin 40) (H : Holds D V0 n.val)
include H
theorem r11 (r : Fin 1056) (k : Fin 1024) : (res_main_while0b_v11 V0 : Vec Ideal S1056x1024 .f32) (ix2 r k) = D.x (row n r) k :=
  (sliceX _ _ n H.ctr r k).trans (H.x n r k)
include he
theorem r13 : (res_main_while0b_v13 V0 : IVec S_ 32) = fun _ => BitVec.ofNat 32 (D.ex n).val := by
  refine (sliceT _ _ n H.ctr).trans (funext fun _ => (H.e n).trans ?_)
  rw [D.ex_val n (he n), BitVec.ofNat_toNat, BitVec.setWidth_eq]
theorem r47 (r : Fin 1056) (f : Fin 3584) : (res_main_while0b_v47 V0 : Vec Ideal S1056x3584 .f32) (ix2 r f) = Ffn.up (D.x (row n r)) (D.w1 (D.ex n)) f := by
  have h11 := r11 n H r
  have h13 := r13 he n H
  have hw := fun k => (sliceW _ _ _ h13 k f).trans (H.w1 (D.ex n) k f)
  unfold res_main_while0b_v47
  revert h11 hw
  generalize res_main_while0b_v11 V0 = X
  generalize (shapeCast S1024x3584 (Host.dynamicSlice S1x1024x3584 (V0 (Proc.devRef .tc main_v9_3)) _ _) _) = W
  intro h11 hw
  clean_types
  pointwise
  unfold Ffn.up
  exact Finset.sum_congr rfl fun k _ => congrArg₂ (· * ·) (h11 k) (hw k)
theorem rO (w : Fin 40) (r : Fin 1056) (d : Fin 1024) :
    (step_main_v9_7 V0 : Vec Ideal S40x1056x1024 .f32) (ix3 w r d)
      = if w = n then D.out n r d else (V0 (Proc.devRef .tc main_v9_7) : Vec Ideal S40x1056x1024 .f32) (ix3 w r d) := by
  have h11 := r11 n H r
  have h13 := r13 he n H
  have h47 := r47 he n H r
  have hw3 := fun k f => (sliceW _ _ _ h13 k f).trans (H.w3 (D.ex n) k f)
  have hw2 := fun f d => (sliceV _ _ _ h13 f d).trans (H.w2 (D.ex n) f d)
  have hh := (sliceT _ _ n H.ctr).trans (funext fun _ => H.held n)
  unfold step_main_v9_7
  refine (congrFun (id_eq _) _).trans ((update_at _ _ _ n H.ctr w r d).trans ?_)
  refine congrArg (fun z : EReal => if w = n then z else _) ?_
  revert h11 h47 hw3 hw2 hh
  generalize res_main_while0b_v11 V0 = X
  generalize res_main_while0b_v47 V0 = Y
  generalize (shapeCast S1024x3584 (Host.dynamicSlice S1x1024x3584 (V0 (Proc.devRef .tc main_v9_4)) _ _) _) = W3
  generalize (shapeCast S3584x1024 (Host.dynamicSlice S1x3584x1024 (V0 (Proc.devRef .tc main_v9_5)) _ _) _) = W2
  generalize (shapeCast S_ (Host.dynamicSlice S1 (V0 (Proc.devRef .tc main_v9_1)) _ _) _) = M
  intro h11 h47 hw3 hw2 hh
  clean_types
  pointwise
  unfold Dat.out
  have hM : ∀ j, (M : IVec S_ 1) j = if Used D.n n.val then 1#1 else 0#1 := fun j => congrFun hh j
  rw [hM]
  by_cases hu : Used D.n n.val
  · rw [if_pos hu, if_pos hu]
    refine (if_pos rfl).trans ?_
    unfold Ffn.ffn Ffn.hid
    refine Finset.sum_congr rfl fun f _ => ?_
    rw [h47, hw2]
    have h3 : Ffn.up (fun k => (X (ix2 r k) : EReal)) (fun k f => (W3 (ix2 k f) : EReal)) f = Ffn.up (D.x (row n r)) (D.w3 (D.ex n)) f :=
      Ffn.up_congr f h11 fun k => hw3 k f
    exact congrArg (· * _) (congrArg₂ (· * ·) rfl h3)
  · rw [if_neg hu, if_neg hu]
    refine (if_neg (by decide)).trans ?_
    show Ideal.ofBits FTy.f32 0x00000000#32 = 0
    simp [Ideal.ofBits, Ideal.ieee]
/-- What the next trip finds. -/
theorem step_holds : Holds D (STEP V0) (n.val + 1) where
  x i r k := by rw [STEP_main_v9_0]; exact H.x i r k
  held i := by rw [STEP_main_v9_1]; exact H.held i
  e i := by rw [STEP_main_v9_2]; exact H.e i
  w1 e k f := by rw [STEP_main_v9_3]; exact H.w1 e k f
  w3 e k f := by rw [STEP_main_v9_4]; exact H.w3 e k f
  w2 e k f := by rw [STEP_main_v9_5]; exact H.w2 e k f
  ctr := by
    rw [STEP_main_v9_6]
    unfold step_main_v9_6
    rw [H.ctr]
    funext _
    show BitVec.ofNat 32 n.val + 1#32 = BitVec.ofNat 32 (n.val + 1)
    rw [BitVec.ofNat_add]
  out := by
    rw [STEP_main_v9_7]
    intro w hw r d
    refine (rO he n H w r d).trans ?_
    by_cases hn : w = n
    · rw [if_pos hn, hn]
    · rw [if_neg hn]
      refine H.out w ?_ r d
      have : w.val ≠ n.val := fun e => hn (Fin.ext e)
      omega
end
variable (m : (ℓ : Loc nD τ sig) → Buf (Elt Ideal) ℓ)
/-- What the feed-forward reads, from the reference's arguments. -/
def dat (c : Dev nD) : Dat where
  x R k := (m ((c : Thread nD τ).loc main_arg0) : Vec Ideal S42240x1024 .f32) (ix2 R k)
  e i := (m ((c : Thread nD τ).loc main_arg1) : IVec S40 32) (ix1 i)
  n := (m ((c : Thread nD τ).loc main_arg2) : IVec S1 32) (ix1 0)
  w1 e k f := (m ((c : Thread nD τ).loc main_arg3) : Vec Ideal S2x8x1024x3584 .f32) (ix4 ⟨e.val / 8, by omega⟩ ⟨e.val % 8, by omega⟩ k f)
  w3 e k f := (m ((c : Thread nD τ).loc main_arg4) : Vec Ideal S2x8x1024x3584 .f32) (ix4 ⟨e.val / 8, by omega⟩ ⟨e.val % 8, by omega⟩ k f)
  w2 e f d := (m ((c : Thread nD τ).loc main_arg5) : Vec Ideal S2x8x3584x1024 .f32) (ix4 ⟨e.val / 8, by omega⟩ ⟨e.val % 8, by omega⟩ f d)

theorem e0 (c : Dev nD) (i : Fin 40) (r : Fin 1056) (k : Fin 1024) :
    (entryContents preI m c (Proc.devRef .tc main_v9_0) : Vec Ideal S40x1056x1024 .f32) (ix3 i r k) = (dat m c).x (row i r) k := by
  simp only [entryContents, afterL_cons, afterL_nil]
  after_reads_at
  refine Eq.trans (id_eq _) ?_
  pointwise
  rw [show (⟨i.val * 1056 + r.val, by omega⟩ : Fin 42240) = row i r from Fin.ext (by show i.val * 1056 + r.val = 1056 * i.val + r.val; omega)]
  rfl
theorem e1 (c : Dev nD) (i : Fin 40) :
    (entryContents preI m c (Proc.devRef .tc main_v9_1) : IVec S40 1) (ix1 i) = if Used (dat m c).n i.val then 1#1 else 0#1 := by
  simp only [entryContents, afterL_cons, afterL_nil]
  after_reads_at
  show BitVec.ofBool ((BitVec.ofNat 32 i.val).slt (dat m c).n) = _
  unfold Used
  cases (BitVec.ofNat 32 i.val).slt (dat m c).n <;> rfl
theorem e2 (c : Dev nD) (i : Fin 40) :
    (entryContents preI m c (Proc.devRef .tc main_v9_2) : IVec S40 32) (ix1 i) = (dat m c).e i := by
  simp only [entryContents, afterL_cons, afterL_nil]
  after_reads_at
  rfl
theorem e3 (c : Dev nD) (e : Fin 16) (k : Fin 1024) (f : Fin 3584) :
    (entryContents preI m c (Proc.devRef .tc main_v9_3) : Vec Ideal S16x1024x3584 .f32) (ix3 e k f) = (dat m c).w1 e k f := by
  simp only [entryContents, afterL_cons, afterL_nil]
  after_reads_at
  refine Eq.trans (id_eq _) ?_
  pointwise
  rfl
theorem e4 (c : Dev nD) (e : Fin 16) (k : Fin 1024) (f : Fin 3584) :
    (entryContents preI m c (Proc.devRef .tc main_v9_4) : Vec Ideal S16x1024x3584 .f32) (ix3 e k f) = (dat m c).w3 e k f := by
  simp only [entryContents, afterL_cons, afterL_nil]
  after_reads_at
  refine Eq.trans (id_eq _) ?_
  pointwise
  rfl
theorem e5 (c : Dev nD) (e : Fin 16) (f : Fin 3584) (d : Fin 1024) :
    (entryContents preI m c (Proc.devRef .tc main_v9_5) : Vec Ideal S16x3584x1024 .f32) (ix3 e f d) = (dat m c).w2 e f d := by
  simp only [entryContents, afterL_cons, afterL_nil]
  after_reads_at
  refine Eq.trans (id_eq _) ?_
  pointwise
  rfl
theorem e6 (c : Dev nD) : (entryContents preI m c (Proc.devRef .tc main_v9_6) : IVec S_ 32) = fun _ => BitVec.ofNat 32 0 := by
  simp only [entryContents, afterL_cons, afterL_nil]
  after_reads_simp
  rfl
/-- What the loop's buffers hold at its entry. -/
theorem entry_holds (c : Dev nD) : Holds (dat m c) (entryContents preI m c) 0 where
  x := e0 m c
  held := e1 m c
  e := e2 m c
  w1 := e3 m c
  w3 := e4 m c
  w2 := e5 m c
  ctr := e6 m c
  out w hw := absurd hw (Nat.not_lt_zero _)
/-- What the loop's buffers hold before any trip. -/
theorem iter_holds (c : Dev nD) (he : ∀ i, ((dat m c).e i).toNat ≤ 15) (n : ℕ) (hn : n ≤ 40) : Holds (dat m c) (STEP^[n] (entryContents preI m c)) n := by
  induction n with
  | zero => exact entry_holds m c
  | succ n ih =>
    rw [Function.iterate_succ_apply']
    exact step_holds he ⟨n, by omega⟩ (ih (by omega))
/-- The reference's result at a row and a column. -/
theorem result_at (c : Dev nD) (he : ∀ i, ((dat m c).e i).toNat ≤ 15) (R : Fin 42240) (d : Fin 1024) :
    (out_main_v10 (STEP^[40] (entryContents preI m c)) : Vec Ideal S42240x1024 .f32) (ix2 R d)
      = (dat m c).out ⟨R.val / 1056, by omega⟩ ⟨R.val % 1056, by omega⟩ d := by
  have h := (iter_holds m c he 40 le_rfl).out
  unfold out_main_v10
  revert h
  generalize (STEP^[40] (entryContents preI m c)) (Proc.devRef .tc main_v9_7) = O
  intro h
  clean_types
  pointwise
  exact h _ (Fin.isLt _) _ _
end Cert.Reference2Ideal.Moe
-- ==== Proof.MoeClaim.lean ====
module
public import proofs.«01_k».proof.Defs
public import proofs.«01_k».proof.Proof.Gen.Kernel2.Frame
public import proofs.«01_k».proof.Proof.MoeKernel
public import proofs.«01_k».proof.Proof.MoeRef
public import Idealize.ShloMosaic.Adequacy
public import Idealize.ShloMosaic.Init
public import Idealize.ShloMosaic.Lib.Quiescent
@[expose] public section
noncomputable section
namespace Cert.Proof
open Idealize.ShloMosaic Idealize.SL.Sem

theorem quiescent_Kernel2 : quiescent_Kernel2 := fun m ρ h =>
  Cert.Kernel2.Gen.frame m ρ (Cert.Kernel2Ideal.Moe.ok_of_pre (F := Bits) m h)

theorem quiescent_Kernel2Ideal : quiescent_Kernel2Ideal := fun m ρ h =>
  Cert.Kernel2Ideal.Gen.frame m ρ (Cert.Kernel2Ideal.Moe.ok_of_pre m h)

theorem quiescent_Reference2Ideal : quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

theorem quiescent_Reference2Ideal_pre_expert_named : quiescent_Reference2Ideal_pre_expert_named := fun m ρ _ =>
  quiescent_Reference2Ideal m ρ trivial

/-- The experts' feed-forward: kernel and reference leave the same result, from memories that agree on the arguments. -/
theorem algebraic_Kernel2Ideal_Reference2Ideal : algebraic_Kernel2Ideal_Reference2Ideal := by
  intro m ρ m' ρ' hpre hagree
  have he : ∀ c i, ((Cert.Kernel2Ideal.Moe.dat m c).e i).toNat ≤ 15 := fun c i => Cert.Pre_expert_named.named _ _ _ _ _ _ (hpre c) _
  refine ⟨_, Cert.Kernel2Ideal.Moe.run m ρ (Cert.Kernel2Ideal.Moe.ok_of_pre m hpre) he, ?_⟩
  refine (θ_run Cert.Reference2Ideal.defs _ _).mono (fun _ h c => ⟨?_, (h c).2⟩) (Cert.Reference2Ideal.Value.run (F := Ideal) m' ρ')
  rw [(h c).1]
  have hD : Cert.Reference2Ideal.Moe.dat m' c = Cert.Kernel2Ideal.Moe.dat m c := by
    obtain ⟨h0, h1, h2, h3, h4, h5⟩ := hagree c
    unfold Cert.Reference2Ideal.Moe.dat Cert.Kernel2Ideal.Moe.dat
    rw [h0, h1, h2, h3, h4, h5]
  funext i
  idx_vars i
  exact (Cert.Reference2Ideal.Moe.result_at m' c (fun i => hD ▸ he c i) i0 i1).trans (by rw [hD]; rfl)
end Cert.Proof
-- ==== Proof.FfnMath.lean ====
module
public import proofs.«01_k».proof.Proof.MoeMath
@[expose] public section
noncomputable section
open Idealize.ShloMosaic Idealize.SL.Sem
namespace Ffn
/-- The mean over the model's columns. -/
def mean (z : Fin 1024 → EReal) : EReal := Ideal.div (∑ k, z k) (Ideal.ofBits FTy.f32 0x44800000#32)

/-- The layer norm of a row, scaled and shifted. -/
def norm (z g b : Fin 1024 → EReal) (d : Fin 1024) : EReal :=
  (z d - mean z) * Ideal.rsqrt (Ideal.div (∑ k, (z k - mean z) * (z k - mean z)) (Ideal.ofBits FTy.f32 0x44800000#32) + Ideal.ofBits FTy.f32 0x3727C5AC#32) * g d + b d

/-- The weighted residual and the gated branch. -/
def res (x y g : Fin 1024 → EReal) (d : Fin 1024) : EReal := Ideal.ofBits FTy.f32 0x3FD744FD#32 * x d + (1 + g d) * y d

/-- What the feed-forward and its norm read. -/
structure Dat where
  h : Fin 4 → Fin 4096 → Fin 1024 → EReal
  w1 : Fin 1024 → Fin 2816 → EReal
  w3 : Fin 1024 → Fin 2816 → EReal
  w2 : Fin 2816 → Fin 1024 → EReal
  x : Fin 4 → Fin 4096 → Fin 1024 → EReal
  gate : Fin 4 → Fin 1024 → EReal
  g : Fin 1024 → EReal
  b : Fin 1024 → EReal
  sc : Fin 4 → Fin 1024 → EReal
  sh : Fin 4 → Fin 1024 → EReal

/-- The normed residual. -/
def Dat.out (D : Dat) (b : Fin 4) (s : Fin 4096) (d : Fin 1024) : EReal :=
  norm (res (D.x b s) (ffn (D.h b s) D.w1 D.w3 D.w2) (D.gate b)) D.g D.b d

/-- Its modulation, which the next layer reads. -/
def Dat.next (D : Dat) (b : Fin 4) (s : Fin 4096) (d : Fin 1024) : EReal := D.out b s d * (1 + D.sc b d) + D.sh b d
end Ffn
-- ==== Proof.FfnCase.lean ====
module
public import proofs.«01_k».proof.Proof.Gen.Kernel3Ideal.Frame
public import proofs.«01_k».proof.Proof.FfnMath
public import Idealize.ShloMosaic.Lib.Pipeline.Value
public import Idealize.ShloMosaic.Lib.Pipeline.ValueKit
@[expose] public section
set_option maxRecDepth 16384
noncomputable section
namespace Cert.Kernel3Ideal.Ffn
open Cert.Kernel3Ideal Cert.Kernel3Ideal.Gen
open Idealize.ShloMosaic Idealize.ShloMosaic.TcCoe Idealize.SL.Sem

section
variable {F : FTy → Type} [FloatOps F]
variable (c : Dev nD) (i : grid0.Coords) (arg3 : Memref sig .tc .vmem S1x512x1024 .bf16) (harg3 : arg3.IsWhole) (arg4 : Memref sig .tc .vmem S1024x1408 .bf16) (harg4 : arg4.IsWhole) (arg5 : Memref sig .tc .vmem S1024x1408 .bf16) (harg5 : arg5.IsWhole) (arg6 : Memref sig .tc .vmem S1408x1024 .bf16) (harg6 : arg6.IsWhole) (arg7 : Memref sig .tc .vmem S1x512x1024 .f32) (harg7 : arg7.IsWhole) (arg8 : Memref sig .tc .vmem S1x1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1x1024 .f32) (harg11 : arg11.IsWhole) (arg12 : Memref sig .tc .vmem S1x1x1024 .f32) (harg12 : arg12.IsWhole) (arg13 : Memref sig .tc .vmem S1x512x1024 .f32) (harg13 : arg13.IsWhole) (arg14 : Memref sig .tc .vmem S1x512x1024 .bf16) (harg14 : arg14.IsWhole) (arg15 : Memref sig .tc .vmem S512x1024 .f32) (harg15 : arg15.IsWhole)
variable (x0 : Vec F S1x512x1024 .bf16) (x1 : Vec F S1024x1408 .bf16) (x2 : Vec F S1024x1408 .bf16) (x3 : Vec F S1408x1024 .bf16) (x4 : Vec F S1x512x1024 .f32) (x5 : Vec F S1x1x1024 .f32) (x6 : Vec F S1x1024 .f32) (x7 : Vec F S1x1024 .f32) (x8 : Vec F S1x1x1024 .f32) (x9 : Vec F S1x1x1024 .f32) (xs0 : Vec F S512x1024 .f32)

/-- The first half of the hidden units: the running sum starts from zero and takes it. -/
theorem acc_A (hc0 : cond0_0 i) (hc1 : ¬cond0_1 i) :
    sout0_A_0 c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 = k0_pay2 x0 x1 x2 k0_pay1 x3 := by
  frame_out

/-- The second half joins it, and the normed residual is written out … -/
theorem out_B_10 (hc0 : ¬cond0_0 i) (hc1 : cond0_1 i) :
    out0_B_10 c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 = k0_pay3 (k0_pay5 x4 (k0_pay2 x0 x1 x2 xs0 x3) x5 x6 x7) := by
  frame_out

/-- … and so is its modulation. -/
theorem out_B_11 (hc0 : ¬cond0_0 i) (hc1 : cond0_1 i) :
    out0_B_11 c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 = k0_pay4 (k0_pay5 x4 (k0_pay2 x0 x1 x2 xs0 x3) x5 x6 x7) x8 x9 := by
  frame_out
end
/-- The zeroed running sum. -/
theorem pay1_at (x : Fin 512) (d : Fin 1024) : (k0_pay1 (F := Ideal) (ix2 x d) : EReal) = 0 := by
  pointwise [k0_pay1]

/-- Half of the hidden units' contribution, added to the running sum. -/
theorem pay2_at (h : Vec Ideal S1x512x1024 .bf16) (w1 w3 : Vec Ideal S1024x1408 .bf16) (acc : Vec Ideal S512x1024 .f32) (w2 : Vec Ideal S1408x1024 .bf16) (x : Fin 512) (d : Fin 1024) :
    (k0_pay2 h w1 w3 acc w2 (ix2 x d) : EReal) = acc (ix2 x d) + Ffn.ffn (fun k => h (ix3 0 x k)) (fun k f => w1 (ix2 k f)) (fun k f => w3 (ix2 k f)) (fun f d => w2 (ix2 f d)) d := by
  pointwise [k0_pay2]
  rfl
/-- The normed residual, from the running sum. -/
theorem pay5_at (X : Vec Ideal S1x512x1024 .f32) (Y : Vec Ideal S512x1024 .f32) (g : Vec Ideal S1x1x1024 .f32) (lg lb : Vec Ideal S1x1024 .f32) (x : Fin 512) (d : Fin 1024) :
    (k0_pay5 X Y g lg lb (ix2 x d) : EReal)
      = Ffn.norm (Ffn.res (fun k => X (ix3 0 x k)) (fun k => Y (ix2 x k)) (fun k => g (ix3 0 0 k))) (fun k => lg (ix2 0 k)) (fun k => lb (ix2 0 k)) d := by
  pointwise [k0_pay5]
  rfl
/-- The result's block is the normed residual. -/
theorem pay3_at (Z : Vec Ideal S512x1024 .f32) (x : Fin 512) (d : Fin 1024) :
    (k0_pay3 (F := Ideal) Z (ix3 0 x d) : EReal) = Z (ix2 x d) := by
  pointwise [k0_pay3]
/-- The second result's block is its modulation. -/
theorem pay4_at (Z : Vec Ideal S512x1024 .f32) (sc sh : Vec Ideal S1x1x1024 .f32) (x : Fin 512) (d : Fin 1024) :
    (k0_pay4 (F := Ideal) Z sc sh (ix3 0 x d) : EReal) = Z (ix2 x d) * (1 + sc (ix3 0 0 d)) + sh (ix3 0 0 d) := by
  pointwise [k0_pay4]
end Cert.Kernel3Ideal.Ffn
-- ==== Proof.FfnKernel.lean ====
module
public import proofs.«01_k».proof.Proof.FfnCase
public import proofs.«01_k».proof.Proof.Gen.Kernel3Ideal.Value
public import Idealize.ShloMosaic.Lib.StableHlo.ReadAt
public import Idealize.ShloMosaic.Lib.Claim
@[expose] public section
set_option maxRecDepth 16384
noncomputable section
namespace Cert.Kernel3Ideal.Ffn
open Cert.Kernel3Ideal Cert.Kernel3Ideal.Gen Cert.Kernel3Ideal.Value
open Idealize.ShloMosaic Idealize.ShloMosaic.TcCoe Idealize.SL.Sem

variable (m : (ℓ : Loc nD τ sig) → Buf (Elt Ideal) ℓ)

/-- What the feed-forward and its norm read, from the kernel's arguments. -/
def dat (c : Dev nD) : _root_.Ffn.Dat where
  h b s k := (m ((c : Thread nD τ).loc main_arg0) : Vec Ideal S4x4096x1024 .bf16) (ix3 b s k)
  w1 k f := (m ((c : Thread nD τ).loc main_arg1) : Vec Ideal S1024x2816 .f32) (ix2 k f)
  w3 k f := (m ((c : Thread nD τ).loc main_arg2) : Vec Ideal S1024x2816 .f32) (ix2 k f)
  w2 f d := (m ((c : Thread nD τ).loc main_arg3) : Vec Ideal S2816x1024 .f32) (ix2 f d)
  x b s k := (m ((c : Thread nD τ).loc main_arg4) : Vec Ideal S4x4096x1024 .f32) (ix3 b s k)
  gate b k := (m ((c : Thread nD τ).loc main_arg5) : Vec Ideal S4x1x1024 .f32) (ix3 b 0 k)
  g k := (m ((c : Thread nD τ).loc main_arg6) : Vec Ideal S1024 .f32) (ix1 k)
  b k := (m ((c : Thread nD τ).loc main_arg7) : Vec Ideal S1024 .f32) (ix1 k)
  sc b k := (m ((c : Thread nD τ).loc main_arg8) : Vec Ideal S4x1x1024 .f32) (ix3 b 0 k)
  sh b k := (m ((c : Thread nD τ).loc main_arg9) : Vec Ideal S4x1x1024 .f32) (ix3 b 0 k)

/-- Row `r` of row block `i`. -/
def row (i : Fin 8) (r : Fin 512) : Fin 4096 := ⟨512 * i.val + r.val, by omega⟩

/-- The cast weights, and the norm's parameters as rows. -/
theorem V0_at (c : Dev nD) (k : Fin 1024) (f : Fin 2816) : (V m c main_v0 : Vec Ideal S1024x2816 .bf16) (ix2 k f) = ((dat m c).w1 k f : EReal) := by
  unfold V
  after_reads_at
  rfl
theorem V1_at (c : Dev nD) (k : Fin 1024) (f : Fin 2816) : (V m c main_v1 : Vec Ideal S1024x2816 .bf16) (ix2 k f) = ((dat m c).w3 k f : EReal) := by
  unfold V
  after_reads_at
  rfl
theorem V2_at (c : Dev nD) (f : Fin 2816) (d : Fin 1024) : (V m c main_v2 : Vec Ideal S2816x1024 .bf16) (ix2 f d) = ((dat m c).w2 f d : EReal) := by
  unfold V
  after_reads_at
  rfl
theorem V3_at (c : Dev nD) (k : Fin 1024) : (V m c main_v3 : Vec Ideal S1x1024 .f32) (ix2 0 k) = ((dat m c).g k : EReal) := by
  unfold V
  after_reads_at
  rfl
theorem V4_at (c : Dev nD) (k : Fin 1024) : (V m c main_v4 : Vec Ideal S1x1024 .f32) (ix2 0 k) = ((dat m c).b k : EReal) := by
  unfold V
  after_reads_at
  rfl

/-- Grid point `t` is batch `t / 16`, row block `t / 2 % 8`, half `t % 2`. -/
structure Pt (t : Fin cfg0.N) (b : Fin 4) (i : Fin 8) (j : Fin 2) : Prop where
  eq : t.val = 16 * b.val + 2 * i.val + j.val

theorem idx0 : ∀ t : Fin cfg0.N, win0_0.index t 0 = t.val / 16 ∧ win0_0.index t 1 = t.val / 2 % 8 ∧ win0_0.index t 2 = 0 := by decide +kernel
/-- Window 0's block: the row block's rows of the input. -/
theorem iblk0 (c : Dev nD) (t : Fin cfg0.N) (b : Fin 4) (i : Fin 8) (j : Fin 2) (h : Pt t b i j) (r : Fin 512) (k : Fin 1024) :
    (iblk m c 0 t : Vec Ideal S1x512x1024 .bf16) (ix3 0 r k) = ((dat m c).h b (row i r) k : EReal) := by
  have hi := idx0 t
  have ht := h.eq
  unfold iblk
  refine (View.read_apply _ _).trans ?_
  refine (congrArg (V m c main_arg0 : Vec Ideal S4x4096x1024 .bf16) (funext fun (a : Fin 3) => Fin.ext ?_) : _ = (V m c main_arg0 : Vec Ideal S4x4096x1024 .bf16) (ix3 b (row i r) k)).trans (congrFun (V_main_arg0 m c) _)
  match a with
  | ⟨0, _⟩ => show win0_0.index t 0 * 1 + 1 * 0 = b.val; rw [hi.1]; omega
  | ⟨1, _⟩ => show win0_0.index t 1 * 512 + 1 * r.val = 512 * i.val + r.val; rw [hi.2.1]; omega
  | ⟨2, _⟩ => show win0_0.index t 2 * 1024 + 1 * k.val = k.val; rw [hi.2.2]; omega
theorem idx1 : ∀ t : Fin cfg0.N, win0_1.index t 0 = 0 ∧ win0_1.index t 1 = t.val % 2 := by decide +kernel
/-- Window 1's block: the half's columns of the weight. -/
theorem iblk1 (c : Dev nD) (t : Fin cfg0.N) (b : Fin 4) (i : Fin 8) (j : Fin 2) (h : Pt t b i j) (k : Fin 1024) (f : Fin 1408) :
    (iblk m c 1 t : Vec Ideal S1024x1408 .bf16) (ix2 k f) = ((dat m c).w1 k (_root_.Ffn.cell (T := 2) (B := 1408) j f) : EReal) := by
  have hi := idx1 t
  have ht := h.eq
  unfold iblk
  refine (View.read_apply _ _).trans ?_
  refine (congrArg (V m c main_v0 : Vec Ideal S1024x2816 .bf16) (funext fun (a : Fin 2) => Fin.ext ?_) : _ = (V m c main_v0 : Vec Ideal S1024x2816 .bf16) _).trans (V0_at m c k (_root_.Ffn.cell (T := 2) (B := 1408) j f))
  match a with
  | ⟨0, _⟩ => show win0_1.index t 0 * 1024 + 1 * k.val = k.val; rw [hi.1]; omega
  | ⟨1, _⟩ => show win0_1.index t 1 * 1408 + 1 * f.val = 1408 * j.val + f.val; rw [hi.2]; omega
theorem idx2 : ∀ t : Fin cfg0.N, win0_2.index t 0 = 0 ∧ win0_2.index t 1 = t.val % 2 := by decide +kernel
/-- Window 2's block: the half's columns of the weight. -/
theorem iblk2 (c : Dev nD) (t : Fin cfg0.N) (b : Fin 4) (i : Fin 8) (j : Fin 2) (h : Pt t b i j) (k : Fin 1024) (f : Fin 1408) :
    (iblk m c 2 t : Vec Ideal S1024x1408 .bf16) (ix2 k f) = ((dat m c).w3 k (_root_.Ffn.cell (T := 2) (B := 1408) j f) : EReal) := by
  have hi := idx2 t
  have ht := h.eq
  unfold iblk
  refine (View.read_apply _ _).trans ?_
  refine (congrArg (V m c main_v1 : Vec Ideal S1024x2816 .bf16) (funext fun (a : Fin 2) => Fin.ext ?_) : _ = (V m c main_v1 : Vec Ideal S1024x2816 .bf16) _).trans (V1_at m c k (_root_.Ffn.cell (T := 2) (B := 1408) j f))
  match a with
  | ⟨0, _⟩ => show win0_2.index t 0 * 1024 + 1 * k.val = k.val; rw [hi.1]; omega
  | ⟨1, _⟩ => show win0_2.index t 1 * 1408 + 1 * f.val = 1408 * j.val + f.val; rw [hi.2]; omega
theorem idx3 : ∀ t : Fin cfg0.N, win0_3.index t 0 = t.val % 2 ∧ win0_3.index t 1 = 0 := by decide +kernel
/-- Window 3's block: the half's rows of the down projection. -/
theorem iblk3 (c : Dev nD) (t : Fin cfg0.N) (b : Fin 4) (i : Fin 8) (j : Fin 2) (h : Pt t b i j) (f : Fin 1408) (k : Fin 1024) :
    (iblk m c 3 t : Vec Ideal S1408x1024 .bf16) (ix2 f k) = ((dat m c).w2 (_root_.Ffn.cell (T := 2) (B := 1408) j f) k : EReal) := by
  have hi := idx3 t
  have ht := h.eq
  unfold iblk
  refine (View.read_apply _ _).trans ?_
  refine (congrArg (V m c main_v2 : Vec Ideal S2816x1024 .bf16) (funext fun (a : Fin 2) => Fin.ext ?_) : _ = (V m c main_v2 : Vec Ideal S2816x1024 .bf16) _).trans (V2_at m c (_root_.Ffn.cell (T := 2) (B := 1408) j f) k)
  match a with
  | ⟨0, _⟩ => show win0_3.index t 0 * 1408 + 1 * f.val = 1408 * j.val + f.val; rw [hi.1]; omega
  | ⟨1, _⟩ => show win0_3.index t 1 * 1024 + 1 * k.val = k.val; rw [hi.2]; omega
theorem idx4 : ∀ t : Fin cfg0.N, win0_4.index t 0 = t.val / 16 ∧ win0_4.index t 1 = t.val / 2 % 8 ∧ win0_4.index t 2 = 0 := by decide +kernel
/-- Window 4's block: the row block's rows of the residual. -/
theorem iblk4 (c : Dev nD) (t : Fin cfg0.N) (b : Fin 4) (i : Fin 8) (j : Fin 2) (h : Pt t b i j) (r : Fin 512) (k : Fin 1024) :
    (iblk m c 4 t : Vec Ideal S1x512x1024 .f32) (ix3 0 r k) = ((dat m c).x b (row i r) k : EReal) := by
  have hi := idx4 t
  have ht := h.eq
  unfold iblk
  refine (View.read_apply _ _).trans ?_
  refine (congrArg (V m c main_arg4 : Vec Ideal S4x4096x1024 .f32) (funext fun (a : Fin 3) => Fin.ext ?_) : _ = (V m c main_arg4 : Vec Ideal S4x4096x1024 .f32) (ix3 b (row i r) k)).trans (congrFun (V_main_arg4 m c) _)
  match a with
  | ⟨0, _⟩ => show win0_4.index t 0 * 1 + 1 * 0 = b.val; rw [hi.1]; omega
  | ⟨1, _⟩ => show win0_4.index t 1 * 512 + 1 * r.val = 512 * i.val + r.val; rw [hi.2.1]; omega
  | ⟨2, _⟩ => show win0_4.index t 2 * 1024 + 1 * k.val = k.val; rw [hi.2.2]; omega
theorem idx5 : ∀ t : Fin cfg0.N, win0_5.index t 0 = t.val / 16 ∧ win0_5.index t 1 = 0 ∧ win0_5.index t 2 = 0 := by decide +kernel
/-- Window 5's block: the batch's gate. -/
theorem iblk5 (c : Dev nD) (t : Fin cfg0.N) (b : Fin 4) (i : Fin 8) (j : Fin 2) (h : Pt t b i j) (k : Fin 1024) :
    (iblk m c 5 t : Vec Ideal S1x1x1024 .f32) (ix3 0 0 k) = ((dat m c).gate b k : EReal) := by
  have hi := idx5 t
  have ht := h.eq
  unfold iblk
  refine (View.read_apply _ _).trans ?_
  refine (congrArg (V m c main_arg5 : Vec Ideal S4x1x1024 .f32) (funext fun (a : Fin 3) => Fin.ext ?_) : _ = (V m c main_arg5 : Vec Ideal S4x1x1024 .f32) (ix3 b 0 k)).trans (congrFun (V_main_arg5 m c) _)
  match a with
  | ⟨0, _⟩ => show win0_5.index t 0 * 1 + 1 * 0 = b.val; rw [hi.1]; omega
  | ⟨1, _⟩ => show win0_5.index t 1 * 1 + 1 * 0 = 0; rw [hi.2.1]
  | ⟨2, _⟩ => show win0_5.index t 2 * 1024 + 1 * k.val = k.val; rw [hi.2.2]; omega
theorem idx6 : ∀ t : Fin cfg0.N, win0_6.index t 0 = 0 ∧ win0_6.index t 1 = 0 := by decide +kernel
/-- Window 6's block: the norm's parameter. -/
theorem iblk6 (c : Dev nD) (t : Fin cfg0.N) (b : Fin 4) (i : Fin 8) (j : Fin 2) (h : Pt t b i j) (k : Fin 1024) :
    (iblk m c 6 t : Vec Ideal S1x1024 .f32) (ix2 0 k) = ((dat m c).g k : EReal) := by
  have hi := idx6 t
  have ht := h.eq
  unfold iblk
  refine (View.read_apply _ _).trans ?_
  refine (congrArg (V m c main_v3 : Vec Ideal S1x1024 .f32) (funext fun (a : Fin 2) => Fin.ext ?_) : _ = (V m c main_v3 : Vec Ideal S1x1024 .f32) _).trans (V3_at m c k)
  match a with
  | ⟨0, _⟩ => show win0_6.index t 0 * 1 + 1 * 0 = 0; rw [hi.1]
  | ⟨1, _⟩ => show win0_6.index t 1 * 1024 + 1 * k.val = k.val; rw [hi.2]; omega
theorem idx7 : ∀ t : Fin cfg0.N, win0_7.index t 0 = 0 ∧ win0_7.index t 1 = 0 := by decide +kernel
/-- Window 7's block: the norm's parameter. -/
theorem iblk7 (c : Dev nD) (t : Fin cfg0.N) (b : Fin 4) (i : Fin 8) (j : Fin 2) (h : Pt t b i j) (k : Fin 1024) :
    (iblk m c 7 t : Vec Ideal S1x1024 .f32) (ix2 0 k) = ((dat m c).b k : EReal) := by
  have hi := idx7 t
  have ht := h.eq
  unfold iblk
  refine (View.read_apply _ _).trans ?_
  refine (congrArg (V m c main_v4 : Vec Ideal S1x1024 .f32) (funext fun (a : Fin 2) => Fin.ext ?_) : _ = (V m c main_v4 : Vec Ideal S1x1024 .f32) _).trans (V4_at m c k)
  match a with
  | ⟨0, _⟩ => show win0_7.index t 0 * 1 + 1 * 0 = 0; rw [hi.1]
  | ⟨1, _⟩ => show win0_7.index t 1 * 1024 + 1 * k.val = k.val; rw [hi.2]; omega
theorem idx8 : ∀ t : Fin cfg0.N, win0_8.index t 0 = t.val / 16 ∧ win0_8.index t 1 = 0 ∧ win0_8.index t 2 = 0 := by decide +kernel
/-- Window 8's block: the batch's scale. -/
theorem iblk8 (c : Dev nD) (t : Fin cfg0.N) (b : Fin 4) (i : Fin 8) (j : Fin 2) (h : Pt t b i j) (k : Fin 1024) :
    (iblk m c 8 t : Vec Ideal S1x1x1024 .f32) (ix3 0 0 k) = ((dat m c).sc b k : EReal) := by
  have hi := idx8 t
  have ht := h.eq
  unfold iblk
  refine (View.read_apply _ _).trans ?_
  refine (congrArg (V m c main_arg8 : Vec Ideal S4x1x1024 .f32) (funext fun (a : Fin 3) => Fin.ext ?_) : _ = (V m c main_arg8 : Vec Ideal S4x1x1024 .f32) (ix3 b 0 k)).trans (congrFun (V_main_arg8 m c) _)
  match a with
  | ⟨0, _⟩ => show win0_8.index t 0 * 1 + 1 * 0 = b.val; rw [hi.1]; omega
  | ⟨1, _⟩ => show win0_8.index t 1 * 1 + 1 * 0 = 0; rw [hi.2.1]
  | ⟨2, _⟩ => show win0_8.index t 2 * 1024 + 1 * k.val = k.val; rw [hi.2.2]; omega
theorem idx9 : ∀ t : Fin cfg0.N, win0_9.index t 0 = t.val / 16 ∧ win0_9.index t 1 = 0 ∧ win0_9.index t 2 = 0 := by decide +kernel
/-- Window 9's block: the batch's shift. -/
theorem iblk9 (c : Dev nD) (t : Fin cfg0.N) (b : Fin 4) (i : Fin 8) (j : Fin 2) (h : Pt t b i j) (k : Fin 1024) :
    (iblk m c 9 t : Vec Ideal S1x1x1024 .f32) (ix3 0 0 k) = ((dat m c).sh b k : EReal) := by
  have hi := idx9 t
  have ht := h.eq
  unfold iblk
  refine (View.read_apply _ _).trans ?_
  refine (congrArg (V m c main_arg9 : Vec Ideal S4x1x1024 .f32) (funext fun (a : Fin 3) => Fin.ext ?_) : _ = (V m c main_arg9 : Vec Ideal S4x1x1024 .f32) (ix3 b 0 k)).trans (congrFun (V_main_arg9 m c) _)
  match a with
  | ⟨0, _⟩ => show win0_9.index t 0 * 1 + 1 * 0 = b.val; rw [hi.1]; omega
  | ⟨1, _⟩ => show win0_9.index t 1 * 1 + 1 * 0 = 0; rw [hi.2.1]
  | ⟨2, _⟩ => show win0_9.index t 2 * 1024 + 1 * k.val = k.val; rw [hi.2.2]; omega

/-- The half's contribution. -/
theorem half_at (c : Dev nD) (t : Fin cfg0.N) (b : Fin 4) (i : Fin 8) (j : Fin 2) (h : Pt t b i j) (r : Fin 512) (d : Fin 1024) :
    _root_.Ffn.ffn (fun k => (iblk m c 0 t : Vec Ideal S1x512x1024 .bf16) (ix3 0 r k)) (fun k f => (iblk m c 1 t : Vec Ideal S1024x1408 .bf16) (ix2 k f))
      (fun k f => (iblk m c 2 t : Vec Ideal S1024x1408 .bf16) (ix2 k f)) (fun f d => (iblk m c 3 t : Vec Ideal S1408x1024 .bf16) (ix2 f d)) d
      = _root_.Ffn.part (T := 2) (B := 1408) ((dat m c).h b (row i r)) (dat m c).w1 (dat m c).w3 (dat m c).w2 d j := by
  have e0 : (fun k => ((iblk m c 0 t : Vec Ideal S1x512x1024 .bf16) (ix3 0 r k) : EReal)) = _ := funext fun k => iblk0 m c t b i j h r k
  have e1 : (fun k f => ((iblk m c 1 t : Vec Ideal S1024x1408 .bf16) (ix2 k f) : EReal)) = _ := funext fun k => funext fun f => iblk1 m c t b i j h k f
  have e2 : (fun k f => ((iblk m c 2 t : Vec Ideal S1024x1408 .bf16) (ix2 k f) : EReal)) = _ := funext fun k => funext fun f => iblk2 m c t b i j h k f
  have e3 : (fun f d => ((iblk m c 3 t : Vec Ideal S1408x1024 .bf16) (ix2 f d) : EReal)) = _ := funext fun f => funext fun d => iblk3 m c t b i j h f d
  unfold _root_.Ffn.part
  rw [e0, e1, e2, e3]

/-- The running sum after a row block's first half. -/
theorem accA (c : Dev nD) (t : Fin cfg0.N) (b : Fin 4) (i : Fin 8) (h : Pt t b i 0) (r : Fin 512) (d : Fin 1024) :
    ((outsAt0 m c t.val t.isLt).2.2 (ix2 r d) : EReal) = _root_.Ffn.acc (T := 2) (B := 1408) ((dat m c).h b (row i r)) (dat m c).w1 (dat m c).w3 (dat m c).w2 d 1 := by
  have ht := h.eq
  have h0 : t.val % 2 = 0 := by rw [ht]; show (_ + 0) % 2 = 0; omega
  have key : (outsAt0 m c t.val t.isLt).2.2 = k0_pay2 (iblk m c 0 t) (iblk m c 1 t) (iblk m c 2 t) (k0_pay1 (F := Ideal)) (iblk m c 3 t) := by
    rw [outsAt0_A m c t h0 (by omega)]
    dsimp only
    exact acc_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) _ _
  refine (congrFun key _).trans ((pay2_at _ _ _ _ _ r d).trans ?_)
  rw [pay1_at]
  refine congrArg (0 + ·) ?_
  exact half_at m c t b i 0 h r d

/-- The running sum a row block's second half makes is the whole product. -/
theorem accB (c : Dev nD) (t t' : Fin cfg0.N) (b : Fin 4) (i : Fin 8) (h : Pt t b i 1) (h' : Pt t' b i 0) (r : Fin 512) (d : Fin 1024) :
    (k0_pay2 (iblk m c 0 t) (iblk m c 1 t) (iblk m c 2 t) (outsAt0 m c t'.val t'.isLt).2.2 (iblk m c 3 t) (ix2 r d) : EReal)
      = _root_.Ffn.ffn ((dat m c).h b (row i r)) (dat m c).w1 (dat m c).w3 (dat m c).w2 d := by
  refine (pay2_at _ _ _ _ _ r d).trans ?_
  rw [accA m c t' b i h' r d]
  refine Eq.trans ?_ (_root_.Ffn.acc_all (T := 2) (B := 1408) ((dat m c).h b (row i r)) (dat m c).w1 (dat m c).w3 (dat m c).w2 d)
  rw [half_at m c t b i 1 h r d]
  rfl

/-- The normed residual at a row block's second half. -/
theorem resB (c : Dev nD) (t t' : Fin cfg0.N) (b : Fin 4) (i : Fin 8) (h : Pt t b i 1) (h' : Pt t' b i 0) (r : Fin 512) (d : Fin 1024) :
    (k0_pay5 (iblk m c 4 t) (k0_pay2 (iblk m c 0 t) (iblk m c 1 t) (iblk m c 2 t) (outsAt0 m c t'.val t'.isLt).2.2 (iblk m c 3 t)) (iblk m c 5 t) (iblk m c 6 t) (iblk m c 7 t) (ix2 r d) : EReal)
      = (dat m c).out b (row i r) d := by
  refine (pay5_at _ _ _ _ _ r d).trans ?_
  have e4 := funext fun k => iblk4 m c t b i 1 h r k
  have e5 := funext fun k => iblk5 m c t b i 1 h k
  have e6 := funext fun k => iblk6 m c t b i 1 h k
  have e7 := funext fun k => iblk7 m c t b i 1 h k
  have ey := funext fun k => accB m c t t' b i h h' r k
  unfold _root_.Ffn.Dat.out
  exact congr (congrArg₂ (fun z g => _root_.Ffn.norm z g) (congr (congrArg₂ (fun x y => _root_.Ffn.res x y) e4 ey) e5) e6 |> fun e => congr e e7) rfl

/-- What a row block's second half leaves in the two results' blocks. -/
theorem outsB (c : Dev nD) (t t' : Fin cfg0.N) (b : Fin 4) (i : Fin 8) (h : Pt t b i 1) (h' : Pt t' b i 0) (r : Fin 512) (d : Fin 1024) :
    ((outsAt0 m c t.val t.isLt).1 (ix3 0 r d) : EReal) = (dat m c).out b (row i r) d
    ∧ ((outsAt0 m c t.val t.isLt).2.1 (ix3 0 r d) : EReal) = (dat m c).next b (row i r) d := by
  have ht := h.eq
  have ht' := h'.eq
  have h1 : t.val % 2 = 1 := by rw [ht]; show (_ + 1) % 2 = 1; omega
  have hp : t.val = t'.val + 1 := by rw [ht, ht']; rfl
  have hst : outsAt0 m c t.val t.isLt = stAt0 m c t.val t.isLt (outsAt0 m c t'.val t'.isLt) := by
    obtain ⟨n, hn⟩ := t
    simp only at hp
    subst hp
    exact outsAt0_succ m c t'.val hn
  have k0 : (outsAt0 m c t.val t.isLt).1 = k0_pay3 (k0_pay5 (iblk m c 4 t) (k0_pay2 (iblk m c 0 t) (iblk m c 1 t) (iblk m c 2 t) (outsAt0 m c t'.val t'.isLt).2.2 (iblk m c 3 t)) (iblk m c 5 t) (iblk m c 6 t) (iblk m c 7 t)) := by
    rw [hst, stAt0_B m c t _ (by omega) h1]
    dsimp only
    exact out_B_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (outsAt0 m c t'.val t'.isLt).2.2 _ _
  have k1 : (outsAt0 m c t.val t.isLt).2.1 = k0_pay4 (k0_pay5 (iblk m c 4 t) (k0_pay2 (iblk m c 0 t) (iblk m c 1 t) (iblk m c 2 t) (outsAt0 m c t'.val t'.isLt).2.2 (iblk m c 3 t)) (iblk m c 5 t) (iblk m c 6 t) (iblk m c 7 t)) (iblk m c 8 t) (iblk m c 9 t) := by
    rw [hst, stAt0_B m c t _ (by omega) h1]
    dsimp only
    exact out_B_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (outsAt0 m c t'.val t'.isLt).2.2 _ _
  have hr := resB m c t t' b i h h' r d
  refine ⟨(congrFun k0 _).trans ((pay3_at _ r d).trans hr), (congrFun k1 _).trans ((pay4_at _ _ _ r d).trans ?_)⟩
  unfold _root_.Ffn.Dat.next
  exact congrArg₂ (· + ·) (congrArg₂ (· * ·) hr (congrArg (1 + ·) (iblk8 m c t b i 1 h d))) (iblk9 m c t b i 1 h d)

/-- The kernel's first result at a position and a column. -/
theorem result0_at (c : Dev nD) (b : Fin 4) (i : Fin 8) (r : Fin 512) (d : Fin 1024) :
    (G10 m c : Vec Ideal S4x4096x1024 .f32) (ix3 b (row i r) d) = (dat m c).out b (row i r) d := by
  have hp : pt10Of (ix3 b (row i r) d) = 16 * b.val + 2 * i.val + 1 := by
    show 2 * (8 * (b.val / 1 - 0) + 1 * ((512 * i.val + r.val) / 512 - 0) + 1 * (d.val / 1024 - 0)) + 1 = _
    omega
  have hl : loc10Of (ix3 b (row i r) d) = ix3 0 r d := by
    funext a
    apply Fin.ext
    match a with
    | ⟨0, _⟩ => show b.val % 1 = 0; omega
    | ⟨1, _⟩ => show (512 * i.val + r.val) % 512 = r.val; omega
    | ⟨2, _⟩ => show d.val % 1024 = d.val; omega
  have hN : 16 * b.val + 2 * i.val + 1 < cfg0.N := lt_of_lt_of_eq (by omega : _ < 64) N_0.symm
  unfold G10
  rw [dif_pos (by rw [hp]; exact hN), hl, fold0_congr m c _ _ (16 * b.val + 2 * i.val + 1) (by omega) hp, ← outsAt0_sweep m c _ hN]
  exact (outsB m c ⟨_, hN⟩ ⟨16 * b.val + 2 * i.val, by omega⟩ b i ⟨rfl⟩ ⟨rfl⟩ r d).1

/-- The kernel's second result at a position and a column. -/
theorem result1_at (c : Dev nD) (b : Fin 4) (i : Fin 8) (r : Fin 512) (d : Fin 1024) :
    (G11 m c : Vec Ideal S4x4096x1024 .bf16) (ix3 b (row i r) d) = (dat m c).next b (row i r) d := by
  have hp : pt11Of (ix3 b (row i r) d) = 16 * b.val + 2 * i.val + 1 := by
    show 2 * (8 * (b.val / 1 - 0) + 1 * ((512 * i.val + r.val) / 512 - 0) + 1 * (d.val / 1024 - 0)) + 1 = _
    omega
  have hl : loc11Of (ix3 b (row i r) d) = ix3 0 r d := by
    funext a
    apply Fin.ext
    match a with
    | ⟨0, _⟩ => show b.val % 1 = 0; omega
    | ⟨1, _⟩ => show (512 * i.val + r.val) % 512 = r.val; omega
    | ⟨2, _⟩ => show d.val % 1024 = d.val; omega
  have hN : 16 * b.val + 2 * i.val + 1 < cfg0.N := lt_of_lt_of_eq (by omega : _ < 64) N_0.symm
  unfold G11
  rw [dif_pos (by rw [hp]; exact hN), hl, fold0_congr m c _ _ (16 * b.val + 2 * i.val + 1) (by omega) hp, ← outsAt0_sweep m c _ hN]
  exact (outsB m c ⟨_, hN⟩ ⟨16 * b.val + 2 * i.val, by omega⟩ b i ⟨rfl⟩ ⟨rfl⟩ r d).2
end Cert.Kernel3Ideal.Ffn
-- ==== Proof.FfnRef.lean ====
module
public import proofs.«01_k».proof.Proof.FfnMath
public import proofs.«01_k».proof.Proof.Gen.Reference3Ideal.Run
public import Idealize.ShloMosaic.Lib.StableHlo.ReadAt
public import Idealize.ShloMosaic.Lib.Claim
@[expose] public section
set_option maxRecDepth 16384
noncomputable section
namespace Cert.Reference3Ideal.Ffn
open Cert.Reference3Ideal Cert.Reference3Ideal.Gen Cert.Reference3Ideal.Value
open Idealize.ShloMosaic Idealize.ShloMosaic.TcCoe Idealize.SL.Sem
open Idealize.ShloMosaic.StableHlo

variable (m : (ℓ : Loc nD τ sig) → Buf (Elt Ideal) ℓ)

/-- What the feed-forward and its norm read, from the reference's arguments. -/
def dat (c : Dev nD) : _root_.Ffn.Dat where
  h b s k := (m ((c : Thread nD τ).loc main_arg0) : Vec Ideal S4x4096x1024 .bf16) (ix3 b s k)
  w1 k f := (m ((c : Thread nD τ).loc main_arg1) : Vec Ideal S1024x2816 .f32) (ix2 k f)
  w3 k f := (m ((c : Thread nD τ).loc main_arg2) : Vec Ideal S1024x2816 .f32) (ix2 k f)
  w2 f d := (m ((c : Thread nD τ).loc main_arg3) : Vec Ideal S2816x1024 .f32) (ix2 f d)
  x b s k := (m ((c : Thread nD τ).loc main_arg4) : Vec Ideal S4x4096x1024 .f32) (ix3 b s k)
  gate b k := (m ((c : Thread nD τ).loc main_arg5) : Vec Ideal S4x1x1024 .f32) (ix3 b 0 k)
  g k := (m ((c : Thread nD τ).loc main_arg6) : Vec Ideal S1024 .f32) (ix1 k)
  b k := (m ((c : Thread nD τ).loc main_arg7) : Vec Ideal S1024 .f32) (ix1 k)
  sc b k := (m ((c : Thread nD τ).loc main_arg8) : Vec Ideal S4x1x1024 .f32) (ix3 b 0 k)
  sh b k := (m ((c : Thread nD τ).loc main_arg9) : Vec Ideal S4x1x1024 .f32) (ix3 b 0 k)

/-- The reference's first result. -/
theorem out0_at (c : Dev nD) (b : Fin 4) (s : Fin 4096) (d : Fin 1024) :
    (res_main_v36 m c : Vec Ideal S4x4096x1024 .f32) (ix3 b s d) = (dat m c).out b s d := by
  unfold res_main_v36 _root_.Ffn.Dat.out dat
  generalize hY : (Host.dotGeneral (F := Ideal) dot_S4x4096x2816_S2816x1024_S4x4096x1024_2_0_01_1_n_n none _ _) = Y
  have hy : ∀ k, (Y (ix3 b s k) : EReal) = _root_.Ffn.ffn (fun k => (m ((c : Thread nD τ).loc main_arg0) : Vec Ideal S4x4096x1024 .bf16) (ix3 b s k))
      (fun k f => (m ((c : Thread nD τ).loc main_arg1) : Vec Ideal S1024x2816 .f32) (ix2 k f)) (fun k f => (m ((c : Thread nD τ).loc main_arg2) : Vec Ideal S1024x2816 .f32) (ix2 k f))
      (fun f d => (m ((c : Thread nD τ).loc main_arg3) : Vec Ideal S2816x1024 .f32) (ix2 f d)) k := by
    intro k
    rw [← hY]
    generalize m ((c : Thread nD τ).loc main_arg0) = H
    generalize m ((c : Thread nD τ).loc main_arg1) = W1
    generalize m ((c : Thread nD τ).loc main_arg2) = W3
    generalize m ((c : Thread nD τ).loc main_arg3) = W2
    clean_types
    pointwise
    rfl
  clear hY
  revert hy
  generalize m ((c : Thread nD τ).loc main_arg4) = X
  generalize m ((c : Thread nD τ).loc main_arg5) = G
  generalize m ((c : Thread nD τ).loc main_arg6) = LG
  generalize m ((c : Thread nD τ).loc main_arg7) = LB
  intro hy
  generalize hZ : (addf (F := Ideal) (mulf _ X) _) = Z
  have hz : ∀ k, (Z (ix3 b s k) : EReal) = _root_.Ffn.res (fun k => (X : Vec Ideal S4x4096x1024 .f32) (ix3 b s k)) (fun k => Y (ix3 b s k)) (fun k => (G : Vec Ideal S4x1x1024 .f32) (ix3 b 0 k)) k := by
    intro k
    rw [← hZ]
    clean_types
    pointwise
    rfl
  clear hZ
  rw [funext hy] at hz
  clean_types
  pointwise
  have e : (fun k => (Z (ix3 b s k) : EReal)) = _ := funext hz
  rw [← e]
  rfl
/-- The reference's second result. -/
theorem out1_at (c : Dev nD) (b : Fin 4) (s : Fin 4096) (d : Fin 1024) :
    (res_main_v43 m c : Vec Ideal S4x4096x1024 .bf16) (ix3 b s d) = (dat m c).next b s d := by
  have h := out0_at m c b s d
  unfold _root_.Ffn.Dat.next
  rw [← h]
  unfold res_main_v36 res_main_v43
  generalize (addf (F := Ideal) (mulf (mulf (subf _ _) _) _) _) = Z
  unfold dat
  clean_types
  pointwise
end Cert.Reference3Ideal.Ffn
-- ==== Proof.FfnClaim.lean ====
module
public import proofs.«01_k».proof.Defs
public import proofs.«01_k».proof.Proof.Gen.Kernel3.Frame
public import proofs.«01_k».proof.Proof.FfnKernel
public import proofs.«01_k».proof.Proof.FfnRef
public import Idealize.ShloMosaic.Adequacy
public import Idealize.ShloMosaic.Init
public import Idealize.ShloMosaic.Lib.Quiescent
@[expose] public section
noncomputable section
namespace Cert.Proof
open Idealize.ShloMosaic Idealize.SL.Sem

theorem quiescent_Reference3Ideal : quiescent_Reference3Ideal := fun m ρ _ =>
  (θ_run Cert.Reference3Ideal.defs _ _).mono (fun r h => ⟨fun c => (h c).2.2, sem_eq_zero_of_no_sems (by decide) r.2⟩)
    (Cert.Reference3Ideal.Value.run (F := Ideal) m ρ)

/-- The dense feed-forward with its norm and modulation: kernel and reference leave the same two results, from memories that agree on the arguments. -/
theorem algebraic_Kernel3Ideal_Reference3Ideal : algebraic_Kernel3Ideal_Reference3Ideal := by
  intro m ρ m' ρ' _ hagree
  refine ⟨_, _, Cert.Kernel3Ideal.Value.run (F := Ideal) m ρ, ?_⟩
  refine (θ_run Cert.Reference3Ideal.defs _ _).mono (fun _ h c => ⟨?_, ?_, (h c).2.2⟩) (Cert.Reference3Ideal.Value.run (F := Ideal) m' ρ')
  all_goals
    have hD : Cert.Reference3Ideal.Ffn.dat m' c = Cert.Kernel3Ideal.Ffn.dat m c := by
      obtain ⟨h0, h1, h2, h3, h4, h5, h6, h7, h8, h9⟩ := hagree c
      unfold Cert.Reference3Ideal.Ffn.dat Cert.Kernel3Ideal.Ffn.dat
      rw [h0, h1, h2, h3, h4, h5, h6, h7, h8, h9]
    have hp : ∀ s : Fin 4096, s = Cert.Kernel3Ideal.Ffn.row ⟨s.val / 512, by omega⟩ ⟨s.val % 512, by omega⟩ := fun s =>
      Fin.ext (by show s.val = 512 * (s.val / 512) + s.val % 512; omega)
  · rw [(h c).1]
    funext i
    idx_vars i
    rw [hp i1]
    exact (Cert.Reference3Ideal.Ffn.out0_at m' c i0 _ i2).trans (hD ▸ (Cert.Kernel3Ideal.Ffn.result0_at m c i0 _ _ i2).symm)
  · rw [(h c).2.1]
    funext i
    idx_vars i
    rw [hp i1]
    exact (Cert.Reference3Ideal.Ffn.out1_at m' c i0 _ i2).trans (hD ▸ (Cert.Kernel3Ideal.Ffn.result1_at m c i0 _ _ i2).symm)
end Cert.Proof
-- ==== Proof.OutMath.lean ====
module
public import proofs.«01_k».proof.Proof.FfnMath
@[expose] public section
noncomputable section
open Idealize.ShloMosaic Idealize.SL.Sem
namespace Out
/-- Column `k` of the second mixer's half of the rows. -/
def high (k : Fin 512) : Fin 1024 := ⟨512 + k.val, by omega⟩
/-- Column `k` of the first mixer's half. -/
def low (k : Fin 512) : Fin 1024 := ⟨k.val, by omega⟩

/-- A row's projection from its two halves. -/
def proj (ya yb : Fin 512 → EReal) (w : Fin 1024 → Fin 1024 → EReal) (d : Fin 1024) : EReal :=
  (∑ k, ya k * w (low k) d) + ∑ k, yb k * w (high k) d

/-- The two halves side by side. -/
def both (ya yb : Fin 512 → EReal) (k : Fin 1024) : EReal := if h : k.val < 512 then ya ⟨k.val, h⟩ else yb ⟨k.val - 512, by omega⟩

/-- The projection of the two halves side by side is the sum of their projections. -/
theorem both_proj (ya yb : Fin 512 → EReal) (w : Fin 1024 → Fin 1024 → EReal) (d : Fin 1024) :
    (∑ k, both ya yb k * w k d) = proj ya yb w d := by
  refine (Fin.sum_univ_add (a := 512) (b := 512) (fun k : Fin (512 + 512) => both ya yb k * w k d)).trans ?_
  refine congrArg₂ (· + ·) (Finset.sum_congr rfl fun k _ => ?_) (Finset.sum_congr rfl fun k _ => ?_)
  · refine congrArg₂ (· * ·) ?_ rfl
    exact dif_pos k.isLt
  · refine congrArg₂ (· * ·) ?_ rfl
    refine (dif_neg (show ¬(512 + k.val < 512) by omega)).trans (congrArg yb (Fin.ext ?_))
    show 512 + k.val - 512 = k.val
    omega

/-- What the projection and its norm read. -/
structure Dat where
  ya : Fin 4 → Fin 4096 → Fin 512 → EReal
  yb : Fin 4 → Fin 4096 → Fin 512 → EReal
  w : Fin 1024 → Fin 1024 → EReal
  x : Fin 4 → Fin 4096 → Fin 1024 → EReal
  gate : Fin 4 → Fin 1024 → EReal
  g : Fin 1024 → EReal
  b : Fin 1024 → EReal
  sc : Fin 4 → Fin 1024 → EReal
  sh : Fin 4 → Fin 1024 → EReal

/-- The normed residual. -/
def Dat.out (D : Dat) (b : Fin 4) (s : Fin 4096) (d : Fin 1024) : EReal :=
  Ffn.norm (Ffn.res (D.x b s) (proj (D.ya b s) (D.yb b s) D.w) (D.gate b)) D.g D.b d

/-- Its modulation, which the feed-forward reads. -/
def Dat.next (D : Dat) (b : Fin 4) (s : Fin 4096) (d : Fin 1024) : EReal := D.out b s d * (1 + D.sc b d) + D.sh b d
end Out
-- ==== Proof.OutKernel.lean ====
module
public import proofs.«01_k».proof.Proof.Gen.Kernel4Ideal.Value
public import proofs.«01_k».proof.Proof.OutMath
public import Idealize.ShloMosaic.Lib.Pipeline.Value
public import Idealize.ShloMosaic.Lib.Pipeline.ValueKit
public import Idealize.ShloMosaic.Lib.StableHlo.ReadAt
public import Idealize.ShloMosaic.Lib.Claim
@[expose] public section
set_option maxRecDepth 16384
noncomputable section
namespace Cert.Kernel4Ideal.Out
open Cert.Kernel4Ideal Cert.Kernel4Ideal.Gen Cert.Kernel4Ideal.Value
open Idealize.ShloMosaic Idealize.ShloMosaic.TcCoe Idealize.SL.Sem

/-- The centred residual of a row. -/
theorem pay6_at (Ya : Vec Ideal S1x512x512 .bf16) (Wa : Vec Ideal S512x1024 .bf16) (Yb : Vec Ideal S1x512x512 .bf16) (Wb : Vec Ideal S512x1024 .bf16)
    (X : Vec Ideal S1x512x1024 .f32) (G : Vec Ideal S1x1x1024 .f32) (x : Fin 512) (d : Fin 1024) (z : Fin 1024 → EReal)
    (hz : z = _root_.Ffn.res (fun k => X (ix3 0 x k)) (fun d => (∑ k : Fin 512, (Ya (ix3 0 x k) : EReal) * (Wa (ix2 k d) : EReal)) + ∑ k : Fin 512, (Yb (ix3 0 x k) : EReal) * (Wb (ix2 k d) : EReal)) (fun k => G (ix3 0 0 k))) :
    (k0_pay6 Ya Wa Yb Wb X G (ix2 x d) : EReal) = z d - _root_.Ffn.mean z := by
  subst hz
  pointwise [k0_pay6]
  rfl

/-- The result's block is the normed residual. -/
theorem pay2_at (V : FVec Ideal S512x1024 .f32) (LG LB : Vec Ideal S1x1024 .f32) (x : Fin 512) (d : Fin 1024) (z : Fin 1024 → EReal)
    (hv : ∀ d, (V (ix2 x d) : EReal) = z d - _root_.Ffn.mean z) :
    (k0_pay2 (F := Ideal) (k0_pay4 LG) (k0_pay5 LB) V (ix3 0 x d) : EReal)
      = _root_.Ffn.norm z (fun k => LG (ix2 0 k)) (fun k => LB (ix2 0 k)) d := by
  pointwise [k0_pay2, k0_pay1, k0_pay4, k0_pay5]
  unfold _root_.Ffn.norm
  simp only [← hv]

/-- The second result's block is its modulation. -/
theorem pay3_at (V : FVec Ideal S512x1024 .f32) (LG LB : Vec Ideal S1x1024 .f32) (sc sh : Vec Ideal S1x1x1024 .f32) (x : Fin 512) (d : Fin 1024) :
    (k0_pay3 (F := Ideal) (k0_pay4 LG) (k0_pay5 LB) V sc sh (ix3 0 x d) : EReal)
      = (k0_pay2 (F := Ideal) (k0_pay4 LG) (k0_pay5 LB) V (ix3 0 x d) : EReal) * (1 + sc (ix3 0 0 d)) + sh (ix3 0 0 d) := by
  pointwise [k0_pay3, k0_pay2]

variable (m : (ℓ : Loc nD τ sig) → Buf (Elt Ideal) ℓ)

/-- What the projection and its norm read, from the kernel's arguments. -/
def dat (c : Dev nD) : _root_.Out.Dat where
  ya b s k := (m ((c : Thread nD τ).loc main_arg0) : Vec Ideal S4x4096x512 .bf16) (ix3 b s k)
  yb b s k := (m ((c : Thread nD τ).loc main_arg1) : Vec Ideal S4x4096x512 .bf16) (ix3 b s k)
  w k d := (m ((c : Thread nD τ).loc main_arg2) : Vec Ideal S1024x1024 .f32) (ix2 k d)
  x b s k := (m ((c : Thread nD τ).loc main_arg3) : Vec Ideal S4x4096x1024 .f32) (ix3 b s k)
  gate b k := (m ((c : Thread nD τ).loc main_arg4) : Vec Ideal S4x1x1024 .f32) (ix3 b 0 k)
  g k := (m ((c : Thread nD τ).loc main_arg5) : Vec Ideal S1024 .f32) (ix1 k)
  b k := (m ((c : Thread nD τ).loc main_arg6) : Vec Ideal S1024 .f32) (ix1 k)
  sc b k := (m ((c : Thread nD τ).loc main_arg7) : Vec Ideal S4x1x1024 .f32) (ix3 b 0 k)
  sh b k := (m ((c : Thread nD τ).loc main_arg8) : Vec Ideal S4x1x1024 .f32) (ix3 b 0 k)

/-- The halves of the cast weight, and the norm's parameters as rows. -/
theorem V1_at (c : Dev nD) (k : Fin 512) (d : Fin 1024) : (V m c main_v1 : Vec Ideal S512x1024 .bf16) (ix2 k d) = ((dat m c).w (_root_.Out.low k) d : EReal) := by
  unfold V
  after_reads_at
  rfl
theorem V2_at (c : Dev nD) (k : Fin 512) (d : Fin 1024) : (V m c main_v2 : Vec Ideal S512x1024 .bf16) (ix2 k d) = ((dat m c).w (_root_.Out.high k) d : EReal) := by
  unfold V
  after_reads_at
  rfl
theorem V3_at (c : Dev nD) (k : Fin 1024) : (V m c main_v3 : Vec Ideal S1x1024 .f32) (ix2 0 k) = ((dat m c).g k : EReal) := by
  unfold V
  after_reads_at
  rfl
theorem V4_at (c : Dev nD) (k : Fin 1024) : (V m c main_v4 : Vec Ideal S1x1024 .f32) (ix2 0 k) = ((dat m c).b k : EReal) := by
  unfold V
  after_reads_at
  rfl

/-- Row `r` of row block `i`. -/
def row (i : Fin 8) (r : Fin 512) : Fin 4096 := ⟨512 * i.val + r.val, by omega⟩

/-- Grid point `t` is batch `t / 8`, row block `t % 8`. -/
def batch (t : Fin cfg0.N) : Fin 4 := ⟨t.val / 8, by have := t.isLt.trans_eq N_0; omega⟩
def block (t : Fin cfg0.N) : Fin 8 := ⟨t.val % 8, by omega⟩

theorem idx0 : ∀ t : Fin cfg0.N, win0_0.index t 0 = t.val / 8 ∧ win0_0.index t 1 = t.val % 8 ∧ win0_0.index t 2 = 0 := by decide +kernel
/-- Windows 0 and 1: the row block's rows of the two mixers. -/
theorem iblk0 (c : Dev nD) (t : Fin cfg0.N) (r : Fin 512) (k : Fin 512) :
    (iblk m c 0 t : Vec Ideal S1x512x512 .bf16) (ix3 0 r k) = ((dat m c).ya (batch t) (row (block t) r) k : EReal) := by
  have hi := idx0 t
  unfold iblk
  refine (View.read_apply _ _).trans ?_
  refine (congrArg (V m c main_arg0 : Vec Ideal S4x4096x512 .bf16) (funext fun (a : Fin 3) => Fin.ext ?_) : _ = (V m c main_arg0 : Vec Ideal S4x4096x512 .bf16) (ix3 (batch t) (row (block t) r) k)).trans (congrFun (V_main_arg0 m c) _)
  match a with
  | ⟨0, _⟩ => show win0_0.index t 0 * 1 + 1 * 0 = t.val / 8; rw [hi.1]; omega
  | ⟨1, _⟩ => show win0_0.index t 1 * 512 + 1 * r.val = 512 * (t.val % 8) + r.val; rw [hi.2.1]; omega
  | ⟨2, _⟩ => show win0_0.index t 2 * 512 + 1 * k.val = k.val; rw [hi.2.2]; omega
theorem idx1 : ∀ t : Fin cfg0.N, win0_1.index t 0 = t.val / 8 ∧ win0_1.index t 1 = t.val % 8 ∧ win0_1.index t 2 = 0 := by decide +kernel
theorem iblk1 (c : Dev nD) (t : Fin cfg0.N) (r : Fin 512) (k : Fin 512) :
    (iblk m c 1 t : Vec Ideal S1x512x512 .bf16) (ix3 0 r k) = ((dat m c).yb (batch t) (row (block t) r) k : EReal) := by
  have hi := idx1 t
  unfold iblk
  refine (View.read_apply _ _).trans ?_
  refine (congrArg (V m c main_arg1 : Vec Ideal S4x4096x512 .bf16) (funext fun (a : Fin 3) => Fin.ext ?_) : _ = (V m c main_arg1 : Vec Ideal S4x4096x512 .bf16) (ix3 (batch t) (row (block t) r) k)).trans (congrFun (V_main_arg1 m c) _)
  match a with
  | ⟨0, _⟩ => show win0_1.index t 0 * 1 + 1 * 0 = t.val / 8; rw [hi.1]; omega
  | ⟨1, _⟩ => show win0_1.index t 1 * 512 + 1 * r.val = 512 * (t.val % 8) + r.val; rw [hi.2.1]; omega
  | ⟨2, _⟩ => show win0_1.index t 2 * 512 + 1 * k.val = k.val; rw [hi.2.2]; omega
theorem idx2 : ∀ t : Fin cfg0.N, win0_2.index t 0 = 0 ∧ win0_2.index t 1 = 0 := by decide +kernel
/-- Windows 2 and 3: the weight's halves. -/
theorem iblk2 (c : Dev nD) (t : Fin cfg0.N) (k : Fin 512) (d : Fin 1024) :
    (iblk m c 2 t : Vec Ideal S512x1024 .bf16) (ix2 k d) = ((dat m c).w (_root_.Out.low k) d : EReal) := by
  have hi := idx2 t
  unfold iblk
  refine (View.read_apply _ _).trans ?_
  refine (congrArg (V m c main_v1 : Vec Ideal S512x1024 .bf16) (funext fun (a : Fin 2) => Fin.ext ?_) : _ = (V m c main_v1 : Vec Ideal S512x1024 .bf16) _).trans (V1_at m c k d)
  match a with
  | ⟨0, _⟩ => show win0_2.index t 0 * 512 + 1 * k.val = k.val; rw [hi.1]; omega
  | ⟨1, _⟩ => show win0_2.index t 1 * 1024 + 1 * d.val = d.val; rw [hi.2]; omega
theorem idx3 : ∀ t : Fin cfg0.N, win0_3.index t 0 = 0 ∧ win0_3.index t 1 = 0 := by decide +kernel
theorem iblk3 (c : Dev nD) (t : Fin cfg0.N) (k : Fin 512) (d : Fin 1024) :
    (iblk m c 3 t : Vec Ideal S512x1024 .bf16) (ix2 k d) = ((dat m c).w (_root_.Out.high k) d : EReal) := by
  have hi := idx3 t
  unfold iblk
  refine (View.read_apply _ _).trans ?_
  refine (congrArg (V m c main_v2 : Vec Ideal S512x1024 .bf16) (funext fun (a : Fin 2) => Fin.ext ?_) : _ = (V m c main_v2 : Vec Ideal S512x1024 .bf16) _).trans (V2_at m c k d)
  match a with
  | ⟨0, _⟩ => show win0_3.index t 0 * 512 + 1 * k.val = k.val; rw [hi.1]; omega
  | ⟨1, _⟩ => show win0_3.index t 1 * 1024 + 1 * d.val = d.val; rw [hi.2]; omega
theorem idx4 : ∀ t : Fin cfg0.N, win0_4.index t 0 = t.val / 8 ∧ win0_4.index t 1 = t.val % 8 ∧ win0_4.index t 2 = 0 := by decide +kernel
/-- Window 4: the row block's rows of the residual. -/
theorem iblk4 (c : Dev nD) (t : Fin cfg0.N) (r : Fin 512) (k : Fin 1024) :
    (iblk m c 4 t : Vec Ideal S1x512x1024 .f32) (ix3 0 r k) = ((dat m c).x (batch t) (row (block t) r) k : EReal) := by
  have hi := idx4 t
  unfold iblk
  refine (View.read_apply _ _).trans ?_
  refine (congrArg (V m c main_arg3 : Vec Ideal S4x4096x1024 .f32) (funext fun (a : Fin 3) => Fin.ext ?_) : _ = (V m c main_arg3 : Vec Ideal S4x4096x1024 .f32) (ix3 (batch t) (row (block t) r) k)).trans (congrFun (V_main_arg3 m c) _)
  match a with
  | ⟨0, _⟩ => show win0_4.index t 0 * 1 + 1 * 0 = t.val / 8; rw [hi.1]; omega
  | ⟨1, _⟩ => show win0_4.index t 1 * 512 + 1 * r.val = 512 * (t.val % 8) + r.val; rw [hi.2.1]; omega
  | ⟨2, _⟩ => show win0_4.index t 2 * 1024 + 1 * k.val = k.val; rw [hi.2.2]; omega
theorem idx5 : ∀ t : Fin cfg0.N, win0_5.index t 0 = t.val / 8 ∧ win0_5.index t 1 = 0 ∧ win0_5.index t 2 = 0 := by decide +kernel
/-- Window 5: the batch's gate. -/
theorem iblk5 (c : Dev nD) (t : Fin cfg0.N) (k : Fin 1024) :
    (iblk m c 5 t : Vec Ideal S1x1x1024 .f32) (ix3 0 0 k) = ((dat m c).gate (batch t) k : EReal) := by
  have hi := idx5 t
  unfold iblk
  refine (View.read_apply _ _).trans ?_
  refine (congrArg (V m c main_arg4 : Vec Ideal S4x1x1024 .f32) (funext fun (a : Fin 3) => Fin.ext ?_) : _ = (V m c main_arg4 : Vec Ideal S4x1x1024 .f32) (ix3 (batch t) 0 k)).trans (congrFun (V_main_arg4 m c) _)
  match a with
  | ⟨0, _⟩ => show win0_5.index t 0 * 1 + 1 * 0 = t.val / 8; rw [hi.1]; omega
  | ⟨1, _⟩ => show win0_5.index t 1 * 1 + 1 * 0 = 0; rw [hi.2.1]
  | ⟨2, _⟩ => show win0_5.index t 2 * 1024 + 1 * k.val = k.val; rw [hi.2.2]; omega
theorem idx8 : ∀ t : Fin cfg0.N, win0_8.index t 0 = t.val / 8 ∧ win0_8.index t 1 = 0 ∧ win0_8.index t 2 = 0 := by decide +kernel
/-- Window 8: the batch's scale. -/
theorem iblk8 (c : Dev nD) (t : Fin cfg0.N) (k : Fin 1024) :
    (iblk m c 8 t : Vec Ideal S1x1x1024 .f32) (ix3 0 0 k) = ((dat m c).sc (batch t) k : EReal) := by
  have hi := idx8 t
  unfold iblk
  refine (View.read_apply _ _).trans ?_
  refine (congrArg (V m c main_arg7 : Vec Ideal S4x1x1024 .f32) (funext fun (a : Fin 3) => Fin.ext ?_) : _ = (V m c main_arg7 : Vec Ideal S4x1x1024 .f32) (ix3 (batch t) 0 k)).trans (congrFun (V_main_arg7 m c) _)
  match a with
  | ⟨0, _⟩ => show win0_8.index t 0 * 1 + 1 * 0 = t.val / 8; rw [hi.1]; omega
  | ⟨1, _⟩ => show win0_8.index t 1 * 1 + 1 * 0 = 0; rw [hi.2.1]
  | ⟨2, _⟩ => show win0_8.index t 2 * 1024 + 1 * k.val = k.val; rw [hi.2.2]; omega
theorem idx9 : ∀ t : Fin cfg0.N, win0_9.index t 0 = t.val / 8 ∧ win0_9.index t 1 = 0 ∧ win0_9.index t 2 = 0 := by decide +kernel
/-- Window 9: the batch's shift. -/
theorem iblk9 (c : Dev nD) (t : Fin cfg0.N) (k : Fin 1024) :
    (iblk m c 9 t : Vec Ideal S1x1x1024 .f32) (ix3 0 0 k) = ((dat m c).sh (batch t) k : EReal) := by
  have hi := idx9 t
  unfold iblk
  refine (View.read_apply _ _).trans ?_
  refine (congrArg (V m c main_arg8 : Vec Ideal S4x1x1024 .f32) (funext fun (a : Fin 3) => Fin.ext ?_) : _ = (V m c main_arg8 : Vec Ideal S4x1x1024 .f32) (ix3 (batch t) 0 k)).trans (congrFun (V_main_arg8 m c) _)
  match a with
  | ⟨0, _⟩ => show win0_9.index t 0 * 1 + 1 * 0 = t.val / 8; rw [hi.1]; omega
  | ⟨1, _⟩ => show win0_9.index t 1 * 1 + 1 * 0 = 0; rw [hi.2.1]
  | ⟨2, _⟩ => show win0_9.index t 2 * 1024 + 1 * k.val = k.val; rw [hi.2.2]; omega
theorem idx6 : ∀ t : Fin cfg0.N, win0_6.index t 0 = 0 ∧ win0_6.index t 1 = 0 := by decide +kernel
/-- Window 6: the norm's scale. -/
theorem iblk6 (c : Dev nD) (t : Fin cfg0.N) (k : Fin 1024) :
    (iblk m c 6 t : Vec Ideal S1x1024 .f32) (ix2 0 k) = ((dat m c).g k : EReal) := by
  have hi := idx6 t
  unfold iblk
  refine (View.read_apply _ _).trans ?_
  refine (congrArg (V m c main_v3 : Vec Ideal S1x1024 .f32) (funext fun (a : Fin 2) => Fin.ext ?_) : _ = (V m c main_v3 : Vec Ideal S1x1024 .f32) _).trans (V3_at m c k)
  match a with
  | ⟨0, _⟩ => show win0_6.index t 0 * 1 + 1 * 0 = 0; rw [hi.1]
  | ⟨1, _⟩ => show win0_6.index t 1 * 1024 + 1 * k.val = k.val; rw [hi.2]; omega
theorem idx7 : ∀ t : Fin cfg0.N, win0_7.index t 0 = 0 ∧ win0_7.index t 1 = 0 := by decide +kernel
/-- Window 7: the norm's shift. -/
theorem iblk7 (c : Dev nD) (t : Fin cfg0.N) (k : Fin 1024) :
    (iblk m c 7 t : Vec Ideal S1x1024 .f32) (ix2 0 k) = ((dat m c).b k : EReal) := by
  have hi := idx7 t
  unfold iblk
  refine (View.read_apply _ _).trans ?_
  refine (congrArg (V m c main_v4 : Vec Ideal S1x1024 .f32) (funext fun (a : Fin 2) => Fin.ext ?_) : _ = (V m c main_v4 : Vec Ideal S1x1024 .f32) _).trans (V4_at m c k)
  match a with
  | ⟨0, _⟩ => show win0_7.index t 0 * 1 + 1 * 0 = 0; rw [hi.1]
  | ⟨1, _⟩ => show win0_7.index t 1 * 1024 + 1 * k.val = k.val; rw [hi.2]; omega

/-- The centred residual of a row block. -/
theorem centred (c : Dev nD) (t : Fin cfg0.N) (r : Fin 512) (d : Fin 1024) (z : Fin 1024 → EReal)
    (hz : z = _root_.Ffn.res ((dat m c).x (batch t) (row (block t) r)) (_root_.Out.proj ((dat m c).ya (batch t) (row (block t) r)) ((dat m c).yb (batch t) (row (block t) r)) (dat m c).w) ((dat m c).gate (batch t))) :
    (k0_pay6 (iblk m c 0 t) (iblk m c 2 t) (iblk m c 1 t) (iblk m c 3 t) (iblk m c 4 t) (iblk m c 5 t) (ix2 r d) : EReal) = z d - _root_.Ffn.mean z := by
  refine pay6_at _ _ _ _ _ _ r d z (hz.trans ?_)
  have e4 := funext fun k => iblk4 m c t r k
  have e5 := funext fun k => iblk5 m c t k
  refine (congr (congrArg₂ (fun x y => _root_.Ffn.res x y) e4 (funext fun d => ?_)) e5).symm
  exact congrArg₂ (· + ·) (Finset.sum_congr rfl fun k _ => congrArg₂ (· * ·) (iblk0 m c t r k) (iblk2 m c t k d))
    (Finset.sum_congr rfl fun k _ => congrArg₂ (· * ·) (iblk1 m c t r k) (iblk3 m c t k d))

/-- What a row block leaves in the first result's block. -/
theorem left0 (c : Dev nD) (t : Fin cfg0.N) (r : Fin 512) (d : Fin 1024) :
    (k0_pay2 (k0_pay4 (iblk m c 6 t)) (k0_pay5 (iblk m c 7 t)) (k0_pay6 (iblk m c 0 t) (iblk m c 2 t) (iblk m c 1 t) (iblk m c 3 t) (iblk m c 4 t) (iblk m c 5 t)) (ix3 0 r d) : EReal)
      = (dat m c).out (batch t) (row (block t) r) d := by
  refine (pay2_at _ _ _ r d _ fun d => centred m c t r d _ rfl).trans ?_
  have e6 := funext fun k => iblk6 m c t k
  have e7 := funext fun k => iblk7 m c t k
  exact congrFun (congrArg₂ (fun g b => _root_.Ffn.norm _ g b) e6 e7) d

/-- What it leaves in the second's. -/
theorem left1 (c : Dev nD) (t : Fin cfg0.N) (r : Fin 512) (d : Fin 1024) :
    (k0_pay3 (k0_pay4 (iblk m c 6 t)) (k0_pay5 (iblk m c 7 t)) (k0_pay6 (iblk m c 0 t) (iblk m c 2 t) (iblk m c 1 t) (iblk m c 3 t) (iblk m c 4 t) (iblk m c 5 t)) (iblk m c 8 t) (iblk m c 9 t) (ix3 0 r d) : EReal)
      = (dat m c).next (batch t) (row (block t) r) d := by
  refine (pay3_at _ _ _ _ _ r d).trans ?_
  unfold _root_.Out.Dat.next
  exact congrArg₂ (· + ·) (congrArg₂ (· * ·) (left0 m c t r d) (congrArg (1 + ·) (iblk8 m c t d))) (iblk9 m c t d)

theorem idx10 : ∀ t : Fin cfg0.N, win0_10.index t 0 = t.val / 8 ∧ win0_10.index t 1 = t.val % 8 ∧ win0_10.index t 2 = 0 := by decide +kernel
theorem idx11 : ∀ t : Fin cfg0.N, win0_11.index t 0 = t.val / 8 ∧ win0_11.index t 1 = t.val % 8 ∧ win0_11.index t 2 = 0 := by decide +kernel

/-- The kernel's first result. -/
theorem result0 (c : Dev nD) :
    ((dats m 0 c).arrAt 10 cfg0.N : Vec Ideal S4x4096x1024 .f32) = fun i => (dat m c).out (i 0) (i 1) (i 2) := by
  refine (dats m 0 c).arrAt_eq_of_covers 10 _ (by decide +kernel) fun t hf y => ?_
  have hi := idx10 t
  blk_simp
  rw [after0_10]
  frame_out
  unfold k0_pay7 k0_pay8 k0_pay9
  frame_out
  revert y
  intro (y : S1x512x1024.Idx)
  idx_vars y
  obtain rfl : y0 = 0 := Subsingleton.elim _ _
  refine (left0 m c t y1 y2).trans ?_
  refine congr (congrArg₂ (fun b s => (dat m c).out b s) (Fin.ext ?_) (Fin.ext ?_)) (Fin.ext ?_)
  · show t.val / 8 = win0_10.index t 0 * 1 + 1 * 0; rw [hi.1]; omega
  · show 512 * (t.val % 8) + y1.val = win0_10.index t 1 * 512 + 1 * y1.val; rw [hi.2.1]; omega
  · show y2.val = win0_10.index t 2 * 1024 + 1 * y2.val; rw [hi.2.2]; omega

/-- The kernel's second result. -/
theorem result1 (c : Dev nD) :
    ((dats m 0 c).arrAt 11 cfg0.N : Vec Ideal S4x4096x1024 .bf16) = fun i => (dat m c).next (i 0) (i 1) (i 2) := by
  refine (dats m 0 c).arrAt_eq_of_covers 11 _ (by decide +kernel) fun t hf y => ?_
  have hi := idx11 t
  blk_simp
  rw [after0_11]
  frame_out
  unfold k0_pay7 k0_pay8 k0_pay9
  frame_out
  revert y
  intro (y : S1x512x1024.Idx)
  idx_vars y
  obtain rfl : y0 = 0 := Subsingleton.elim _ _
  refine (left1 m c t y1 y2).trans ?_
  refine congr (congrArg₂ (fun b s => (dat m c).next b s) (Fin.ext ?_) (Fin.ext ?_)) (Fin.ext ?_)
  · show t.val / 8 = win0_11.index t 0 * 1 + 1 * 0; rw [hi.1]; omega
  · show 512 * (t.val % 8) + y1.val = win0_11.index t 1 * 512 + 1 * y1.val; rw [hi.2.1]; omega
  · show y2.val = win0_11.index t 2 * 1024 + 1 * y2.val; rw [hi.2.2]; omega

end Cert.Kernel4Ideal.Out
-- ==== Proof.OutRef.lean ====
module
public import proofs.«01_k».proof.Proof.OutMath
public import proofs.«01_k».proof.Proof.Gen.Reference4Ideal.Run
public import Idealize.ShloMosaic.Lib.StableHlo.ReadAt
public import Idealize.ShloMosaic.Lib.Claim
@[expose] public section
set_option maxRecDepth 16384
noncomputable section
namespace Cert.Reference4Ideal.Out
open Cert.Reference4Ideal Cert.Reference4Ideal.Gen Cert.Reference4Ideal.Value
open Idealize.ShloMosaic Idealize.ShloMosaic.TcCoe Idealize.SL.Sem
open Idealize.ShloMosaic.StableHlo

variable (m : (ℓ : Loc nD τ sig) → Buf (Elt Ideal) ℓ)

/-- What the projection and its norm read, from the reference's arguments. -/
def dat (c : Dev nD) : _root_.Out.Dat where
  ya b s k := (m ((c : Thread nD τ).loc main_arg0) : Vec Ideal S4x4096x512 .bf16) (ix3 b s k)
  yb b s k := (m ((c : Thread nD τ).loc main_arg1) : Vec Ideal S4x4096x512 .bf16) (ix3 b s k)
  w k d := (m ((c : Thread nD τ).loc main_arg2) : Vec Ideal S1024x1024 .f32) (ix2 k d)
  x b s k := (m ((c : Thread nD τ).loc main_arg3) : Vec Ideal S4x4096x1024 .f32) (ix3 b s k)
  gate b k := (m ((c : Thread nD τ).loc main_arg4) : Vec Ideal S4x1x1024 .f32) (ix3 b 0 k)
  g k := (m ((c : Thread nD τ).loc main_arg5) : Vec Ideal S1024 .f32) (ix1 k)
  b k := (m ((c : Thread nD τ).loc main_arg6) : Vec Ideal S1024 .f32) (ix1 k)
  sc b k := (m ((c : Thread nD τ).loc main_arg7) : Vec Ideal S4x1x1024 .f32) (ix3 b 0 k)
  sh b k := (m ((c : Thread nD τ).loc main_arg8) : Vec Ideal S4x1x1024 .f32) (ix3 b 0 k)

/-- The two mixers' results side by side. -/
theorem cat_at (A B : Vec Ideal S4x4096x512 .bf16) (b : Fin 4) (s : Fin 4096) (k : Fin 1024) :
    (concatenate S4x4096x1024 2 [⟨S4x4096x512, A⟩, ⟨S4x4096x512, B⟩] concatenates_S4x4096x512_S4x4096x512_S4x4096x1024_d2 (ix3 b s k) : EReal)
      = _root_.Out.both (fun k => A (ix3 b s k)) (fun k => B (ix3 b s k)) k := by
  unfold _root_.Out.both
  pointwise

/-- The reference's first result. -/
theorem out0_at (c : Dev nD) (b : Fin 4) (s : Fin 4096) (d : Fin 1024) :
    (res_main_v33 m c : Vec Ideal S4x4096x1024 .f32) (ix3 b s d) = (dat m c).out b s d := by
  unfold res_main_v33 _root_.Out.Dat.out dat
  generalize hY : (Host.dotGeneral (F := Ideal) dot_S4x4096x1024_S1024x1024_S4x4096x1024_2_0_01_1_n_n none _ _) = Y
  have hy : ∀ d, (Y (ix3 b s d) : EReal) = _root_.Out.proj (fun k => (m ((c : Thread nD τ).loc main_arg0) : Vec Ideal S4x4096x512 .bf16) (ix3 b s k))
      (fun k => (m ((c : Thread nD τ).loc main_arg1) : Vec Ideal S4x4096x512 .bf16) (ix3 b s k)) (fun k d => (m ((c : Thread nD τ).loc main_arg2) : Vec Ideal S1024x1024 .f32) (ix2 k d)) d := by
    intro d
    rw [← hY, ← _root_.Out.both_proj]
    generalize m ((c : Thread nD τ).loc main_arg0) = A
    generalize m ((c : Thread nD τ).loc main_arg1) = B
    generalize m ((c : Thread nD τ).loc main_arg2) = W
    clean_types
    have e := fun k => cat_at A B b s k
    generalize (concatenate S4x4096x1024 2 [⟨S4x4096x512, A⟩, ⟨S4x4096x512, B⟩] concatenates_S4x4096x512_S4x4096x512_S4x4096x1024_d2) = C at *
    simp only [← e]
    pointwise
  clear hY
  revert hy
  generalize m ((c : Thread nD τ).loc main_arg3) = X
  generalize m ((c : Thread nD τ).loc main_arg4) = G
  generalize m ((c : Thread nD τ).loc main_arg5) = LG
  generalize m ((c : Thread nD τ).loc main_arg6) = LB
  intro hy
  generalize hZ : (addf (F := Ideal) (mulf _ X) _) = Z
  have hz : ∀ k, (Z (ix3 b s k) : EReal) = _root_.Ffn.res (fun k => (X : Vec Ideal S4x4096x1024 .f32) (ix3 b s k)) (fun k => Y (ix3 b s k)) (fun k => (G : Vec Ideal S4x1x1024 .f32) (ix3 b 0 k)) k := by
    intro k
    rw [← hZ]
    clean_types
    pointwise
    rfl
  clear hZ
  rw [funext hy] at hz
  clean_types
  pointwise
  have e : (fun k => (Z (ix3 b s k) : EReal)) = _ := funext hz
  rw [← e]
  rfl
/-- The reference's second result. -/
theorem out1_at (c : Dev nD) (b : Fin 4) (s : Fin 4096) (d : Fin 1024) :
    (res_main_v40 m c : Vec Ideal S4x4096x1024 .bf16) (ix3 b s d) = (dat m c).next b s d := by
  have h := out0_at m c b s d
  unfold _root_.Out.Dat.next
  rw [← h]
  unfold res_main_v33 res_main_v40
  generalize (addf (F := Ideal) (mulf (mulf (subf _ _) _) _) _) = Z
  unfold dat
  clean_types
  pointwise
end Cert.Reference4Ideal.Out
-- ==== Proof.OutClaim.lean ====
module
public import proofs.«01_k».proof.Defs
public import proofs.«01_k».proof.Proof.Gen.Kernel4.Frame
public import proofs.«01_k».proof.Proof.OutKernel
public import proofs.«01_k».proof.Proof.OutRef
public import Idealize.ShloMosaic.Adequacy
public import Idealize.ShloMosaic.Init
public import Idealize.ShloMosaic.Lib.Quiescent
@[expose] public section
noncomputable section
namespace Cert.Proof
open Idealize.ShloMosaic Idealize.SL.Sem

theorem quiescent_Reference4Ideal : quiescent_Reference4Ideal := fun m ρ _ =>
  (θ_run Cert.Reference4Ideal.defs _ _).mono (fun r h => ⟨fun c => (h c).2.2, sem_eq_zero_of_no_sems (by decide) r.2⟩)
    (Cert.Reference4Ideal.Value.run (F := Ideal) m ρ)

/-- The even layers' output projection with its norm and modulation: kernel and reference leave the same two results, from memories that agree on the arguments. -/
theorem algebraic_Kernel4Ideal_Reference4Ideal : algebraic_Kernel4Ideal_Reference4Ideal := by
  intro m ρ m' ρ' _ hagree
  refine ⟨_, _, Cert.Kernel4Ideal.Value.run_blocks (F := Ideal) m ρ, ?_⟩
  refine (θ_run Cert.Reference4Ideal.defs _ _).mono (fun _ h c => ⟨?_, ?_, (h c).2.2⟩) (Cert.Reference4Ideal.Value.run (F := Ideal) m' ρ')
  all_goals
    have hD : Cert.Reference4Ideal.Out.dat m' c = Cert.Kernel4Ideal.Out.dat m c := by
      obtain ⟨h0, h1, h2, h3, h4, h5, h6, h7, h8⟩ := hagree c
      unfold Cert.Reference4Ideal.Out.dat Cert.Kernel4Ideal.Out.dat
      rw [h0, h1, h2, h3, h4, h5, h6, h7, h8]
  · rw [(h c).1]
    refine Eq.trans ?_ (Cert.Kernel4Ideal.Out.result0 m c).symm
    funext i
    idx_vars i
    exact (Cert.Reference4Ideal.Out.out0_at m' c i0 i1 i2).trans (hD ▸ rfl)
  · rw [(h c).2.1]
    refine Eq.trans ?_ (Cert.Kernel4Ideal.Out.result1 m c).symm
    funext i
    idx_vars i
    exact (Cert.Reference4Ideal.Out.out1_at m' c i0 i1 i2).trans (hD ▸ rfl)
end Cert.Proof
-- ==== Proof.InMath.lean ====
module
public import Idealize.ShloMosaic.Lib.Claim
public import proofs.«01_k».proof.Proof.FfnMath
@[expose] public section
noncomputable section
open Idealize.ShloMosaic Idealize.SL.Sem
namespace In
/-- The weight with its last group of columns padded by zeros to a whole lane tile. -/
def padded (w : Fin 1024 → Fin 3088 → EReal) (k : Fin 1024) (n : ℕ) : EReal := if h : n < 3088 then w k ⟨n, h⟩ else 0

/-- What the projection reads. -/
structure Dat where
  h : Fin 4 → Fin 4096 → Fin 1024 → EReal
  w : Fin 1024 → Fin 3088 → EReal

/-- Column `d` of the projection's group from column `o` on, of row `s` of batch `b`. -/
def Dat.proj (D : Dat) (b : Fin 4) (s : Fin 4096) (o d : ℕ) : EReal := ∑ k, D.h b s k * padded D.w k (o + d)

/-- A column of the weight itself. -/
theorem Dat.proj_of_lt (D : Dat) (b : Fin 4) (s : Fin 4096) (o d : ℕ) (h : o + d < 3088) : D.proj b s o d = ∑ k, D.h b s k * D.w k ⟨o + d, h⟩ :=
  Finset.sum_congr rfl fun _ _ => congrArg₂ (· * ·) rfl (dif_pos h)

/-- A column of the padding. -/
theorem Dat.proj_of_ge (D : Dat) (b : Fin 4) (s : Fin 4096) (o d : ℕ) (h : ¬o + d < 3088) : D.proj b s o d = 0 :=
  Finset.sum_eq_zero fun k _ => (congrArg (D.h b s k * ·) (dif_neg h)).trans (mul_zero _)

/-- The factor on the queries: the softmax's scale, in base two. -/
def scale : EReal := (Scalar.ofBits (F := Ideal) .f32 0x3E38AA3B#32 : Ideal .f32)

/-- The padding's value. -/
theorem pad_zero : (FloatOps.sitofp (F := Ideal) .f32 (0#32 : BitVec 32) : Ideal .f32) = (0 : EReal) := by
  show (((0#32 : BitVec 32).toInt : ℝ) : EReal) = 0
  simp
end In
-- ==== Proof.InKernel.lean ====
module
public import proofs.«01_k».proof.Proof.Gen.Kernel5Ideal.Value
public import proofs.«01_k».proof.Proof.InMath
public import Idealize.ShloMosaic.Lib.Pipeline.Value
public import Idealize.ShloMosaic.Lib.Pipeline.ValueKit
public import Idealize.ShloMosaic.Lib.StableHlo.ReadAt
public import Idealize.ShloMosaic.Lib.Claim
@[expose] public section
set_option maxRecDepth 16384
noncomputable section
namespace Cert.Kernel5Ideal.In
open Cert.Kernel5Ideal Cert.Kernel5Ideal.Gen Cert.Kernel5Ideal.Value
open Idealize.ShloMosaic Idealize.ShloMosaic.TcCoe Idealize.SL.Sem

/-! The blocks the body stores, as products of the rows' block and a group of the weight's columns. -/
theorem pay7_at (X : Vec Ideal S1x512x1024 .bf16) (W : Vec Ideal S1024x512 .bf16) (r : Fin 512) (d : Fin 512) :
    (k0_pay7 X W (ix3 0 r d) : EReal) = (∑ k : Fin 1024, (X (ix3 0 r k) : EReal) * W (ix2 k d)) * _root_.In.scale := by
  pointwise [k0_pay7, k0_pay6]
  rfl
theorem pay8_at (X : Vec Ideal S1x512x1024 .bf16) (W : Vec Ideal S1024x512 .bf16) (r : Fin 512) (d : Fin 512) :
    (k0_pay8 X W (ix3 0 r d) : EReal) = ∑ k : Fin 1024, (X (ix3 0 r k) : EReal) * W (ix2 k d) := by
  pointwise [k0_pay8, k0_pay6]
theorem pay9_at (X : Vec Ideal S1x512x1024 .bf16) (W : Vec Ideal S512x1024 .bf16) (d : Fin 512) (r : Fin 512) :
    (k0_pay9 X W (ix3 0 d r) : EReal) = ∑ k : Fin 1024, (W (ix2 d k) : EReal) * X (ix3 0 r k) := by
  pointwise [k0_pay9, k0_pay6]
theorem pay1_at (X : Vec Ideal S1x512x1024 .bf16) (W : Vec Ideal S1024x256 .bf16) (r : Fin 512) (d : Fin 256) :
    (k0_pay1 (k0_pay10 X W) (ix3 0 r d) : EReal) = ∑ k : Fin 1024, (X (ix3 0 r k) : EReal) * W (ix2 k d) := by
  pointwise [k0_pay1, k0_pay10, k0_pay6]
theorem pay2_at (X : Vec Ideal S1x512x1024 .bf16) (W : Vec Ideal S1024x256 .bf16) (r : Fin 512) (d : Fin 256) :
    (k0_pay2 (k0_pay6 X) W (ix3 0 r d) : EReal) = ∑ k : Fin 1024, (X (ix3 0 r k) : EReal) * W (ix2 k d) := by
  pointwise [k0_pay2, k0_pay6]
theorem pay3_at (X : Vec Ideal S1x512x1024 .bf16) (W : Vec Ideal S1024x512 .bf16) (r : Fin 512) (d : Fin 512) :
    (k0_pay3 (k0_pay6 X) W (ix3 0 r d) : EReal) = ∑ k : Fin 1024, (X (ix3 0 r k) : EReal) * W (ix2 k d) := by
  pointwise [k0_pay3, k0_pay6]
theorem pay4_at (X : Vec Ideal S1x512x1024 .bf16) (W : Vec Ideal S1024x512 .bf16) (r : Fin 512) (d : Fin 512) :
    (k0_pay4 (k0_pay6 X) W (ix3 0 r d) : EReal) = ∑ k : Fin 1024, (X (ix3 0 r k) : EReal) * W (ix2 k d) := by
  pointwise [k0_pay4, k0_pay6]
theorem pay5_at (X : Vec Ideal S1x512x1024 .bf16) (W : Vec Ideal S1024x128 .bf16) (r : Fin 512) (d : Fin 128) :
    (k0_pay5 (k0_pay6 X) W (ix3 0 r d) : EReal) = ∑ k : Fin 1024, (X (ix3 0 r k) : EReal) * W (ix2 k d) := by
  pointwise [k0_pay5, k0_pay6]

variable (m : (ℓ : Loc nD τ sig) → Buf (Elt Ideal) ℓ)

/-- What the projection reads, from the kernel's arguments. -/
def dat (c : Dev nD) : _root_.In.Dat where
  h b s k := (m ((c : Thread nD τ).loc main_arg0) : Vec Ideal S4x4096x1024 .bf16) (ix3 b s k)
  w k n := (m ((c : Thread nD τ).loc main_arg1) : Vec Ideal S1024x3088 .f32) (ix2 k n)

/-- A column of the weight that the padding leaves where it is. -/
theorem padded_at (c : Dev nD) (k : Fin 1024) (n : ℕ) (j : Fin 3088) (h : j.val = n) :
    ((m ((c : Thread nD τ).loc main_arg1) : Vec Ideal S1024x3088 .f32) (ix2 k j) : EReal) = _root_.In.padded (dat m c).w k n := by
  subst h
  unfold _root_.In.padded
  refine Eq.trans ?_ (dif_pos j.isLt).symm
  rfl

/-- The weight's groups of columns, side by side and cast. -/
theorem V10_at (c : Dev nD) (k : Fin 1024) (n : Fin 3200) : (V m c main_v10 : Vec Ideal S1024x3200 .bf16) (ix2 k n) = (_root_.In.padded (dat m c).w k n.val : EReal) := by
  unfold V
  after_reads_at
  by_cases h0 : n.val < 512
  · rw [dif_pos h0]
    after_reads_at
    exact padded_at m c k _ _ rfl
  rw [dif_neg h0]
  by_cases h1 : n.val - 512 < 512
  · rw [dif_pos h1]
    after_reads_at
    exact padded_at m c k _ _ (by dsimp only; omega)
  rw [dif_neg h1]
  by_cases h2 : n.val - 512 - 512 < 512
  · rw [dif_pos h2]
    after_reads_at
    exact padded_at m c k _ _ (by dsimp only; omega)
  rw [dif_neg h2]
  by_cases h3 : n.val - 512 - 512 - 512 < 256
  · rw [dif_pos h3]
    after_reads_at
    exact padded_at m c k _ _ (by dsimp only; omega)
  rw [dif_neg h3]
  by_cases h4 : n.val - 512 - 512 - 512 - 256 < 256
  · rw [dif_pos h4]
    after_reads_at
    exact padded_at m c k _ _ (by dsimp only; omega)
  rw [dif_neg h4]
  by_cases h5 : n.val - 512 - 512 - 512 - 256 - 256 < 512
  · rw [dif_pos h5]
    after_reads_at
    exact padded_at m c k _ _ (by dsimp only; omega)
  rw [dif_neg h5]
  by_cases h6 : n.val - 512 - 512 - 512 - 256 - 256 - 512 < 512
  · rw [dif_pos h6]
    after_reads_at
    exact padded_at m c k _ _ (by dsimp only; omega)
  rw [dif_neg h6]
  after_reads_at
  by_cases h7 : n.val - 512 - 512 - 512 - 256 - 256 - 512 - 512 < 16
  · rw [dif_pos h7]
    exact padded_at m c k _ _ (by dsimp only; omega)
  · rw [dif_neg h7]
    refine _root_.In.pad_zero.trans ?_
    unfold _root_.In.padded
    rw [dif_neg (show ¬n.val < 3088 by omega)]
/-- The values' group, transposed. -/
theorem V12_at (c : Dev nD) (d : Fin 512) (k : Fin 1024) : (V m c main_v12 : Vec Ideal S512x1024 .bf16) (ix2 d k) = (_root_.In.padded (dat m c).w k (1024 + d.val) : EReal) := by
  unfold V
  after_reads_at
  refine Eq.trans ?_ (dif_pos (by omega)).symm
  rfl

/-- Row `r` of row block `i`. -/
def row (i : Fin 8) (r : Fin 512) : Fin 4096 := ⟨512 * i.val + r.val, by omega⟩

/-- Grid point `t` is batch `t / 8`, row block `t % 8`. -/
def batch (t : Fin cfg0.N) : Fin 4 := ⟨t.val / 8, by have := t.isLt.trans_eq N_0; omega⟩
def block (t : Fin cfg0.N) : Fin 8 := ⟨t.val % 8, by omega⟩

theorem idx0 : ∀ t : Fin cfg0.N, win0_0.index t 0 = t.val / 8 ∧ win0_0.index t 1 = t.val % 8 ∧ win0_0.index t 2 = 0 := by decide +kernel
/-- Window 0: the row block's rows. -/
theorem iblk0 (c : Dev nD) (t : Fin cfg0.N) (r : Fin 512) (k : Fin 1024) :
    (iblk m c 0 t : Vec Ideal S1x512x1024 .bf16) (ix3 0 r k) = ((dat m c).h (batch t) (row (block t) r) k : EReal) := by
  have hi := idx0 t
  unfold iblk
  refine (View.read_apply _ _).trans ?_
  refine (congrArg (V m c main_arg0 : Vec Ideal S4x4096x1024 .bf16) (funext fun (a : Fin 3) => Fin.ext ?_) : _ = (V m c main_arg0 : Vec Ideal S4x4096x1024 .bf16) (ix3 (batch t) (row (block t) r) k)).trans (congrFun (V_main_arg0 m c) _)
  match a with
  | ⟨0, _⟩ => show win0_0.index t 0 * 1 + 1 * 0 = t.val / 8; rw [hi.1]; omega
  | ⟨1, _⟩ => show win0_0.index t 1 * 512 + 1 * r.val = 512 * (t.val % 8) + r.val; rw [hi.2.1]; omega
  | ⟨2, _⟩ => show win0_0.index t 2 * 1024 + 1 * k.val = k.val; rw [hi.2.2]; omega
theorem idx1 : ∀ t : Fin cfg0.N, win0_1.index t 0 = 0 ∧ win0_1.index t 1 = 0 := by decide +kernel
/-- Window 1: the weight. -/
theorem iblk1 (c : Dev nD) (t : Fin cfg0.N) (k : Fin 1024) (n : Fin 3200) :
    (iblk m c 1 t : Vec Ideal S1024x3200 .bf16) (ix2 k n) = (_root_.In.padded (dat m c).w k n.val : EReal) := by
  have hi := idx1 t
  unfold iblk
  refine (View.read_apply _ _).trans ?_
  refine (congrArg (V m c main_v10 : Vec Ideal S1024x3200 .bf16) (funext fun (a : Fin 2) => Fin.ext ?_) : _ = (V m c main_v10 : Vec Ideal S1024x3200 .bf16) _).trans (V10_at m c k n)
  match a with
  | ⟨0, _⟩ => show win0_1.index t 0 * 1024 + 1 * k.val = k.val; rw [hi.1]; omega
  | ⟨1, _⟩ => show win0_1.index t 1 * 3200 + 1 * n.val = n.val; rw [hi.2]; omega
theorem idx2 : ∀ t : Fin cfg0.N, win0_2.index t 0 = 0 ∧ win0_2.index t 1 = 0 := by decide +kernel
/-- Window 2: the values' group, transposed. -/
theorem iblk2 (c : Dev nD) (t : Fin cfg0.N) (d : Fin 512) (k : Fin 1024) :
    (iblk m c 2 t : Vec Ideal S512x1024 .bf16) (ix2 d k) = (_root_.In.padded (dat m c).w k (1024 + d.val) : EReal) := by
  have hi := idx2 t
  unfold iblk
  refine (View.read_apply _ _).trans ?_
  refine (congrArg (V m c main_v12 : Vec Ideal S512x1024 .bf16) (funext fun (a : Fin 2) => Fin.ext ?_) : _ = (V m c main_v12 : Vec Ideal S512x1024 .bf16) _).trans (V12_at m c d k)
  match a with
  | ⟨0, _⟩ => show win0_2.index t 0 * 512 + 1 * d.val = d.val; rw [hi.1]; omega
  | ⟨1, _⟩ => show win0_2.index t 1 * 1024 + 1 * k.val = k.val; rw [hi.2]; omega

/-- A group of the weight's columns, loaded from column `o` on. -/
theorem load_at (x : Vec Ideal S1024x3200 .bf16) (o n : ℕ) (h : o + n ≤ 3200) (inb : ∀ a, (![0, o] : Fin 2 → ℕ) a + (![1024, n] : Fin 2 → ℕ) a ≤ S1024x3200.size a) (k : Fin 1024) (d : Fin n) :
    (View.ld x (Rect.unit (s := S1024x3200) ![0, o] ![1024, n] inb) : (⟨2, ![1024, n]⟩ : Shape).Idx → Elt Ideal .bf16) (ix2 k d) = x (ix2 k ⟨o + d.val, by omega⟩) :=
  View.ld_unit_apply_of x _ _ _ _ _ fun (a : Fin 2) => match a with
    | ⟨0, _⟩ => show k.val = 0 + k.val from (Nat.zero_add _).symm
    | ⟨1, _⟩ => rfl

/-- A row block's product with the group of columns from `o` on. -/
theorem prod_at (c : Dev nD) (t : Fin cfg0.N) (r : Fin 512) (o d : ℕ) (w : Fin 1024 → EReal) (hw : ∀ k, w k = _root_.In.padded (dat m c).w k (o + d)) :
    (∑ k : Fin 1024, (show EReal from (iblk m c 0 t : Vec Ideal S1x512x1024 .bf16) (ix3 0 r k)) * w k) = (dat m c).proj (batch t) (row (block t) r) o d :=
  Finset.sum_congr rfl fun k _ => congrArg₂ (· * ·) (iblk0 m c t r k) (hw k)

/-- A row block's product with a group of the weight's columns. -/
theorem group_at (c : Dev nD) (t : Fin cfg0.N) (X : Vec Ideal S1x512x1024 .bf16) (hX : iblk m c 0 t = X) (W : Vec Ideal S1024x3200 .bf16) (hW : iblk m c 1 t = W)
    (o n : ℕ) (h : o + n ≤ 3200) (inb : ∀ a, (![0, o] : Fin 2 → ℕ) a + (![1024, n] : Fin 2 → ℕ) a ≤ S1024x3200.size a) (r : Fin 512) (d : Fin n) :
    (∑ k : Fin 1024, (X (ix3 0 r k) : EReal) * (View.ld W (Rect.unit (s := S1024x3200) ![0, o] ![1024, n] inb) : (⟨2, ![1024, n]⟩ : Shape).Idx → Elt Ideal .bf16) (ix2 k d))
      = (dat m c).proj (batch t) (row (block t) r) o d.val := by
  subst hX hW
  exact Finset.sum_congr rfl fun k _ => congrArg₂ (· * ·) (iblk0 m c t r k) ((load_at _ o n h inb k d).trans (iblk1 m c t k _))

/-- The projection at equal coordinates. -/
theorem at_point (c : Dev nD) (o : ℕ) {b b' : Fin 4} {s s' : Fin 4096} {d d' : ℕ} (hb : b.val = b'.val) (hs : s.val = s'.val) (hd : d = d') :
    (dat m c).proj b s o d = (dat m c).proj b' s' o d' := by
  rw [Fin.ext hb, Fin.ext hs, hd]

theorem idx3 : ∀ t : Fin cfg0.N, win0_3.index t 0 = t.val / 8 ∧ win0_3.index t 1 = t.val % 8 ∧ win0_3.index t 2 = 0 := by decide +kernel
/-- The kernel's first result: the queries, scaled. -/
theorem result0 (c : Dev nD) :
    ((dats m 0 c).arrAt 3 cfg0.N : Vec Ideal S4x4096x512 .bf16) = fun i => (dat m c).proj (i 0) (i 1) 0 (i 2).val * _root_.In.scale := by
  refine (dats m 0 c).arrAt_eq_of_covers 3 _ (by decide +kernel) fun t hf y => ?_
  have hi := idx3 t
  blk_simp
  rw [after0_3]
  frame_out
  revert y
  intro (y : S1x512x512.Idx)
  idx_vars y
  obtain rfl : y0 = 0 := Subsingleton.elim _ _
  refine (pay7_at _ _ y1 y2).trans ?_
  refine congrArg (· * _root_.In.scale) ?_
  refine (group_at m c t _ rfl _ rfl 0 512 (by omega) _ y1 y2).trans (at_point m c 0 ?_ ?_ ?_)
  · show t.val / 8 = win0_3.index t 0 * 1 + 1 * 0; rw [hi.1]; omega
  · show 512 * (t.val % 8) + y1.val = win0_3.index t 1 * 512 + 1 * y1.val; rw [hi.2.1]; omega
  · show y2.val = win0_3.index t 2 * 512 + y2.val; rw [hi.2.2]; omega

theorem idx4 : ∀ t : Fin cfg0.N, win0_4.index t 0 = t.val / 8 ∧ win0_4.index t 1 = t.val % 8 ∧ win0_4.index t 2 = 0 := by decide +kernel
/-- The kernel's second result: the keys. -/
theorem result1 (c : Dev nD) :
    ((dats m 0 c).arrAt 4 cfg0.N : Vec Ideal S4x4096x512 .bf16) = fun i => (dat m c).proj (i 0) (i 1) 512 (i 2).val := by
  refine (dats m 0 c).arrAt_eq_of_covers 4 _ (by decide +kernel) fun t hf y => ?_
  have hi := idx4 t
  blk_simp
  rw [after0_4]
  frame_out
  revert y
  intro (y : S1x512x512.Idx)
  idx_vars y
  obtain rfl : y0 = 0 := Subsingleton.elim _ _
  refine (pay8_at _ _ y1 y2).trans ?_
  refine (group_at m c t _ rfl _ rfl 512 512 (by omega) _ y1 y2).trans (at_point m c 512 ?_ ?_ ?_)
  · show t.val / 8 = win0_4.index t 0 * 1 + 1 * 0; rw [hi.1]; omega
  · show 512 * (t.val % 8) + y1.val = win0_4.index t 1 * 512 + 1 * y1.val; rw [hi.2.1]; omega
  · show y2.val = win0_4.index t 2 * 512 + y2.val; rw [hi.2.2]; omega

theorem idx5 : ∀ t : Fin cfg0.N, win0_5.index t 0 = t.val / 8 ∧ win0_5.index t 1 = 0 ∧ win0_5.index t 2 = t.val % 8 := by decide +kernel
/-- The kernel's third result: the values, transposed. -/
theorem result2 (c : Dev nD) :
    ((dats m 0 c).arrAt 5 cfg0.N : Vec Ideal S4x512x4096 .bf16) = fun i => (dat m c).proj (i 0) (i 2) 1024 (i 1).val := by
  refine (dats m 0 c).arrAt_eq_of_covers 5 _ (by decide +kernel) fun t hf y => ?_
  have hi := idx5 t
  blk_simp
  rw [after0_5]
  frame_out
  revert y
  intro (y : S1x512x512.Idx)
  idx_vars y
  obtain rfl : y0 = 0 := Subsingleton.elim _ _
  refine (pay9_at _ _ y1 y2).trans ?_
  refine (Finset.sum_congr rfl fun k _ => (mul_comm _ _).trans (congrArg₂ (fun a b : EReal => a * b) (iblk0 m c t y2 k) (iblk2 m c t y1 k))).trans (at_point m c 1024 (d := y1.val) ?_ ?_ ?_)
  · show t.val / 8 = win0_5.index t 0 * 1 + 1 * 0; rw [hi.1]; omega
  · show 512 * (t.val % 8) + y2.val = win0_5.index t 2 * 512 + 1 * y2.val; rw [hi.2.2]; omega
  · show y1.val = win0_5.index t 1 * 512 + y1.val; rw [hi.2.1]; omega

theorem idx6 : ∀ t : Fin cfg0.N, win0_6.index t 0 = t.val / 8 ∧ win0_6.index t 1 = t.val % 8 ∧ win0_6.index t 2 = 0 := by decide +kernel
/-- The kernel's fourth result: the gated queries. -/
theorem result3 (c : Dev nD) :
    ((dats m 0 c).arrAt 6 cfg0.N : Vec Ideal S4x4096x256 .f32) = fun i => (dat m c).proj (i 0) (i 1) 1536 (i 2).val := by
  refine (dats m 0 c).arrAt_eq_of_covers 6 _ (by decide +kernel) fun t hf y => ?_
  have hi := idx6 t
  blk_simp
  rw [after0_6]
  frame_out
  revert y
  intro (y : S1x512x256.Idx)
  idx_vars y
  obtain rfl : y0 = 0 := Subsingleton.elim _ _
  refine (pay1_at _ _ y1 y2).trans ?_
  refine (group_at m c t _ rfl _ rfl 1536 256 (by omega) _ y1 y2).trans (at_point m c 1536 ?_ ?_ ?_)
  · show t.val / 8 = win0_6.index t 0 * 1 + 1 * 0; rw [hi.1]; omega
  · show 512 * (t.val % 8) + y1.val = win0_6.index t 1 * 512 + 1 * y1.val; rw [hi.2.1]; omega
  · show y2.val = win0_6.index t 2 * 256 + y2.val; rw [hi.2.2]; omega

theorem idx7 : ∀ t : Fin cfg0.N, win0_7.index t 0 = t.val / 8 ∧ win0_7.index t 1 = t.val % 8 ∧ win0_7.index t 2 = 0 := by decide +kernel
/-- The kernel's fifth result: the gated keys. -/
theorem result4 (c : Dev nD) :
    ((dats m 0 c).arrAt 7 cfg0.N : Vec Ideal S4x4096x256 .f32) = fun i => (dat m c).proj (i 0) (i 1) 1792 (i 2).val := by
  refine (dats m 0 c).arrAt_eq_of_covers 7 _ (by decide +kernel) fun t hf y => ?_
  have hi := idx7 t
  blk_simp
  rw [after0_7]
  frame_out
  unfold k0_pay11
  frame_out
  revert y
  intro (y : S1x512x256.Idx)
  idx_vars y
  obtain rfl : y0 = 0 := Subsingleton.elim _ _
  refine (pay2_at _ _ y1 y2).trans ?_
  refine (group_at m c t _ rfl _ rfl 1792 256 (by omega) _ y1 y2).trans (at_point m c 1792 ?_ ?_ ?_)
  · show t.val / 8 = win0_7.index t 0 * 1 + 1 * 0; rw [hi.1]; omega
  · show 512 * (t.val % 8) + y1.val = win0_7.index t 1 * 512 + 1 * y1.val; rw [hi.2.1]; omega
  · show y2.val = win0_7.index t 2 * 256 + y2.val; rw [hi.2.2]; omega

theorem idx8 : ∀ t : Fin cfg0.N, win0_8.index t 0 = t.val / 8 ∧ win0_8.index t 1 = t.val % 8 ∧ win0_8.index t 2 = 0 := by decide +kernel
/-- The kernel's sixth result: the gated values. -/
theorem result5 (c : Dev nD) :
    ((dats m 0 c).arrAt 8 cfg0.N : Vec Ideal S4x4096x512 .f32) = fun i => (dat m c).proj (i 0) (i 1) 2048 (i 2).val := by
  refine (dats m 0 c).arrAt_eq_of_covers 8 _ (by decide +kernel) fun t hf y => ?_
  have hi := idx8 t
  blk_simp
  rw [after0_8]
  frame_out
  unfold k0_pay11
  frame_out
  revert y
  intro (y : S1x512x512.Idx)
  idx_vars y
  obtain rfl : y0 = 0 := Subsingleton.elim _ _
  refine (pay3_at _ _ y1 y2).trans ?_
  refine (group_at m c t _ rfl _ rfl 2048 512 (by omega) _ y1 y2).trans (at_point m c 2048 ?_ ?_ ?_)
  · show t.val / 8 = win0_8.index t 0 * 1 + 1 * 0; rw [hi.1]; omega
  · show 512 * (t.val % 8) + y1.val = win0_8.index t 1 * 512 + 1 * y1.val; rw [hi.2.1]; omega
  · show y2.val = win0_8.index t 2 * 512 + y2.val; rw [hi.2.2]; omega

theorem idx9 : ∀ t : Fin cfg0.N, win0_9.index t 0 = t.val / 8 ∧ win0_9.index t 1 = t.val % 8 ∧ win0_9.index t 2 = 0 := by decide +kernel
/-- The kernel's seventh result: the output gates. -/
theorem result6 (c : Dev nD) :
    ((dats m 0 c).arrAt 9 cfg0.N : Vec Ideal S4x4096x512 .f32) = fun i => (dat m c).proj (i 0) (i 1) 2560 (i 2).val := by
  refine (dats m 0 c).arrAt_eq_of_covers 9 _ (by decide +kernel) fun t hf y => ?_
  have hi := idx9 t
  blk_simp
  rw [after0_9]
  frame_out
  unfold k0_pay11
  frame_out
  revert y
  intro (y : S1x512x512.Idx)
  idx_vars y
  obtain rfl : y0 = 0 := Subsingleton.elim _ _
  refine (pay4_at _ _ y1 y2).trans ?_
  refine (group_at m c t _ rfl _ rfl 2560 512 (by omega) _ y1 y2).trans (at_point m c 2560 ?_ ?_ ?_)
  · show t.val / 8 = win0_9.index t 0 * 1 + 1 * 0; rw [hi.1]; omega
  · show 512 * (t.val % 8) + y1.val = win0_9.index t 1 * 512 + 1 * y1.val; rw [hi.2.1]; omega
  · show y2.val = win0_9.index t 2 * 512 + y2.val; rw [hi.2.2]; omega

theorem idx10 : ∀ t : Fin cfg0.N, win0_10.index t 0 = t.val / 8 ∧ win0_10.index t 1 = t.val % 8 ∧ win0_10.index t 2 = 0 := by decide +kernel
/-- The kernel's eighth result: the decays' low-rank rows, padded. -/
theorem result7 (c : Dev nD) :
    ((dats m 0 c).arrAt 10 cfg0.N : Vec Ideal S4x4096x128 .f32) = fun i => (dat m c).proj (i 0) (i 1) 3072 (i 2).val := by
  refine (dats m 0 c).arrAt_eq_of_covers 10 _ (by decide +kernel) fun t hf y => ?_
  have hi := idx10 t
  blk_simp
  rw [after0_10]
  frame_out
  unfold k0_pay11
  frame_out
  revert y
  intro (y : S1x512x128.Idx)
  idx_vars y
  obtain rfl : y0 = 0 := Subsingleton.elim _ _
  refine (pay5_at _ _ y1 y2).trans ?_
  refine (group_at m c t _ rfl _ rfl 3072 128 (by omega) _ y1 y2).trans (at_point m c 3072 ?_ ?_ ?_)
  · show t.val / 8 = win0_10.index t 0 * 1 + 1 * 0; rw [hi.1]; omega
  · show 512 * (t.val % 8) + y1.val = win0_10.index t 1 * 512 + 1 * y1.val; rw [hi.2.1]; omega
  · show y2.val = win0_10.index t 2 * 128 + y2.val; rw [hi.2.2]; omega

end Cert.Kernel5Ideal.In
-- ==== Proof.InRef.lean ====
module
public import proofs.«01_k».proof.Proof.InMath
public import proofs.«01_k».proof.Proof.Gen.Reference5Ideal.Run
public import Idealize.ShloMosaic.Lib.StableHlo.ReadAt
public import Idealize.ShloMosaic.Lib.Claim
@[expose] public section
set_option maxRecDepth 16384
noncomputable section
namespace Cert.Reference5Ideal.In
open Cert.Reference5Ideal Cert.Reference5Ideal.Gen Cert.Reference5Ideal.Value
open Idealize.ShloMosaic Idealize.ShloMosaic.TcCoe Idealize.SL.Sem
open Idealize.ShloMosaic.StableHlo

variable (m : (ℓ : Loc nD τ sig) → Buf (Elt Ideal) ℓ)

/-- What the projection reads, from the reference's arguments. -/
def dat (c : Dev nD) : _root_.In.Dat where
  h b s k := (m ((c : Thread nD τ).loc main_arg0) : Vec Ideal S4x4096x1024 .bf16) (ix3 b s k)
  w k n := (m ((c : Thread nD τ).loc main_arg1) : Vec Ideal S1024x3088 .f32) (ix2 k n)

/-- A column of the whole product. -/
theorem prod_at (H : FVec Ideal S4x4096x1024 .bf16) (W : FVec Ideal S1024x3088 .f32) (b : Fin 4) (s : Fin 4096) (n : Fin 3088) :
    (Host.dotGeneral (F := Ideal) (φ₂ := .f32) dot_S4x4096x1024_S1024x3088_S4x4096x3088_2_0_01_1_n_n none (extf .f32 H bitsLt_bf16_f32) W (ix3 b s n) : EReal)
      = ∑ k : Fin 1024, (H (ix3 b s k) : EReal) * W (ix2 k n) := by
  pointwise

/-- The whole product of the reference's arguments. -/
abbrev prod (c : Dev nD) : FVec Ideal S4x4096x3088 .f32 :=
  Host.dotGeneral (F := Ideal) (φ₂ := .f32) dot_S4x4096x1024_S1024x3088_S4x4096x3088_2_0_01_1_n_n none
    (extf .f32 (m ((c : Thread nD τ).loc main_arg0) : FVec Ideal S4x4096x1024 .bf16) bitsLt_bf16_f32) (m ((c : Thread nD τ).loc main_arg1) : FVec Ideal S1024x3088 .f32)

/-- A column of it, as column `d` of the group from column `o` on. -/
theorem col_at (c : Dev nD) (b : Fin 4) (s : Fin 4096) (o d : ℕ) (h : o + d < 3088) : (prod m c (ix3 b s ⟨o + d, h⟩) : EReal) = (dat m c).proj b s o d :=
  (prod_at _ _ b s _).trans ((dat m c).proj_of_lt b s o d h).symm

/-! The slices of a product `P`, as the reference leaves them. -/
theorem mq_at (P : FVec Ideal S4x4096x3088 .f32) (b : Fin 4) (s : Fin 4096) (d : Fin 512) :
    (truncf (F := Ideal) .bf16 (mulf (extractStridedSlice S4x4096x512 ![0, 0, 0] P slices_S4x4096x3088_S4x4096x512_0_0_0) (broadcastInDim S4x4096x512 ![] bcast_S_S4x4096x512 (constant S_ .f32 0x3E38AA3B#32))) bitsLt_bf16_f32 (ix3 b s d) : EReal)
      = P (ix3 b s ⟨0 + d.val, by omega⟩) * _root_.In.scale := by
  unfold _root_.In.scale
  pointwise
theorem mk_at (P : FVec Ideal S4x4096x3088 .f32) (b : Fin 4) (s : Fin 4096) (d : Fin 512) :
    (truncf (F := Ideal) .bf16 (extractStridedSlice S4x4096x512 ![0, 0, 512] P slices_S4x4096x3088_S4x4096x512_0_0_512) bitsLt_bf16_f32 (ix3 b s d) : EReal)
      = P (ix3 b s ⟨512 + d.val, by omega⟩) := by
  pointwise
theorem mv_at (P : FVec Ideal S4x4096x3088 .f32) (b : Fin 4) (d : Fin 512) (s : Fin 4096) :
    (truncf (F := Ideal) .bf16 (transpose S4x512x4096 [0, 2, 1] (extractStridedSlice S4x4096x512 ![0, 0, 1024] P slices_S4x4096x3088_S4x4096x512_0_0_1024) transposes_S4x4096x512_S4x512x4096_0_2_1) bitsLt_bf16_f32 (ix3 b d s) : EReal)
      = P (ix3 b s ⟨1024 + d.val, by omega⟩) := by
  pointwise
theorem gq_at (P : FVec Ideal S4x4096x3088 .f32) (b : Fin 4) (s : Fin 4096) (d : Fin 256) :
    (extractStridedSlice S4x4096x256 ![0, 0, 1536] P slices_S4x4096x3088_S4x4096x256_0_0_1536 (ix3 b s d) : EReal)
      = P (ix3 b s ⟨1536 + d.val, by omega⟩) := by
  pointwise
theorem gk_at (P : FVec Ideal S4x4096x3088 .f32) (b : Fin 4) (s : Fin 4096) (d : Fin 256) :
    (extractStridedSlice S4x4096x256 ![0, 0, 1792] P slices_S4x4096x3088_S4x4096x256_0_0_1792 (ix3 b s d) : EReal)
      = P (ix3 b s ⟨1792 + d.val, by omega⟩) := by
  pointwise
theorem gv_at (P : FVec Ideal S4x4096x3088 .f32) (b : Fin 4) (s : Fin 4096) (d : Fin 512) :
    (extractStridedSlice S4x4096x512 ![0, 0, 2048] P slices_S4x4096x3088_S4x4096x512_0_0_2048 (ix3 b s d) : EReal)
      = P (ix3 b s ⟨2048 + d.val, by omega⟩) := by
  pointwise
theorem gr_at (P : FVec Ideal S4x4096x3088 .f32) (b : Fin 4) (s : Fin 4096) (d : Fin 512) :
    (extractStridedSlice S4x4096x512 ![0, 0, 2560] P slices_S4x4096x3088_S4x4096x512_0_0_2560 (ix3 b s d) : EReal)
      = P (ix3 b s ⟨2560 + d.val, by omega⟩) := by
  pointwise
theorem glr_at (P : FVec Ideal S4x4096x3088 .f32) (b : Fin 4) (s : Fin 4096) (d : Fin 128) :
    (pad S4x4096x128 ![0, 0, 0] ![0, 0, 112] ![0, 0, 0] (extractStridedSlice S4x4096x16 ![0, 0, 3072] P slices_S4x4096x3088_S4x4096x16_0_0_3072) (sitofp (F := Ideal) .f32 (constantI S_ 32 0#32)) pads_S4x4096x16_S4x4096x128_000_000_01120 h_S_ (ix3 b s d) : EReal)
      = if h : 3072 + d.val < 3088 then (P (ix3 b s ⟨3072 + d.val, h⟩) : EReal) else 0 := by
  pointwise
  by_cases h : d.val < 16
  · rw [dif_pos h, dif_pos (by omega)]
  · rw [dif_neg h, dif_neg (by omega)]
    exact _root_.In.pad_zero
end Cert.Reference5Ideal.In
-- ==== Proof.InClaim.lean ====
module
public import proofs.«01_k».proof.Defs
public import proofs.«01_k».proof.Proof.Gen.Kernel5.Frame
public import proofs.«01_k».proof.Proof.InKernel
public import proofs.«01_k».proof.Proof.InRef
public import Idealize.ShloMosaic.Adequacy
public import Idealize.ShloMosaic.Init
public import Idealize.ShloMosaic.Lib.Quiescent
@[expose] public section
noncomputable section
namespace Cert.Proof
open Idealize.ShloMosaic Idealize.SL.Sem
open Cert.Reference5Ideal.In

theorem quiescent_Reference5Ideal : quiescent_Reference5Ideal := fun m ρ _ =>
  (θ_run Cert.Reference5Ideal.defs _ _).mono (fun r h => ⟨fun c => (h c).2.2.2.2.2.2.2.2, sem_eq_zero_of_no_sems (by decide) r.2⟩)
    (Cert.Reference5Ideal.Value.run (F := Ideal) m ρ)

/-- The even layers' input projection: kernel and reference leave the same eight results, from memories that agree on the arguments. -/
theorem algebraic_Kernel5Ideal_Reference5Ideal : algebraic_Kernel5Ideal_Reference5Ideal := by
  intro m ρ m' ρ' _ hagree
  refine ⟨_, _, _, _, _, _, _, _, Cert.Kernel5Ideal.Value.run_blocks (F := Ideal) m ρ, ?_⟩
  refine (θ_run Cert.Reference5Ideal.defs _ _).mono (fun _ h c => ?_) (Cert.Reference5Ideal.Value.run (F := Ideal) m' ρ')
  have hD : dat m' c = Cert.Kernel5Ideal.In.dat m c := by
    obtain ⟨h0, h1⟩ := hagree c
    unfold dat Cert.Kernel5Ideal.In.dat
    rw [h0, h1]
  have hcol := col_at m' c
  rw [hD] at hcol
  obtain ⟨h0, h1, h2, h3, h4, h5, h6, h7, hargs⟩ := h c
  refine ⟨h0.trans (Eq.trans ?_ (Cert.Kernel5Ideal.In.result0 m c).symm), h1.trans (Eq.trans ?_ (Cert.Kernel5Ideal.In.result1 m c).symm),
    h2.trans (Eq.trans ?_ (Cert.Kernel5Ideal.In.result2 m c).symm), h3.trans (Eq.trans ?_ (Cert.Kernel5Ideal.In.result3 m c).symm),
    h4.trans (Eq.trans ?_ (Cert.Kernel5Ideal.In.result4 m c).symm), h5.trans (Eq.trans ?_ (Cert.Kernel5Ideal.In.result5 m c).symm),
    h6.trans (Eq.trans ?_ (Cert.Kernel5Ideal.In.result6 m c).symm), h7.trans (Eq.trans ?_ (Cert.Kernel5Ideal.In.result7 m c).symm), hargs⟩
  all_goals
    funext i
    idx_vars i
  · exact (mq_at (prod m' c) i0 i1 i2).trans (congrArg (· * _root_.In.scale) (hcol i0 i1 0 i2.val _))
  · exact (mk_at (prod m' c) i0 i1 i2).trans (hcol i0 i1 512 i2.val _)
  · exact (mv_at (prod m' c) i0 i1 i2).trans (hcol i0 i2 1024 i1.val _)
  · exact (gq_at (prod m' c) i0 i1 i2).trans (hcol i0 i1 1536 i2.val _)
  · exact (gk_at (prod m' c) i0 i1 i2).trans (hcol i0 i1 1792 i2.val _)
  · exact (gv_at (prod m' c) i0 i1 i2).trans (hcol i0 i1 2048 i2.val _)
  · exact (gr_at (prod m' c) i0 i1 i2).trans (hcol i0 i1 2560 i2.val _)
  · refine (glr_at (prod m' c) i0 i1 i2).trans ?_
    by_cases hd : 3072 + i2.val < 3088
    · exact (dif_pos hd).trans (hcol i0 i1 3072 i2.val hd)
    · exact (dif_neg hd).trans ((Cert.Kernel5Ideal.In.dat m c).proj_of_ge i0 i1 3072 i2.val hd).symm
end Cert.Proof
-- ==== Proof.lean ====
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Gen.Kernel2.Frame
public import proofs.«01_k».proof.Proof.Gen.Kernel2Ideal.Frame
public import proofs.«01_k».proof.Proof.Gen.Reference2Ideal.Run
public import proofs.«01_k».proof.Proof.Gen.Kernel3.Frame
public import proofs.«01_k».proof.Proof.Gen.Kernel3Ideal.Frame
public import proofs.«01_k».proof.Proof.Gen.Reference3Ideal.Run
public import proofs.«01_k».proof.Proof.Gen.Kernel3Ideal.Value
public import proofs.«01_k».proof.Proof.Gen.Kernel4.Frame
public import proofs.«01_k».proof.Proof.Gen.Kernel4Ideal.Frame
public import proofs.«01_k».proof.Proof.Gen.Reference4Ideal.Run
public import proofs.«01_k».proof.Proof.Gen.Kernel4Ideal.Value
public import proofs.«01_k».proof.Proof.Gen.Kernel5.Frame
public import proofs.«01_k».proof.Proof.Gen.Kernel5Ideal.Frame
public import proofs.«01_k».proof.Proof.Gen.Reference5Ideal.Run
public import proofs.«01_k».proof.Proof.Gen.Kernel5Ideal.Value
public import proofs.«01_k».proof.Proof.GlaKernel
public import proofs.«01_k».proof.Proof.GlaRefLoop
public import proofs.«01_k».proof.Proof.MoeClaim
public import proofs.«01_k».proof.Proof.FfnClaim
public import proofs.«01_k».proof.Proof.OutClaim
public import proofs.«01_k».proof.Proof.InClaim
public import Idealize.ShloMosaic.Adequacy
public import Idealize.ShloMosaic.Init
public import Idealize.ShloMosaic.Lib.Quiescent
public import Idealize.ShloMosaic.Lib.Tactic.ValueTie

@[expose] public section

noncomputable section

namespace Cert.Proof

open Idealize.ShloMosaic Idealize.SL.Sem

theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The GLA mixer: kernel and reference leave the same result, from memories that agree on the arguments. -/
theorem algebraic_KernelIdeal_ReferenceIdeal : algebraic_KernelIdeal_ReferenceIdeal := by
  intro m ρ m' ρ' _ hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1]
  have hD : Cert.ReferenceIdeal.Gla.dat m' c = Cert.KernelIdeal.Gla.dat m c := by
    obtain ⟨h0, h1, h2, h3, h4, h5, h6, h7⟩ := hagree c
    unfold Cert.ReferenceIdeal.Gla.dat Cert.KernelIdeal.Gla.dat Cert.ReferenceIdeal.Gla.A0 Cert.ReferenceIdeal.Gla.A1 Cert.ReferenceIdeal.Gla.A2 Cert.ReferenceIdeal.Gla.A3
      Cert.ReferenceIdeal.Gla.A4 Cert.ReferenceIdeal.Gla.A5 Cert.ReferenceIdeal.Gla.A6 Cert.ReferenceIdeal.Gla.A7
    rw [h0, h1, h2, h3, h4, h5, h6, h7]
  funext i
  idx_vars i
  have hp : i1 = _root_.Gla.pos ⟨i1.val / 64, by omega⟩ ⟨i1.val % 64, by omega⟩ := Fin.ext (by show i1.val = 64 * (i1.val / 64) + i1.val % 64; omega)
  rw [hp]
  exact (Cert.ReferenceIdeal.Gla.result_at m' c _ i0 _ i2).trans (hD ▸ (Cert.KernelIdeal.Gla.result_at m c _ i0 _ i2).symm)

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts, Cert.Pre_expert_named.facts,
  fun m ρ _ => Cert.Kernel.Gen.frame m ρ, fun m ρ _ => Cert.KernelIdeal.Gen.frame m ρ, quiescent_ReferenceIdeal,
  quiescent_Kernel2, quiescent_Kernel2Ideal, quiescent_Reference2Ideal, quiescent_Reference2Ideal_pre_expert_named,
  fun m ρ _ => Cert.Kernel3.Gen.frame m ρ, fun m ρ _ => Cert.Kernel3Ideal.Gen.frame m ρ, quiescent_Reference3Ideal,
  fun m ρ _ => Cert.Kernel4.Gen.frame m ρ, fun m ρ _ => Cert.Kernel4Ideal.Gen.frame m ρ, quiescent_Reference4Ideal,
  fun m ρ _ => Cert.Kernel5.Gen.frame m ρ, fun m ρ _ => Cert.Kernel5Ideal.Gen.frame m ρ, quiescent_Reference5Ideal,
  (trivial : preserves_Kernel_KernelIdeal), algebraic_KernelIdeal_ReferenceIdeal,
  (trivial : preserves_Kernel2_Kernel2Ideal), algebraic_Kernel2Ideal_Reference2Ideal,
  (trivial : preserves_Kernel3_Kernel3Ideal), algebraic_Kernel3Ideal_Reference3Ideal,
  (trivial : preserves_Kernel4_Kernel4Ideal), algebraic_Kernel4Ideal_Reference4Ideal,
  (trivial : preserves_Kernel5_Kernel5Ideal), algebraic_Kernel5Ideal_Reference5Ideal⟩

end Cert.Proof

end
